-- ==== Defs.lean ====
def Pre_Whole (m : (ℓ : Loc Cert.Whole.nD Cert.Whole.τ Cert.Whole.sig) → Buf (Elt Bits) ℓ) : Prop :=
  True

def Pre_WholeIdeal (m : (ℓ : Loc Cert.WholeIdeal.nD Cert.WholeIdeal.τ Cert.WholeIdeal.sig) → Buf (Elt Ideal) ℓ) : Prop :=
  True

def Pre_WholeIdeal_first_in_range [hPre_first_in_range : Cert.Pre_first_in_range.Facts] (m : (ℓ : Loc Cert.WholeIdeal.nD Cert.WholeIdeal.τ Cert.WholeIdeal.sig) → Buf (Elt Ideal) ℓ) : Prop :=
  ∀ c : Dev Cert.WholeIdeal.nD,
    (Cert.Pre_first_in_range.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2))) = (fun _ => 1#1)

def Pre_WholeReferenceIdeal (m : (ℓ : Loc Cert.WholeReferenceIdeal.nD Cert.WholeReferenceIdeal.τ Cert.WholeReferenceIdeal.sig) → Buf (Elt Ideal) ℓ) : Prop :=
  True

def Pre_WholeReferenceIdeal_first_in_range [hPre_first_in_range : Cert.Pre_first_in_range.Facts] (m : (ℓ : Loc Cert.WholeReferenceIdeal.nD Cert.WholeReferenceIdeal.τ Cert.WholeReferenceIdeal.sig) → Buf (Elt Ideal) ℓ) : Prop :=
  ∀ c : Dev Cert.WholeReferenceIdeal.nD,
    (Cert.Pre_first_in_range.fn (F := Ideal) (m ((c.tc : Thread Cert.WholeReferenceIdeal.nD Cert.WholeReferenceIdeal.τ).loc Cert.WholeReferenceIdeal.main_arg0)) (m ((c.tc : Thread Cert.WholeReferenceIdeal.nD Cert.WholeReferenceIdeal.τ).loc Cert.WholeReferenceIdeal.main_arg1)) (m ((c.tc : Thread Cert.WholeReferenceIdeal.nD Cert.WholeReferenceIdeal.τ).loc Cert.WholeReferenceIdeal.main_arg2))) = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_centres_in_range [hPre_centres_in_range : Cert.Pre_centres_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_centres_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_centres_in_range [hPre_centres_in_range : Cert.Pre_centres_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_centres_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_start_in_range [hPre_start_in_range : Cert.Pre_start_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_start_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_start_in_range [hPre_start_in_range : Cert.Pre_start_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_start_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))) = (fun _ => 1#1)

def quiescent_Whole [hWhole : Cert.Whole.Facts] : Prop :=
  ∀ (m : (ℓ : Loc Cert.Whole.nD Cert.Whole.τ Cert.Whole.sig) → Buf (Elt Bits) ℓ) (g : Dev Cert.Whole.nD → PrngReg), Pre_Whole m →
    θ_run (Cert.Whole.defs (F := Bits)) (onTc (τ := Cert.Whole.τ) (Cert.Whole.main (F := Bits))) ⟨m, fun _ => 0, g⟩ (fun r => (∀ c : Dev Cert.Whole.nD,
      r.2.mem ((c.tc : Thread Cert.Whole.nD Cert.Whole.τ).loc Cert.Whole.main_arg0) = m ((c.tc : Thread Cert.Whole.nD Cert.Whole.τ).loc Cert.Whole.main_arg0)
      ∧ r.2.mem ((c.tc : Thread Cert.Whole.nD Cert.Whole.τ).loc Cert.Whole.main_arg1) = m ((c.tc : Thread Cert.Whole.nD Cert.Whole.τ).loc Cert.Whole.main_arg1)
      ∧ r.2.mem ((c.tc : Thread Cert.Whole.nD Cert.Whole.τ).loc Cert.Whole.main_arg2) = m ((c.tc : Thread Cert.Whole.nD Cert.Whole.τ).loc Cert.Whole.main_arg2))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2))
      ∧ r.2.sem = fun _ => 0)

def quiescent_WholeIdeal_pre_first_in_range [hWholeIdeal : Cert.WholeIdeal.Facts] [hPre_first_in_range : Cert.Pre_first_in_range.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal_first_in_range m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2))
      ∧ r.2.sem = fun _ => 0)

def quiescent_WholeReferenceIdeal [hWholeReferenceIdeal : Cert.WholeReferenceIdeal.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1)
      ∧ r.2.mem ((c.tc : Thread Cert.WholeReferenceIdeal.nD Cert.WholeReferenceIdeal.τ).loc Cert.WholeReferenceIdeal.main_arg2) = m ((c.tc : Thread Cert.WholeReferenceIdeal.nD Cert.WholeReferenceIdeal.τ).loc Cert.WholeReferenceIdeal.main_arg2))
      ∧ r.2.sem = fun _ => 0)

def quiescent_WholeReferenceIdeal_pre_first_in_range [hWholeReferenceIdeal : Cert.WholeReferenceIdeal.Facts] [hPre_first_in_range : Cert.Pre_first_in_range.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal_first_in_range m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1)
      ∧ r.2.mem ((c.tc : Thread Cert.WholeReferenceIdeal.nD Cert.WholeReferenceIdeal.τ).loc Cert.WholeReferenceIdeal.main_arg2) = m ((c.tc : Thread Cert.WholeReferenceIdeal.nD Cert.WholeReferenceIdeal.τ).loc Cert.WholeReferenceIdeal.main_arg2))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_centres_in_range [hKernel2Ideal : Cert.Kernel2Ideal.Facts] [hPre_centres_in_range : Cert.Pre_centres_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_centres_in_range m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_centres_in_range [hReference2Ideal : Cert.Reference2Ideal.Facts] [hPre_centres_in_range : Cert.Pre_centres_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_centres_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Kernel3Ideal_pre_start_in_range [hKernel3Ideal : Cert.Kernel3Ideal.Facts] [hPre_start_in_range : Cert.Pre_start_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_start_in_range m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Reference3Ideal_pre_start_in_range [hReference3Ideal : Cert.Reference3Ideal.Facts] [hPre_start_in_range : Cert.Pre_start_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_start_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def preserves_Whole_WholeIdeal : Prop :=
  True

def algebraic_WholeIdeal_WholeReferenceIdeal_pre_first_in_range [hWholeIdeal : Cert.WholeIdeal.Facts] [hWholeReferenceIdeal : Cert.WholeReferenceIdeal.Facts] [hPre_first_in_range : Cert.Pre_first_in_range.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.WholeReferenceIdeal.nD Cert.WholeReferenceIdeal.τ Cert.WholeReferenceIdeal.sig) → Buf (Elt Ideal) ℓ) (g' : Dev Cert.WholeReferenceIdeal.nD → PrngReg), Pre_WholeIdeal_first_in_range m →
    (∀ c : Dev Cert.WholeIdeal.nD,
      m' ((c.tc : Thread Cert.WholeReferenceIdeal.nD Cert.WholeReferenceIdeal.τ).loc Cert.WholeReferenceIdeal.main_arg0) = m ((c.tc : Thread Cert.WholeIdeal.nD Cert.WholeIdeal.τ).loc Cert.WholeIdeal.main_arg0)
      ∧ m' ((c.tc : Thread Cert.WholeReferenceIdeal.nD Cert.WholeReferenceIdeal.τ).loc Cert.WholeReferenceIdeal.main_arg1) = m ((c.tc : Thread Cert.WholeIdeal.nD Cert.WholeIdeal.τ).loc Cert.WholeIdeal.main_arg1)
      ∧ m' ((c.tc : Thread Cert.WholeReferenceIdeal.nD Cert.WholeReferenceIdeal.τ).loc Cert.WholeReferenceIdeal.main_arg2) = m ((c.tc : Thread Cert.WholeIdeal.nD Cert.WholeIdeal.τ).loc Cert.WholeIdeal.main_arg2)) →
    ∃ (v0 : (c : Dev Cert.WholeIdeal.nD) → Buf (Elt Ideal) ((c.tc : Thread Cert.WholeIdeal.nD Cert.WholeIdeal.τ).loc Cert.WholeIdeal.main_v19_1)) (v1 : (c : Dev Cert.WholeIdeal.nD) → Buf (Elt Ideal) ((c.tc : Thread Cert.WholeIdeal.nD Cert.WholeIdeal.τ).loc Cert.WholeIdeal.main_v21)),
      θ_run (Cert.WholeIdeal.defs (F := Ideal)) (onTc (τ := Cert.WholeIdeal.τ) (Cert.WholeIdeal.main (F := Ideal))) ⟨m, fun _ => 0, g⟩ (fun r => ∀ c : Dev Cert.WholeIdeal.nD,
          r.2.mem ((c.tc : Thread Cert.WholeIdeal.nD Cert.WholeIdeal.τ).loc Cert.WholeIdeal.main_v19_1) = v0 c
          ∧ r.2.mem ((c.tc : Thread Cert.WholeIdeal.nD Cert.WholeIdeal.τ).loc Cert.WholeIdeal.main_v21) = v1 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
          ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2))
      ∧ θ_run (Cert.WholeReferenceIdeal.defs (F := Ideal)) (onTc (τ := Cert.WholeReferenceIdeal.τ) (Cert.WholeReferenceIdeal.main (F := Ideal))) ⟨m', fun _ => 0, g'⟩ (fun r => ∀ c : Dev Cert.WholeReferenceIdeal.nD,
          r.2.mem ((c.tc : Thread Cert.WholeReferenceIdeal.nD Cert.WholeReferenceIdeal.τ).loc Cert.WholeReferenceIdeal.main_v20) = v0 c
          ∧ r.2.mem ((c.tc : Thread Cert.WholeReferenceIdeal.nD Cert.WholeReferenceIdeal.τ).loc Cert.WholeReferenceIdeal.main_v105) = v1 c
          ∧ r.2.mem ((c.tc : Thread Cert.WholeReferenceIdeal.nD Cert.WholeReferenceIdeal.τ).loc Cert.WholeReferenceIdeal.main_arg0) = m' ((c.tc : Thread Cert.WholeReferenceIdeal.nD Cert.WholeReferenceIdeal.τ).loc Cert.WholeReferenceIdeal.main_arg0)
          ∧ r.2.mem ((c.tc : Thread Cert.WholeReferenceIdeal.nD Cert.WholeReferenceIdeal.τ).loc Cert.WholeReferenceIdeal.main_arg1) = m' ((c.tc : Thread Cert.WholeReferenceIdeal.nD Cert.WholeReferenceIdeal.τ).loc Cert.WholeReferenceIdeal.main_arg1)
          ∧ r.2.mem ((c.tc : Thread Cert.WholeReferenceIdeal.nD Cert.WholeReferenceIdeal.τ).loc Cert.WholeReferenceIdeal.main_arg2) = m' ((c.tc : Thread Cert.WholeReferenceIdeal.nD Cert.WholeReferenceIdeal.τ).loc Cert.WholeReferenceIdeal.main_arg2))

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_centres_in_range [hKernel2Ideal : Cert.Kernel2Ideal.Facts] [hReference2Ideal : Cert.Reference2Ideal.Facts] [hPre_centres_in_range : Cert.Pre_centres_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_centres_in_range m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_start_in_range [hKernel3Ideal : Cert.Kernel3Ideal.Facts] [hReference3Ideal : Cert.Reference3Ideal.Facts] [hPre_start_in_range : Cert.Pre_start_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_start_in_range m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3_4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def Claim : Prop :=
  ∃ (hWhole : Cert.Whole.Facts) (hWholeIdeal : Cert.WholeIdeal.Facts) (hWholeReferenceIdeal : Cert.WholeReferenceIdeal.Facts) (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_first_in_range : Cert.Pre_first_in_range.Facts) (hPre_in_range : Cert.Pre_in_range.Facts) (hPre_centres_in_range : Cert.Pre_centres_in_range.Facts) (hPre_start_in_range : Cert.Pre_start_in_range.Facts),
    quiescent_Whole (hWhole := hWhole)
    ∧ quiescent_WholeIdeal (hWholeIdeal := hWholeIdeal)
    ∧ quiescent_WholeIdeal_pre_first_in_range (hWholeIdeal := hWholeIdeal) (hPre_first_in_range := hPre_first_in_range)
    ∧ quiescent_WholeReferenceIdeal (hWholeReferenceIdeal := hWholeReferenceIdeal)
    ∧ quiescent_WholeReferenceIdeal_pre_first_in_range (hWholeReferenceIdeal := hWholeReferenceIdeal) (hPre_first_in_range := hPre_first_in_range)
    ∧ quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Kernel2 (hKernel2 := hKernel2)
    ∧ quiescent_Kernel2Ideal (hKernel2Ideal := hKernel2Ideal)
    ∧ quiescent_Kernel2Ideal_pre_centres_in_range (hKernel2Ideal := hKernel2Ideal) (hPre_centres_in_range := hPre_centres_in_range)
    ∧ quiescent_Reference2Ideal (hReference2Ideal := hReference2Ideal)
    ∧ quiescent_Reference2Ideal_pre_centres_in_range (hReference2Ideal := hReference2Ideal) (hPre_centres_in_range := hPre_centres_in_range)
    ∧ quiescent_Kernel3 (hKernel3 := hKernel3)
    ∧ quiescent_Kernel3Ideal (hKernel3Ideal := hKernel3Ideal)
    ∧ quiescent_Kernel3Ideal_pre_start_in_range (hKernel3Ideal := hKernel3Ideal) (hPre_start_in_range := hPre_start_in_range)
    ∧ quiescent_Reference3Ideal (hReference3Ideal := hReference3Ideal)
    ∧ quiescent_Reference3Ideal_pre_start_in_range (hReference3Ideal := hReference3Ideal) (hPre_start_in_range := hPre_start_in_range)
    ∧ preserves_Whole_WholeIdeal
    ∧ algebraic_WholeIdeal_WholeReferenceIdeal_pre_first_in_range (hWholeIdeal := hWholeIdeal) (hWholeReferenceIdeal := hWholeReferenceIdeal) (hPre_first_in_range := hPre_first_in_range)
    ∧ preserves_Kernel_KernelIdeal
    ∧ algebraic_KernelIdeal_ReferenceIdeal_pre_in_range (hKernelIdeal := hKernelIdeal) (hReferenceIdeal := hReferenceIdeal) (hPre_in_range := hPre_in_range)
    ∧ preserves_Kernel2_Kernel2Ideal
    ∧ algebraic_Kernel2Ideal_Reference2Ideal_pre_centres_in_range (hKernel2Ideal := hKernel2Ideal) (hReference2Ideal := hReference2Ideal) (hPre_centres_in_range := hPre_centres_in_range)
    ∧ preserves_Kernel3_Kernel3Ideal
    ∧ algebraic_Kernel3Ideal_Reference3Ideal_pre_start_in_range (hKernel3Ideal := hKernel3Ideal) (hReference3Ideal := hReference3Ideal) (hPre_start_in_range := hPre_start_in_range)
-- ==== Pre_centres_in_range.lean ====
abbrev S16x2048x3 : Shape := ⟨3, ![16, 2048, 3]⟩
abbrev S16x512x1 : Shape := ⟨3, ![16, 512, 1]⟩
abbrev S_ : Shape := ⟨0, ![]⟩

class Facts : Prop where
  bcast_S_S16x512x1 : S_.BroadcastsInDim S16x512x1 (![] : Fin 0 → Fin S16x512x1.rank)

variable [Facts]

def fn {F : FTy → Type} [FloatOps F] (main_arg0 : FVec F S16x2048x3 .f32) (main_arg1 : IVec S16x512x1 32) : IVec S16x512x1 1 :=
  let main_c : IVec S_ 32 := constantI S_ 32 0#32
  let main_v0 : IVec S16x512x1 32 := broadcastInDim S16x512x1 ![] bcast_S_S16x512x1 main_c
  let main_v1 : IVec S16x512x1 1 := cmpi .sge main_arg1 main_v0
  let main_c_0 : IVec S_ 32 := constantI S_ 32 2048#32
  let main_v2 : IVec S16x512x1 32 := broadcastInDim S16x512x1 ![] bcast_S_S16x512x1 main_c_0
  let main_v3 : IVec S16x512x1 1 := cmpi .slt main_arg1 main_v2
  let main_v4 : IVec S16x512x1 1 := andi main_v1 main_v3
  main_v4
-- ==== Pre_first_in_range.lean ====
abbrev S16x2048x3 : Shape := ⟨3, ![16, 2048, 3]⟩
abbrev S16x2048x256 : Shape := ⟨3, ![16, 2048, 256]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x2048x3 .f32) (main_arg1 : FVec F S16x2048x256 .f32) (main_arg2 : IVec S16 32) : IVec S16 1 :=
  let main_c : IVec S_ 32 := constantI S_ 32 0#32
  let main_v0 : IVec S16 32 := broadcastInDim S16 ![] bcast_S_S16 main_c
  let main_v1 : IVec S16 1 := cmpi .sge main_arg2 main_v0
  let main_c_0 : IVec S_ 32 := constantI S_ 32 2048#32
  let main_v2 : IVec S16 32 := broadcastInDim S16 ![] bcast_S_S16 main_c_0
  let main_v3 : IVec S16 1 := cmpi .slt main_arg2 main_v2
  let main_v4 : IVec S16 1 := andi main_v1 main_v3
  main_v4
-- ==== Pre_in_range.lean ====
abbrev S16x2048x256 : Shape := ⟨3, ![16, 2048, 256]⟩
abbrev S16x2048x3 : Shape := ⟨3, ![16, 2048, 3]⟩
abbrev S16x16384x1 : Shape := ⟨3, ![16, 16384, 1]⟩
abbrev S16x512x1 : Shape := ⟨3, ![16, 512, 1]⟩
abbrev S_ : Shape := ⟨0, ![]⟩

class Facts : Prop where
  bcast_S_S16x16384x1 : S_.BroadcastsInDim S16x16384x1 (![] : Fin 0 → Fin S16x16384x1.rank)
  bcast_S_S16x512x1 : S_.BroadcastsInDim S16x512x1 (![] : Fin 0 → Fin S16x512x1.rank)

variable [Facts]

def fn {F : FTy → Type} [FloatOps F] (main_arg0 : FVec F S16x2048x256 .f32) (main_arg1 : FVec F S16x2048x3 .f32) (main_arg2 : IVec S16x16384x1 32) (main_arg3 : IVec S16x512x1 32) : IVec S16x16384x1 1 × IVec S16x512x1 1 :=
  let main_c : IVec S_ 32 := constantI S_ 32 0#32
  let main_v0 : IVec S16x16384x1 32 := broadcastInDim S16x16384x1 ![] bcast_S_S16x16384x1 main_c
  let main_v1 : IVec S16x16384x1 1 := cmpi .sge main_arg2 main_v0
  let main_c_0 : IVec S_ 32 := constantI S_ 32 2048#32
  let main_v2 : IVec S16x16384x1 32 := broadcastInDim S16x16384x1 ![] bcast_S_S16x16384x1 main_c_0
  let main_v3 : IVec S16x16384x1 1 := cmpi .slt main_arg2 main_v2
  let main_v4 : IVec S16x16384x1 1 := andi main_v1 main_v3
  let main_c_1 : IVec S_ 32 := constantI S_ 32 0#32
  let main_v5 : IVec S16x512x1 32 := broadcastInDim S16x512x1 ![] bcast_S_S16x512x1 main_c_1
  let main_v6 : IVec S16x512x1 1 := cmpi .sge main_arg3 main_v5
  let main_c_2 : IVec S_ 32 := constantI S_ 32 2048#32
  let main_v7 : IVec S16x512x1 32 := broadcastInDim S16x512x1 ![] bcast_S_S16x512x1 main_c_2
  let main_v8 : IVec S16x512x1 1 := cmpi .slt main_arg3 main_v7
  let main_v9 : IVec S16x512x1 1 := andi main_v6 main_v8
  (main_v4, main_v9)
-- ==== Pre_start_in_range.lean ====
abbrev S16x2048x3 : Shape := ⟨3, ![16, 2048, 3]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x2048x3 .f32) (main_arg1 : IVec S16 32) : IVec S16 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 2048#32
  let main_v2 : IVec S16 32 := broadcastInDim S16 ![] bcast_S_S16 main_c_0
  let main_v3 : IVec S16 1 := cmpi .slt main_arg1 main_v2
  let main_v4 : IVec S16 1 := andi main_v1 main_v3
  main_v4
-- ==== Whole.lean ====
abbrev S16x2048x3 : Shape := ⟨3, ![16, 2048, 3]⟩
abbrev S16x2048x256 : Shape := ⟨3, ![16, 2048, 256]⟩
abbrev S16 : Shape := ⟨1, ![16]⟩
abbrev S3x16x2048 : Shape := ⟨3, ![3, 16, 2048]⟩
abbrev S1x16x2048 : Shape := ⟨3, ![1, 16, 2048]⟩
abbrev S16x2048 : Shape := ⟨2, ![16, 2048]⟩
abbrev S2048 : Shape := ⟨1, ![2048]⟩
abbrev S1x2048 : Shape := ⟨2, ![1, 2048]⟩
abbrev S16x1 : Shape := ⟨2, ![16, 1]⟩
abbrev S16x512 : Shape := ⟨2, ![16, 512]⟩
abbrev S16x1x2048 : Shape := ⟨3, ![16, 1, 2048]⟩
abbrev S16x512x1 : Shape := ⟨3, ![16, 512, 1]⟩
abbrev S16x512x32 : Shape := ⟨3, ![16, 512, 32]⟩
abbrev S16x512x3 : Shape := ⟨3, ![16, 512, 3]⟩
abbrev S1x1x2048 : Shape := ⟨3, ![1, 1, 2048]⟩
abbrev S1x2048x3 : Shape := ⟨3, ![1, 2048, 3]⟩
abbrev S1x512x1 : Shape := ⟨3, ![1, 512, 1]⟩
abbrev S1x512x32 : Shape := ⟨3, ![1, 512, 32]⟩
abbrev S1x512x3 : Shape := ⟨3, ![1, 512, 3]⟩
abbrev S512x1 : Shape := ⟨2, ![512, 1]⟩
abbrev S512x2048 : Shape := ⟨2, ![512, 2048]⟩
abbrev S512 : Shape := ⟨1, ![512]⟩
abbrev S512x3 : Shape := ⟨2, ![512, 3]⟩
abbrev S512x32 : Shape := ⟨2, ![512, 32]⟩
abbrev S16x16384x1 : Shape := ⟨3, ![16, 16384, 1]⟩
abbrev S16x16384x515 : Shape := ⟨3, ![16, 16384, 515]⟩
abbrev S1x2048x256 : Shape := ⟨3, ![1, 2048, 256]⟩
abbrev S1x1024x1 : Shape := ⟨3, ![1, 1024, 1]⟩
abbrev S1x32x1 : Shape := ⟨3, ![1, 32, 1]⟩
abbrev S1x1024x515 : Shape := ⟨3, ![1, 1024, 515]⟩
abbrev S1024x1 : Shape := ⟨2, ![1024, 1]⟩
abbrev S1024x2048 : Shape := ⟨2, ![1024, 2048]⟩
abbrev S2048x256 : Shape := ⟨2, ![2048, 256]⟩
abbrev S1024x256 : Shape := ⟨2, ![1024, 256]⟩
abbrev S2048x3 : Shape := ⟨2, ![2048, 3]⟩
abbrev S1024x3 : Shape := ⟨2, ![1024, 3]⟩
abbrev S32x1 : Shape := ⟨2, ![32, 1]⟩
abbrev S32x2048 : Shape := ⟨2, ![32, 2048]⟩
abbrev S32x256 : Shape := ⟨2, ![32, 256]⟩
abbrev S32x1x256 : Shape := ⟨3, ![32, 1, 256]⟩
abbrev S32x32x256 : Shape := ⟨3, ![32, 32, 256]⟩
abbrev S1024x515 : Shape := ⟨2, ![1024, 515]⟩

abbrev nBuf : Space → Nat
  | .hbm => 26
  | .vmem => 29
  | .smem => 0
  | _ => 0

abbrev bufTy : (tb : Table) → Fin (tcTables nBuf tb) → BufTy
  | .hbm, ⟨0, _⟩ => ⟨S16x2048x3, .f32⟩
  | .hbm, ⟨1, _⟩ => ⟨S16x2048x256, .f32⟩
  | .hbm, ⟨2, _⟩ => ⟨S16, .i32⟩
  | .hbm, ⟨3, _⟩ => ⟨S3x16x2048, .f32⟩
  | .hbm, ⟨4, _⟩ => ⟨S1x16x2048, .f32⟩
  | .hbm, ⟨5, _⟩ => ⟨S16x2048, .f32⟩
  | .hbm, ⟨6, _⟩ => ⟨S1x16x2048, .f32⟩
  | .hbm, ⟨7, _⟩ => ⟨S16x2048, .f32⟩
  | .hbm, ⟨8, _⟩ => ⟨S1x16x2048, .f32⟩
  | .hbm, ⟨9, _⟩ => ⟨S16x2048, .f32⟩
  | .hbm, ⟨10, _⟩ => ⟨S2048, .i32⟩
  | .hbm, ⟨11, _⟩ => ⟨S1x2048, .i32⟩
  | .hbm, ⟨12, _⟩ => ⟨S16x1, .i32⟩
  | .hbm, ⟨13, _⟩ => ⟨S16x2048, .i32⟩
  | .hbm, ⟨14, _⟩ => ⟨S16x2048, .i32⟩
  | .hbm, ⟨15, _⟩ => ⟨S16x2048, .i1⟩
  | .hbm, ⟨16, _⟩ => ⟨S16x2048, .f32⟩
  | .hbm, ⟨17, _⟩ => ⟨S16x512, .i32⟩
  | .hbm, ⟨18, _⟩ => ⟨S16x1x2048, .f32⟩
  | .hbm, ⟨19, _⟩ => ⟨S16x1x2048, .f32⟩
  | .hbm, ⟨20, _⟩ => ⟨S16x1x2048, .f32⟩
  | .hbm, ⟨21, _⟩ => ⟨S16x512x1, .i32⟩
  | .hbm, ⟨22, _⟩ => ⟨S16x512x32, .i32⟩
  | .hbm, ⟨23, _⟩ => ⟨S16x512x3, .f32⟩
  | .hbm, ⟨24, _⟩ => ⟨S16x16384x1, .i32⟩
  | .hbm, ⟨25, _⟩ => ⟨S16x16384x515, .f32⟩
  | .local _ .vmem, ⟨0, _⟩ => ⟨S16x2048, .f32⟩
  | .local _ .vmem, ⟨1, _⟩ => ⟨S16x2048, .f32⟩
  | .local _ .vmem, ⟨2, _⟩ => ⟨S16x2048, .f32⟩
  | .local _ .vmem, ⟨3, _⟩ => ⟨S16x2048, .f32⟩
  | .local _ .vmem, ⟨4, _⟩ => ⟨S16x512, .i32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x2048x3, .f32⟩
  | .local _ .vmem, ⟨12, _⟩ => ⟨S1x2048x3, .f32⟩
  | .local _ .vmem, ⟨13, _⟩ => ⟨S1x512x1, .i32⟩
  | .local _ .vmem, ⟨14, _⟩ => ⟨S1x512x1, .i32⟩
  | .local _ .vmem, ⟨15, _⟩ => ⟨S1x512x32, .i32⟩
  | .local _ .vmem, ⟨16, _⟩ => ⟨S1x512x32, .i32⟩
  | .local _ .vmem, ⟨17, _⟩ => ⟨S1x512x3, .f32⟩
  | .local _ .vmem, ⟨18, _⟩ => ⟨S1x512x3, .f32⟩
  | .local _ .vmem, ⟨19, _⟩ => ⟨S1x2048x256, .f32⟩
  | .local _ .vmem, ⟨20, _⟩ => ⟨S1x2048x256, .f32⟩
  | .local _ .vmem, ⟨21, _⟩ => ⟨S1x2048x3, .f32⟩
  | .local _ .vmem, ⟨22, _⟩ => ⟨S1x2048x3, .f32⟩
  | .local _ .vmem, ⟨23, _⟩ => ⟨S1x1024x1, .i32⟩
  | .local _ .vmem, ⟨24, _⟩ => ⟨S1x1024x1, .i32⟩
  | .local _ .vmem, ⟨25, _⟩ => ⟨S1x32x1, .i32⟩
  | .local _ .vmem, ⟨26, _⟩ => ⟨S1x32x1, .i32⟩
  | .local _ .vmem, ⟨27, _⟩ => ⟨S1x1024x515, .f32⟩
  | .local _ .vmem, ⟨28, _⟩ => ⟨S1x1024x515, .f32⟩
  | _, _ => ⟨S16x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19_0 : Ref sig .tc := ⟨.hbm, 22, rfl⟩
abbrev main_v19_1 : Ref sig .tc := ⟨.hbm, 23, rfl⟩
abbrev main_v20 : Ref sig .tc := ⟨.hbm, 24, rfl⟩
abbrev main_v21 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28

abbrev nD : Nat := 1
abbrev τ : Topo := Topo.v7x

variable {F : FTy → Type} [FloatOps F]

abbrev grid0 : Pipeline.Grid := .none

@[reducible] def k0_t1_loop : Scf.Loop 32 :=
  let c0_i32_7 : BitVec 32 := 0#32
  let c512_i32 : BitVec 32 := 512#32
  let v12 : BitVec 32 := Scalar.addi c0_i32_7 c512_i32
  let c1_i32 : BitVec 32 := 1#32
  ⟨c0_i32_7, v12, c1_i32⟩
abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x512 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2048x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512x32 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x512x3 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![16, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x2048x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1024x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x32x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1024x515 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== WholeReferenceIdeal.lean ====
abbrev S16x2048x3 : Shape := ⟨3, ![16, 2048, 3]⟩
abbrev S16x2048x256 : Shape := ⟨3, ![16, 2048, 256]⟩
abbrev S16 : Shape := ⟨1, ![16]⟩
abbrev S_ : Shape := ⟨0, ![]⟩
abbrev S16x2048 : Shape := ⟨2, ![16, 2048]⟩
abbrev S16x512 : Shape := ⟨2, ![16, 512]⟩
abbrev S1 : Shape := ⟨1, ![1]⟩
abbrev S16x1 : Shape := ⟨2, ![16, 1]⟩
abbrev S16x2 : Shape := ⟨2, ![16, 2]⟩
abbrev S16x3 : Shape := ⟨2, ![16, 3]⟩
abbrev S16x1x3 : Shape := ⟨3, ![16, 1, 3]⟩
abbrev S16x512x1 : Shape := ⟨3, ![16, 512, 1]⟩
abbrev S16x512x2 : Shape := ⟨3, ![16, 512, 2]⟩
abbrev S16x512x3 : Shape := ⟨3, ![16, 512, 3]⟩
abbrev S16x512x256 : Shape := ⟨3, ![16, 512, 256]⟩
abbrev S2048 : Shape := ⟨1, ![2048]⟩
abbrev S1x1x2048 : Shape := ⟨3, ![1, 1, 2048]⟩
abbrev S16x512x2048 : Shape := ⟨3, ![16, 512, 2048]⟩
abbrev S16x3x2048 : Shape := ⟨3, ![16, 3, 2048]⟩
abbrev S16x1x2048 : Shape := ⟨3, ![16, 1, 2048]⟩
abbrev S16x512x32 : Shape := ⟨3, ![16, 512, 32]⟩
abbrev S16x512x1x32 : Shape := ⟨4, ![16, 512, 1, 32]⟩
abbrev S16x1x1 : Shape := ⟨3, ![16, 1, 1]⟩
abbrev S16x512x32x1 : Shape := ⟨4, ![16, 512, 32, 1]⟩
abbrev S16x512x32x2 : Shape := ⟨4, ![16, 512, 32, 2]⟩
abbrev S16x512x32x3 : Shape := ⟨4, ![16, 512, 32, 3]⟩
abbrev S16x512x32x256 : Shape := ⟨4, ![16, 512, 32, 256]⟩
abbrev S16x512x32x259 : Shape := ⟨4, ![16, 512, 32, 259]⟩
abbrev S16x512x1x256 : Shape := ⟨4, ![16, 512, 1, 256]⟩
abbrev S16x512x1x32x256 : Shape := ⟨5, ![16, 512, 1, 32, 256]⟩
abbrev S16x512x32x515 : Shape := ⟨4, ![16, 512, 32, 515]⟩
abbrev S16x16384x515 : Shape := ⟨3, ![16, 16384, 515]⟩

abbrev nBuf : Space → Nat
  | .hbm => 187
  | .vmem => 0
  | .smem => 0
  | _ => 0

abbrev hbmTy0_0 (i : Nat) : BufTy := match i % 128 with
  | 0 => ⟨S16x2048x3, .f32⟩
  | 1 => ⟨S16x2048x256, .f32⟩
  | 2 => ⟨S16, .i32⟩
  | 3 => ⟨S_, .f32⟩
  | 4 => ⟨S16x2048, .f32⟩
  | 5 => ⟨S_, .i32⟩
  | 6 => ⟨S16x512, .i32⟩
  | 7 => ⟨S16, .i32⟩
  | 8 => ⟨S_, .i32⟩
  | 9 => ⟨S_, .i32⟩
  | 10 => ⟨S16, .i32⟩
  | 11 => ⟨S16x2048x3, .f32⟩
  | 12 => ⟨S_, .i32⟩
  | 13 => ⟨S_, .i32⟩
  | 14 => ⟨S16x512, .i32⟩
  | 15 => ⟨S16x2048, .f32⟩
  | 16 => ⟨S16, .i32⟩
  | 17 => ⟨S_, .i32⟩
  | 18 => ⟨S_, .i1⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S1, .i32⟩
  | 28 => ⟨S16x512, .i32⟩
  | 29 => ⟨S_, .i32⟩
  | 30 => ⟨S16, .i32⟩
  | 31 => ⟨S16, .i1⟩
  | 32 => ⟨S_, .i32⟩
  | 33 => ⟨S16, .i32⟩
  | 34 => ⟨S16, .i32⟩
  | 35 => ⟨S16, .i32⟩
  | 36 => ⟨S_, .i32⟩
  | 37 => ⟨S16, .i32⟩
  | 38 => ⟨S16, .i1⟩
  | 39 => ⟨S_, .i32⟩
  | 40 => ⟨S16, .i32⟩
  | 41 => ⟨S16, .i32⟩
  | 42 => ⟨S16, .i32⟩
  | 43 => ⟨S16x1, .i32⟩
  | 44 => ⟨S16x1, .i32⟩
  | 45 => ⟨S16x2, .i32⟩
  | 46 => ⟨S16x3, .f32⟩
  | 47 => ⟨S16x1x3, .f32⟩
  | 48 => ⟨S16x2048x3, .f32⟩
  | 49 => ⟨S16x2048x3, .f32⟩
  | 50 => ⟨S16x2048x3, .f32⟩
  | 51 => ⟨S_, .f32⟩
  | 52 => ⟨S16x2048, .f32⟩
  | 53 => ⟨S16x2048, .f32⟩
  | 54 => ⟨S16x2048, .i32⟩
  | 55 => ⟨S_, .f32⟩
  | 56 => ⟨S_, .i32⟩
  | 57 => ⟨S16, .f32⟩
  | 58 => ⟨S16, .i32⟩
  | 59 => ⟨S_, .i32⟩
  | 60 => ⟨S_, .i32⟩
  | 61 => ⟨S16, .i32⟩
  | 62 => ⟨S16x1, .i32⟩
  | 63 => ⟨S_, .i32⟩
  | 64 => ⟨S16x1, .i32⟩
  | 65 => ⟨S16x1, .i1⟩
  | 66 => ⟨S_, .i32⟩
  | 67 => ⟨S16x1, .i32⟩
  | 68 => ⟨S16x1, .i32⟩
  | 69 => ⟨S16x1, .i32⟩
  | 70 => ⟨S_, .i32⟩
  | 71 => ⟨S16x512, .i32⟩
  | 72 => ⟨S16x512, .i1⟩
  | 73 => ⟨S_, .i32⟩
  | 74 => ⟨S16x512, .i32⟩
  | 75 => ⟨S16x512, .i32⟩
  | 76 => ⟨S16x512, .i32⟩
  | 77 => ⟨S16x512, .i32⟩
  | 78 => ⟨S16x512x1, .i32⟩
  | 79 => ⟨S16x512x1, .i32⟩
  | 80 => ⟨S16x512x2, .i32⟩
  | 81 => ⟨S16x512x3, .f32⟩
  | 82 => ⟨S16, .i32⟩
  | 83 => ⟨S16x1, .i32⟩
  | 84 => ⟨S_, .i32⟩
  | 85 => ⟨S16x1, .i32⟩
  | 86 => ⟨S16x1, .i1⟩
  | 87 => ⟨S_, .i32⟩
  | 88 => ⟨S16x1, .i32⟩
  | 89 => ⟨S16x1, .i32⟩
  | 90 => ⟨S16x1, .i32⟩
  | 91 => ⟨S_, .i32⟩
  | 92 => ⟨S16x512, .i32⟩
  | 93 => ⟨S16x512, .i1⟩
  | 94 => ⟨S_, .i32⟩
  | 95 => ⟨S16x512, .i32⟩
  | 96 => ⟨S16x512, .i32⟩
  | 97 => ⟨S16x512, .i32⟩
  | 98 => ⟨S16x512, .i32⟩
  | 99 => ⟨S16x512x1, .i32⟩
  | 100 => ⟨S16x512x1, .i32⟩
  | 101 => ⟨S16x512x2, .i32⟩
  | 102 => ⟨S16x512x256, .f32⟩
  | 103 => ⟨S2048, .i32⟩
  | 104 => ⟨S1x1x2048, .i32⟩
  | 105 => ⟨S16x512x2048, .i32⟩
  | 106 => ⟨S16x3x2048, .f32⟩
  | 107 => ⟨S16x512x2048, .f32⟩
  | 108 => ⟨S_, .f32⟩
  | 109 => ⟨S16x512x2048, .f32⟩
  | 110 => ⟨S16x512x2048, .f32⟩
  | 111 => ⟨S16x512x3, .f32⟩
  | 112 => ⟨S_, .f32⟩
  | 113 => ⟨S16x512, .f32⟩
  | 114 => ⟨S16x512x1, .f32⟩
  | 115 => ⟨S16x512x2048, .f32⟩
  | 116 => ⟨S16x512x2048, .f32⟩
  | 117 => ⟨S16x2048x3, .f32⟩
  | 118 => ⟨S_, .f32⟩
  | 119 => ⟨S16x2048, .f32⟩
  | 120 => ⟨S16x1x2048, .f32⟩
  | 121 => ⟨S16x512x2048, .f32⟩
  | 122 => ⟨S16x512x2048, .f32⟩
  | 123 => ⟨S_, .f32⟩
  | 124 => ⟨S16x512x2048, .f32⟩
  | 125 => ⟨S16x512x2048, .i1⟩
  | 126 => ⟨S_, .i32⟩
  | 127 => ⟨S_, .i32⟩
  | _ => ⟨S16x2048x3, .f32⟩

abbrev hbmTy0_1 (i : Nat) : BufTy := match i % 128 with
  | 0 => ⟨S16x512x2048, .i32⟩
  | 1 => ⟨S16x512x2048, .i32⟩
  | 2 => ⟨S16x512x2048, .i32⟩
  | 3 => ⟨S16x512x32, .i32⟩
  | 4 => ⟨S16x512x1, .i32⟩
  | 5 => ⟨S16x512x1x32, .i32⟩
  | 6 => ⟨S16x512x32, .i32⟩
  | 7 => ⟨S_, .i32⟩
  | 8 => ⟨S16x512x32, .i32⟩
  | 9 => ⟨S16x512x32, .i1⟩
  | 10 => ⟨S16x512x32, .i32⟩
  | 11 => ⟨S16, .i32⟩
  | 12 => ⟨S16x1x1, .i32⟩
  | 13 => ⟨S_, .i32⟩
  | 14 => ⟨S16x1x1, .i32⟩
  | 15 => ⟨S16x1x1, .i1⟩
  | 16 => ⟨S_, .i32⟩
  | 17 => ⟨S16x1x1, .i32⟩
  | 18 => ⟨S16x1x1, .i32⟩
  | 19 => ⟨S16x1x1, .i32⟩
  | 20 => ⟨S_, .i32⟩
  | 21 => ⟨S16x512x32, .i32⟩
  | 22 => ⟨S16x512x32, .i1⟩
  | 23 => ⟨S_, .i32⟩
  | 24 => ⟨S16x512x32, .i32⟩
  | 25 => ⟨S16x512x32, .i32⟩
  | 26 => ⟨S16x512x32, .i32⟩
  | 27 => ⟨S16x512x32, .i32⟩
  | 28 => ⟨S16x512x32x1, .i32⟩
  | 29 => ⟨S16x512x32x1, .i32⟩
  | 30 => ⟨S16x512x32x2, .i32⟩
  | 31 => ⟨S16x512x32x3, .f32⟩
  | 32 => ⟨S16, .i32⟩
  | 33 => ⟨S16x1x1, .i32⟩
  | 34 => ⟨S_, .i32⟩
  | 35 => ⟨S16x1x1, .i32⟩
  | 36 => ⟨S16x1x1, .i1⟩
  | 37 => ⟨S_, .i32⟩
  | 38 => ⟨S16x1x1, .i32⟩
  | 39 => ⟨S16x1x1, .i32⟩
  | 40 => ⟨S16x1x1, .i32⟩
  | 41 => ⟨S_, .i32⟩
  | 42 => ⟨S16x512x32, .i32⟩
  | 43 => ⟨S16x512x32, .i1⟩
  | 44 => ⟨S_, .i32⟩
  | 45 => ⟨S16x512x32, .i32⟩
  | 46 => ⟨S16x512x32, .i32⟩
  | 47 => ⟨S16x512x32, .i32⟩
  | 48 => ⟨S16x512x32, .i32⟩
  | 49 => ⟨S16x512x32x1, .i32⟩
  | 50 => ⟨S16x512x32x1, .i32⟩
  | 51 => ⟨S16x512x32x2, .i32⟩
  | 52 => ⟨S16x512x32x256, .f32⟩
  | 53 => ⟨S16x512x32x259, .f32⟩
  | 54 => ⟨S16x512x1x256, .f32⟩
  | 55 => ⟨S16x512x1x32x256, .f32⟩
  | 56 => ⟨S16x512x32x256, .f32⟩
  | 57 => ⟨S16x512x32x515, .f32⟩
  | 58 => ⟨S16x16384x515, .f32⟩
  | _ => ⟨S16x2048x3, .f32⟩

abbrev hbmTy (i : Nat) : BufTy := match i / 128 with
  | 0 => hbmTy0_0 i
  | 1 => hbmTy0_1 i
  | _ => ⟨S16x2048x3, .f32⟩

abbrev bufTy : (tb : Table) → Fin (tcTables nBuf tb) → BufTy
  | .hbm, ⟨i, _⟩ => hbmTy i
  | _, _ => ⟨S16x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_c_1 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev main_v3_6 : Ref sig .tc := ⟨.hbm, 16, rfl⟩
abbrev main_while0c_c_30 : Ref sig .tc := ⟨.hbm, 17, rfl⟩
abbrev main_while0c_v106 : Ref sig .tc := ⟨.hbm, 18, rfl⟩
abbrev main_while0b_c_30 : Ref sig .tc := ⟨.hbm, 19, rfl⟩
abbrev main_while0b_v106 : Ref sig .tc := ⟨.hbm, 20, rfl⟩
abbrev main_while0b_c_31 : Ref sig .tc := ⟨.hbm, 21, rfl⟩
abbrev main_while0b_v107 : Ref sig .tc := ⟨.hbm, 22, rfl⟩
abbrev main_while0b_c_32 : Ref sig .tc := ⟨.hbm, 23, rfl⟩
abbrev main_while0b_v108 : Ref sig .tc := ⟨.hbm, 24, rfl⟩
abbrev main_while0b_v109 : Ref sig .tc := ⟨.hbm, 25, rfl⟩
abbrev main_while0b_v110 : Ref sig .tc := ⟨.hbm, 26, rfl⟩
abbrev main_while0b_v111 : Ref sig .tc := ⟨.hbm, 27, rfl⟩
abbrev main_while0b_v112 : Ref sig .tc := ⟨.hbm, 28, rfl⟩
abbrev main_while0b_c_33 : Ref sig .tc := ⟨.hbm, 29, rfl⟩
abbrev main_while0b_v113 : Ref sig .tc := ⟨.hbm, 30, rfl⟩
abbrev main_while0b_v114 : Ref sig .tc := ⟨.hbm, 31, rfl⟩
abbrev main_while0b_c_34 : Ref sig .tc := ⟨.hbm, 32, rfl⟩
abbrev main_while0b_v115 : Ref sig .tc := ⟨.hbm, 33, rfl⟩
abbrev main_while0b_v116 : Ref sig .tc := ⟨.hbm, 34, rfl⟩
abbrev main_while0b_v117 : Ref sig .tc := ⟨.hbm, 35, rfl⟩
abbrev main_while0b_c_35 : Ref sig .tc := ⟨.hbm, 36, rfl⟩
abbrev main_while0b_v118 : Ref sig .tc := ⟨.hbm, 37, rfl⟩
abbrev main_while0b_v119 : Ref sig .tc := ⟨.hbm, 38, rfl⟩
abbrev main_while0b_c_36 : Ref sig .tc := ⟨.hbm, 39, rfl⟩
abbrev main_while0b_v120 : Ref sig .tc := ⟨.hbm, 40, rfl⟩
abbrev main_while0b_v121 : Ref sig .tc := ⟨.hbm, 41, rfl⟩
abbrev main_while0b_v122 : Ref sig .tc := ⟨.hbm, 42, rfl⟩
abbrev main_while0b_v123 : Ref sig .tc := ⟨.hbm, 43, rfl⟩
abbrev main_while0b_v124 : Ref sig .tc := ⟨.hbm, 44, rfl⟩
abbrev main_while0b_v125 : Ref sig .tc := ⟨.hbm, 45, rfl⟩
abbrev main_while0b_v126 : Ref sig .tc := ⟨.hbm, 46, rfl⟩
abbrev main_while0b_v127 : Ref sig .tc := ⟨.hbm, 47, rfl⟩
abbrev main_while0b_v128 : Ref sig .tc := ⟨.hbm, 48, rfl⟩
abbrev main_while0b_v129 : Ref sig .tc := ⟨.hbm, 49, rfl⟩
abbrev main_while0b_v130 : Ref sig .tc := ⟨.hbm, 50, rfl⟩
abbrev main_while0b_cst_37 : Ref sig .tc := ⟨.hbm, 51, rfl⟩
abbrev main_while0b_v131 : Ref sig .tc := ⟨.hbm, 52, rfl⟩
abbrev main_while0b_v132 : Ref sig .tc := ⟨.hbm, 53, rfl⟩
abbrev main_while0b_call0_v0 : Ref sig .tc := ⟨.hbm, 54, rfl⟩
abbrev main_while0b_call0_cst : Ref sig .tc := ⟨.hbm, 55, rfl⟩
abbrev main_while0b_call0_c : Ref sig .tc := ⟨.hbm, 56, rfl⟩
abbrev main_while0b_call0_v1_0 : Ref sig .tc := ⟨.hbm, 57, rfl⟩
abbrev main_while0b_v133 : Ref sig .tc := ⟨.hbm, 58, rfl⟩
abbrev main_while0b_c_38 : Ref sig .tc := ⟨.hbm, 59, rfl⟩
abbrev main_while0b_v134 : Ref sig .tc := ⟨.hbm, 60, rfl⟩
abbrev main_v4 : Ref sig .tc := ⟨.hbm, 61, rfl⟩
abbrev main_v5 : Ref sig .tc := ⟨.hbm, 62, rfl⟩
abbrev main_c_2 : Ref sig .tc := ⟨.hbm, 63, rfl⟩
abbrev main_v6 : Ref sig .tc := ⟨.hbm, 64, rfl⟩
abbrev main_v7 : Ref sig .tc := ⟨.hbm, 65, rfl⟩
abbrev main_c_3 : Ref sig .tc := ⟨.hbm, 66, rfl⟩
abbrev main_v8 : Ref sig .tc := ⟨.hbm, 67, rfl⟩
abbrev main_v9 : Ref sig .tc := ⟨.hbm, 68, rfl⟩
abbrev main_v10 : Ref sig .tc := ⟨.hbm, 69, rfl⟩
abbrev main_c_4 : Ref sig .tc := ⟨.hbm, 70, rfl⟩
abbrev main_v11 : Ref sig .tc := ⟨.hbm, 71, rfl⟩
abbrev main_v12 : Ref sig .tc := ⟨.hbm, 72, rfl⟩
abbrev main_c_5 : Ref sig .tc := ⟨.hbm, 73, rfl⟩
abbrev main_v13 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_c_6 : Ref sig .tc := ⟨.hbm, 84, rfl⟩
abbrev main_v23 : Ref sig .tc := ⟨.hbm, 85, rfl⟩
abbrev main_v24 : Ref sig .tc := ⟨.hbm, 86, rfl⟩
abbrev main_c_7 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_c_8 : Ref sig .tc := ⟨.hbm, 91, rfl⟩
abbrev main_v28 : Ref sig .tc := ⟨.hbm, 92, rfl⟩
abbrev main_v29 : Ref sig .tc := ⟨.hbm, 93, rfl⟩
abbrev main_c_9 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_cst_10 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_cst_11 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_cst_12 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_cst_13 : Ref sig .tc := ⟨.hbm, 123, rfl⟩
abbrev main_v55 : Ref sig .tc := ⟨.hbm, 124, rfl⟩
abbrev main_v56 : Ref sig .tc := ⟨.hbm, 125, rfl⟩
abbrev main_c_14 : Ref sig .tc := ⟨.hbm, 126, rfl⟩
abbrev main_call1_v0 : Ref sig .tc := ⟨.hbm, 127, rfl⟩
abbrev main_call1_v1 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_c_15 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_c_16 : Ref sig .tc := ⟨.hbm, 141, rfl⟩
abbrev main_v68 : Ref sig .tc := ⟨.hbm, 142, rfl⟩
abbrev main_v69 : Ref sig .tc := ⟨.hbm, 143, rfl⟩
abbrev main_c_17 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_c_18 : Ref sig .tc := ⟨.hbm, 148, rfl⟩
abbrev main_v73 : Ref sig .tc := ⟨.hbm, 149, rfl⟩
abbrev main_v74 : Ref sig .tc := ⟨.hbm, 150, rfl⟩
abbrev main_c_19 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_c_20 : Ref sig .tc := ⟨.hbm, 162, rfl⟩
abbrev main_v85 : Ref sig .tc := ⟨.hbm, 163, rfl⟩
abbrev main_v86 : Ref sig .tc := ⟨.hbm, 164, rfl⟩
abbrev main_c_21 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_c_22 : Ref sig .tc := ⟨.hbm, 169, rfl⟩
abbrev main_v90 : Ref sig .tc := ⟨.hbm, 170, rfl⟩
abbrev main_v91 : Ref sig .tc := ⟨.hbm, 171, rfl⟩
abbrev main_c_23 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩

abbrev nD : Nat := 1
abbrev τ : Topo := Topo.v7x

variable {F : FTy → Type} [FloatOps F]

abbrev main_while0_count : Scf.Loop 32 := ⟨0#32, 512#32, 1#32⟩
-- ==== Kernel.lean ====
abbrev S16x2048x256 : Shape := ⟨3, ![16, 2048, 256]⟩
abbrev S16x2048x3 : Shape := ⟨3, ![16, 2048, 3]⟩
abbrev S16x16384x1 : Shape := ⟨3, ![16, 16384, 1]⟩
abbrev S16x512x1 : Shape := ⟨3, ![16, 512, 1]⟩
abbrev S16x16384x515 : Shape := ⟨3, ![16, 16384, 515]⟩
abbrev S1x2048x256 : Shape := ⟨3, ![1, 2048, 256]⟩
abbrev S1x2048x3 : Shape := ⟨3, ![1, 2048, 3]⟩
abbrev S1x1024x1 : Shape := ⟨3, ![1, 1024, 1]⟩
abbrev S1x32x1 : Shape := ⟨3, ![1, 32, 1]⟩
abbrev S1x1024x515 : Shape := ⟨3, ![1, 1024, 515]⟩
abbrev S1024x1 : Shape := ⟨2, ![1024, 1]⟩
abbrev S1024x2048 : Shape := ⟨2, ![1024, 2048]⟩
abbrev S2048x256 : Shape := ⟨2, ![2048, 256]⟩
abbrev S1024x256 : Shape := ⟨2, ![1024, 256]⟩
abbrev S2048x3 : Shape := ⟨2, ![2048, 3]⟩
abbrev S1024x3 : Shape := ⟨2, ![1024, 3]⟩
abbrev S32x1 : Shape := ⟨2, ![32, 1]⟩
abbrev S32x2048 : Shape := ⟨2, ![32, 2048]⟩
abbrev S32x256 : Shape := ⟨2, ![32, 256]⟩
abbrev S32x1x256 : Shape := ⟨3, ![32, 1, 256]⟩
abbrev S32x32x256 : Shape := ⟨3, ![32, 32, 256]⟩
abbrev S1024x515 : Shape := ⟨2, ![1024, 515]⟩

abbrev nBuf : Space → Nat
  | .hbm => 5
  | .vmem => 10
  | .smem => 0
  | _ => 0

abbrev bufTy : (tb : Table) → Fin (tcTables nBuf tb) → BufTy
  | .hbm, ⟨0, _⟩ => ⟨S16x2048x256, .f32⟩
  | .hbm, ⟨1, _⟩ => ⟨S16x2048x3, .f32⟩
  | .hbm, ⟨2, _⟩ => ⟨S16x16384x1, .i32⟩
  | .hbm, ⟨3, _⟩ => ⟨S16x512x1, .i32⟩
  | .hbm, ⟨4, _⟩ => ⟨S16x16384x515, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x3, .f32⟩
  | .local _ .vmem, ⟨3, _⟩ => ⟨S1x2048x3, .f32⟩
  | .local _ .vmem, ⟨4, _⟩ => ⟨S1x1024x1, .i32⟩
  | .local _ .vmem, ⟨5, _⟩ => ⟨S1x1024x1, .i32⟩
  | .local _ .vmem, ⟨6, _⟩ => ⟨S1x32x1, .i32⟩
  | .local _ .vmem, ⟨7, _⟩ => ⟨S1x32x1, .i32⟩
  | .local _ .vmem, ⟨8, _⟩ => ⟨S1x1024x515, .f32⟩
  | .local _ .vmem, ⟨9, _⟩ => ⟨S1x1024x515, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x515 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16x2048x256 : Shape := ⟨3, ![16, 2048, 256]⟩
abbrev S16x2048x3 : Shape := ⟨3, ![16, 2048, 3]⟩
abbrev S16x16384x1 : Shape := ⟨3, ![16, 16384, 1]⟩
abbrev S16x512x1 : Shape := ⟨3, ![16, 512, 1]⟩
abbrev S16x512x32 : Shape := ⟨3, ![16, 512, 32]⟩
abbrev S16x512 : Shape := ⟨2, ![16, 512]⟩
abbrev S16 : Shape := ⟨1, ![16]⟩
abbrev S16x1 : Shape := ⟨2, ![16, 1]⟩
abbrev S_ : Shape := ⟨0, ![]⟩
abbrev S16x512x2 : Shape := ⟨3, ![16, 512, 2]⟩
abbrev S16x512x256 : Shape := ⟨3, ![16, 512, 256]⟩
abbrev S16x1x1 : Shape := ⟨3, ![16, 1, 1]⟩
abbrev S16x512x32x1 : Shape := ⟨4, ![16, 512, 32, 1]⟩
abbrev S16x512x32x2 : Shape := ⟨4, ![16, 512, 32, 2]⟩
abbrev S16x512x32x3 : Shape := ⟨4, ![16, 512, 32, 3]⟩
abbrev S16x512x32x256 : Shape := ⟨4, ![16, 512, 32, 256]⟩
abbrev S16x512x32x259 : Shape := ⟨4, ![16, 512, 32, 259]⟩
abbrev S16x512x1x256 : Shape := ⟨4, ![16, 512, 1, 256]⟩
abbrev S16x512x1x32x256 : Shape := ⟨5, ![16, 512, 1, 32, 256]⟩
abbrev S16x512x32x515 : Shape := ⟨4, ![16, 512, 32, 515]⟩
abbrev S16x16384x515 : Shape := ⟨3, ![16, 16384, 515]⟩

abbrev nBuf : Space → Nat
  | .hbm => 75
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x2048x3, .f32⟩
  | .hbm, ⟨2, _⟩ => ⟨S16x16384x1, .i32⟩
  | .hbm, ⟨3, _⟩ => ⟨S16x512x1, .i32⟩
  | .hbm, ⟨4, _⟩ => ⟨S16x512x32, .i32⟩
  | .hbm, ⟨5, _⟩ => ⟨S16x512, .i32⟩
  | .hbm, ⟨6, _⟩ => ⟨S16, .i32⟩
  | .hbm, ⟨7, _⟩ => ⟨S16x1, .i32⟩
  | .hbm, ⟨8, _⟩ => ⟨S_, .i32⟩
  | .hbm, ⟨9, _⟩ => ⟨S16x1, .i32⟩
  | .hbm, ⟨10, _⟩ => ⟨S16x1, .i1⟩
  | .hbm, ⟨11, _⟩ => ⟨S_, .i32⟩
  | .hbm, ⟨12, _⟩ => ⟨S16x1, .i32⟩
  | .hbm, ⟨13, _⟩ => ⟨S16x1, .i32⟩
  | .hbm, ⟨14, _⟩ => ⟨S16x1, .i32⟩
  | .hbm, ⟨15, _⟩ => ⟨S_, .i32⟩
  | .hbm, ⟨16, _⟩ => ⟨S16x512, .i32⟩
  | .hbm, ⟨17, _⟩ => ⟨S16x512, .i1⟩
  | .hbm, ⟨18, _⟩ => ⟨S_, .i32⟩
  | .hbm, ⟨19, _⟩ => ⟨S16x512, .i32⟩
  | .hbm, ⟨20, _⟩ => ⟨S16x512, .i32⟩
  | .hbm, ⟨21, _⟩ => ⟨S16x512, .i32⟩
  | .hbm, ⟨22, _⟩ => ⟨S16x512, .i32⟩
  | .hbm, ⟨23, _⟩ => ⟨S16x512x1, .i32⟩
  | .hbm, ⟨24, _⟩ => ⟨S16x512x1, .i32⟩
  | .hbm, ⟨25, _⟩ => ⟨S16x512x2, .i32⟩
  | .hbm, ⟨26, _⟩ => ⟨S16x512x256, .f32⟩
  | .hbm, ⟨27, _⟩ => ⟨S16, .i32⟩
  | .hbm, ⟨28, _⟩ => ⟨S16x1x1, .i32⟩
  | .hbm, ⟨29, _⟩ => ⟨S_, .i32⟩
  | .hbm, ⟨30, _⟩ => ⟨S16x1x1, .i32⟩
  | .hbm, ⟨31, _⟩ => ⟨S16x1x1, .i1⟩
  | .hbm, ⟨32, _⟩ => ⟨S_, .i32⟩
  | .hbm, ⟨33, _⟩ => ⟨S16x1x1, .i32⟩
  | .hbm, ⟨34, _⟩ => ⟨S16x1x1, .i32⟩
  | .hbm, ⟨35, _⟩ => ⟨S16x1x1, .i32⟩
  | .hbm, ⟨36, _⟩ => ⟨S_, .i32⟩
  | .hbm, ⟨37, _⟩ => ⟨S16x512x32, .i32⟩
  | .hbm, ⟨38, _⟩ => ⟨S16x512x32, .i1⟩
  | .hbm, ⟨39, _⟩ => ⟨S_, .i32⟩
  | .hbm, ⟨40, _⟩ => ⟨S16x512x32, .i32⟩
  | .hbm, ⟨41, _⟩ => ⟨S16x512x32, .i32⟩
  | .hbm, ⟨42, _⟩ => ⟨S16x512x32, .i32⟩
  | .hbm, ⟨43, _⟩ => ⟨S16x512x32, .i32⟩
  | .hbm, ⟨44, _⟩ => ⟨S16x512x32x1, .i32⟩
  | .hbm, ⟨45, _⟩ => ⟨S16x512x32x1, .i32⟩
  | .hbm, ⟨46, _⟩ => ⟨S16x512x32x2, .i32⟩
  | .hbm, ⟨47, _⟩ => ⟨S16x512x32x3, .f32⟩
  | .hbm, ⟨48, _⟩ => ⟨S16, .i32⟩
  | .hbm, ⟨49, _⟩ => ⟨S16x1x1, .i32⟩
  | .hbm, ⟨50, _⟩ => ⟨S_, .i32⟩
  | .hbm, ⟨51, _⟩ => ⟨S16x1x1, .i32⟩
  | .hbm, ⟨52, _⟩ => ⟨S16x1x1, .i1⟩
  | .hbm, ⟨53, _⟩ => ⟨S_, .i32⟩
  | .hbm, ⟨54, _⟩ => ⟨S16x1x1, .i32⟩
  | .hbm, ⟨55, _⟩ => ⟨S16x1x1, .i32⟩
  | .hbm, ⟨56, _⟩ => ⟨S16x1x1, .i32⟩
  | .hbm, ⟨57, _⟩ => ⟨S_, .i32⟩
  | .hbm, ⟨58, _⟩ => ⟨S16x512x32, .i32⟩
  | .hbm, ⟨59, _⟩ => ⟨S16x512x32, .i1⟩
  | .hbm, ⟨60, _⟩ => ⟨S_, .i32⟩
  | .hbm, ⟨61, _⟩ => ⟨S16x512x32, .i32⟩
  | .hbm, ⟨62, _⟩ => ⟨S16x512x32, .i32⟩
  | .hbm, ⟨63, _⟩ => ⟨S16x512x32, .i32⟩
  | .hbm, ⟨64, _⟩ => ⟨S16x512x32, .i32⟩
  | .hbm, ⟨65, _⟩ => ⟨S16x512x32x1, .i32⟩
  | .hbm, ⟨66, _⟩ => ⟨S16x512x32x1, .i32⟩
  | .hbm, ⟨67, _⟩ => ⟨S16x512x32x2, .i32⟩
  | .hbm, ⟨68, _⟩ => ⟨S16x512x32x256, .f32⟩
  | .hbm, ⟨69, _⟩ => ⟨S16x512x32x259, .f32⟩
  | .hbm, ⟨70, _⟩ => ⟨S16x512x1x256, .f32⟩
  | .hbm, ⟨71, _⟩ => ⟨S16x512x1x32x256, .f32⟩
  | .hbm, ⟨72, _⟩ => ⟨S16x512x32x256, .f32⟩
  | .hbm, ⟨73, _⟩ => ⟨S16x512x32x515, .f32⟩
  | .hbm, ⟨74, _⟩ => ⟨S16x16384x515, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_5 : Ref sig .tc := ⟨.hbm, 36, rfl⟩
abbrev main_v26 : Ref sig .tc := ⟨.hbm, 37, rfl⟩
abbrev main_v27 : Ref sig .tc := ⟨.hbm, 38, rfl⟩
abbrev main_c_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_7 : Ref sig .tc := ⟨.hbm, 50, rfl⟩
abbrev main_v38 : Ref sig .tc := ⟨.hbm, 51, rfl⟩
abbrev main_v39 : Ref sig .tc := ⟨.hbm, 52, rfl⟩
abbrev main_c_8 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_9 : Ref sig .tc := ⟨.hbm, 57, rfl⟩
abbrev main_v43 : Ref sig .tc := ⟨.hbm, 58, rfl⟩
abbrev main_v44 : Ref sig .tc := ⟨.hbm, 59, rfl⟩
abbrev main_c_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]
-- ==== Kernel2.lean ====
abbrev S16x2048x3 : Shape := ⟨3, ![16, 2048, 3]⟩
abbrev S16x512x1 : Shape := ⟨3, ![16, 512, 1]⟩
abbrev S3x16x2048 : Shape := ⟨3, ![3, 16, 2048]⟩
abbrev S1x16x2048 : Shape := ⟨3, ![1, 16, 2048]⟩
abbrev S16x2048 : Shape := ⟨2, ![16, 2048]⟩
abbrev S16x1x2048 : Shape := ⟨3, ![16, 1, 2048]⟩
abbrev S16x512x32 : Shape := ⟨3, ![16, 512, 32]⟩
abbrev S16x512x3 : Shape := ⟨3, ![16, 512, 3]⟩
abbrev S1x1x2048 : Shape := ⟨3, ![1, 1, 2048]⟩
abbrev S1x2048x3 : Shape := ⟨3, ![1, 2048, 3]⟩
abbrev S1x512x1 : Shape := ⟨3, ![1, 512, 1]⟩
abbrev S1x512x32 : Shape := ⟨3, ![1, 512, 32]⟩
abbrev S1x512x3 : Shape := ⟨3, ![1, 512, 3]⟩
abbrev S1x2048 : Shape := ⟨2, ![1, 2048]⟩
abbrev S512x1 : Shape := ⟨2, ![512, 1]⟩
abbrev S512x2048 : Shape := ⟨2, ![512, 2048]⟩
abbrev S512 : Shape := ⟨1, ![512]⟩
abbrev S512x3 : Shape := ⟨2, ![512, 3]⟩
abbrev S512x32 : Shape := ⟨2, ![512, 32]⟩

abbrev nBuf : Space → Nat
  | .hbm => 14
  | .vmem => 14
  | .smem => 0
  | _ => 0

abbrev bufTy : (tb : Table) → Fin (tcTables nBuf tb) → BufTy
  | .hbm, ⟨0, _⟩ => ⟨S16x2048x3, .f32⟩
  | .hbm, ⟨1, _⟩ => ⟨S16x512x1, .i32⟩
  | .hbm, ⟨2, _⟩ => ⟨S3x16x2048, .f32⟩
  | .hbm, ⟨3, _⟩ => ⟨S1x16x2048, .f32⟩
  | .hbm, ⟨4, _⟩ => ⟨S16x2048, .f32⟩
  | .hbm, ⟨5, _⟩ => ⟨S1x16x2048, .f32⟩
  | .hbm, ⟨6, _⟩ => ⟨S16x2048, .f32⟩
  | .hbm, ⟨7, _⟩ => ⟨S1x16x2048, .f32⟩
  | .hbm, ⟨8, _⟩ => ⟨S16x2048, .f32⟩
  | .hbm, ⟨9, _⟩ => ⟨S16x1x2048, .f32⟩
  | .hbm, ⟨10, _⟩ => ⟨S16x1x2048, .f32⟩
  | .hbm, ⟨11, _⟩ => ⟨S16x1x2048, .f32⟩
  | .hbm, ⟨12, _⟩ => ⟨S16x512x32, .i32⟩
  | .hbm, ⟨13, _⟩ => ⟨S16x512x3, .f32⟩
  | .local _ .vmem, ⟨0, _⟩ => ⟨S1x1x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048x3, .f32⟩
  | .local _ .vmem, ⟨7, _⟩ => ⟨S1x2048x3, .f32⟩
  | .local _ .vmem, ⟨8, _⟩ => ⟨S1x512x1, .i32⟩
  | .local _ .vmem, ⟨9, _⟩ => ⟨S1x512x1, .i32⟩
  | .local _ .vmem, ⟨10, _⟩ => ⟨S1x512x32, .i32⟩
  | .local _ .vmem, ⟨11, _⟩ => ⟨S1x512x32, .i32⟩
  | .local _ .vmem, ⟨12, _⟩ => ⟨S1x512x3, .f32⟩
  | .local _ .vmem, ⟨13, _⟩ => ⟨S1x512x3, .f32⟩
  | _, _ => ⟨S16x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10_0 : Ref sig .tc := ⟨.hbm, 12, rfl⟩
abbrev main_v10_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x32 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16x2048x3 : Shape := ⟨3, ![16, 2048, 3]⟩
abbrev S16x512x1 : Shape := ⟨3, ![16, 512, 1]⟩
abbrev S16x512 : Shape := ⟨2, ![16, 512]⟩
abbrev S16 : Shape := ⟨1, ![16]⟩
abbrev S16x1 : Shape := ⟨2, ![16, 1]⟩
abbrev S_ : Shape := ⟨0, ![]⟩
abbrev S16x512x2 : Shape := ⟨3, ![16, 512, 2]⟩
abbrev S16x512x3 : Shape := ⟨3, ![16, 512, 3]⟩
abbrev S2048 : Shape := ⟨1, ![2048]⟩
abbrev S1x1x2048 : Shape := ⟨3, ![1, 1, 2048]⟩
abbrev S16x512x2048 : Shape := ⟨3, ![16, 512, 2048]⟩
abbrev S16x3x2048 : Shape := ⟨3, ![16, 3, 2048]⟩
abbrev S16x2048 : Shape := ⟨2, ![16, 2048]⟩
abbrev S16x1x2048 : Shape := ⟨3, ![16, 1, 2048]⟩
abbrev S16x512x32 : Shape := ⟨3, ![16, 512, 32]⟩
abbrev S16x512x1x32 : Shape := ⟨4, ![16, 512, 1, 32]⟩

abbrev nBuf : Space → Nat
  | .hbm => 60
  | .vmem => 0
  | .smem => 0
  | _ => 0

abbrev bufTy : (tb : Table) → Fin (tcTables nBuf tb) → BufTy
  | .hbm, ⟨0, _⟩ => ⟨S16x2048x3, .f32⟩
  | .hbm, ⟨1, _⟩ => ⟨S16x512x1, .i32⟩
  | .hbm, ⟨2, _⟩ => ⟨S16x512, .i32⟩
  | .hbm, ⟨3, _⟩ => ⟨S16, .i32⟩
  | .hbm, ⟨4, _⟩ => ⟨S16x1, .i32⟩
  | .hbm, ⟨5, _⟩ => ⟨S_, .i32⟩
  | .hbm, ⟨6, _⟩ => ⟨S16x1, .i32⟩
  | .hbm, ⟨7, _⟩ => ⟨S16x1, .i1⟩
  | .hbm, ⟨8, _⟩ => ⟨S_, .i32⟩
  | .hbm, ⟨9, _⟩ => ⟨S16x1, .i32⟩
  | .hbm, ⟨10, _⟩ => ⟨S16x1, .i32⟩
  | .hbm, ⟨11, _⟩ => ⟨S16x1, .i32⟩
  | .hbm, ⟨12, _⟩ => ⟨S_, .i32⟩
  | .hbm, ⟨13, _⟩ => ⟨S16x512, .i32⟩
  | .hbm, ⟨14, _⟩ => ⟨S16x512, .i1⟩
  | .hbm, ⟨15, _⟩ => ⟨S_, .i32⟩
  | .hbm, ⟨16, _⟩ => ⟨S16x512, .i32⟩
  | .hbm, ⟨17, _⟩ => ⟨S16x512, .i32⟩
  | .hbm, ⟨18, _⟩ => ⟨S16x512, .i32⟩
  | .hbm, ⟨19, _⟩ => ⟨S16x512, .i32⟩
  | .hbm, ⟨20, _⟩ => ⟨S16x512x1, .i32⟩
  | .hbm, ⟨21, _⟩ => ⟨S16x512x1, .i32⟩
  | .hbm, ⟨22, _⟩ => ⟨S16x512x2, .i32⟩
  | .hbm, ⟨23, _⟩ => ⟨S16x512x3, .f32⟩
  | .hbm, ⟨24, _⟩ => ⟨S2048, .i32⟩
  | .hbm, ⟨25, _⟩ => ⟨S1x1x2048, .i32⟩
  | .hbm, ⟨26, _⟩ => ⟨S16x512x2048, .i32⟩
  | .hbm, ⟨27, _⟩ => ⟨S16x3x2048, .f32⟩
  | .hbm, ⟨28, _⟩ => ⟨S16x512x2048, .f32⟩
  | .hbm, ⟨29, _⟩ => ⟨S_, .f32⟩
  | .hbm, ⟨30, _⟩ => ⟨S16x512x2048, .f32⟩
  | .hbm, ⟨31, _⟩ => ⟨S16x512x2048, .f32⟩
  | .hbm, ⟨32, _⟩ => ⟨S16x512x3, .f32⟩
  | .hbm, ⟨33, _⟩ => ⟨S_, .f32⟩
  | .hbm, ⟨34, _⟩ => ⟨S16x512, .f32⟩
  | .hbm, ⟨35, _⟩ => ⟨S16x512x1, .f32⟩
  | .hbm, ⟨36, _⟩ => ⟨S16x512x2048, .f32⟩
  | .hbm, ⟨37, _⟩ => ⟨S16x512x2048, .f32⟩
  | .hbm, ⟨38, _⟩ => ⟨S16x2048x3, .f32⟩
  | .hbm, ⟨39, _⟩ => ⟨S_, .f32⟩
  | .hbm, ⟨40, _⟩ => ⟨S16x2048, .f32⟩
  | .hbm, ⟨41, _⟩ => ⟨S16x1x2048, .f32⟩
  | .hbm, ⟨42, _⟩ => ⟨S16x512x2048, .f32⟩
  | .hbm, ⟨43, _⟩ => ⟨S16x512x2048, .f32⟩
  | .hbm, ⟨44, _⟩ => ⟨S_, .f32⟩
  | .hbm, ⟨45, _⟩ => ⟨S16x512x2048, .f32⟩
  | .hbm, ⟨46, _⟩ => ⟨S16x512x2048, .i1⟩
  | .hbm, ⟨47, _⟩ => ⟨S_, .i32⟩
  | .hbm, ⟨48, _⟩ => ⟨S_, .i32⟩
  | .hbm, ⟨49, _⟩ => ⟨S16x512x2048, .i32⟩
  | .hbm, ⟨50, _⟩ => ⟨S16x512x2048, .i32⟩
  | .hbm, ⟨51, _⟩ => ⟨S16x512x2048, .i32⟩
  | .hbm, ⟨52, _⟩ => ⟨S16x512x32, .i32⟩
  | .hbm, ⟨53, _⟩ => ⟨S16x512x1, .i32⟩
  | .hbm, ⟨54, _⟩ => ⟨S16x512x1x32, .i32⟩
  | .hbm, ⟨55, _⟩ => ⟨S16x512x32, .i32⟩
  | .hbm, ⟨56, _⟩ => ⟨S_, .i32⟩
  | .hbm, ⟨57, _⟩ => ⟨S16x512x32, .i32⟩
  | .hbm, ⟨58, _⟩ => ⟨S16x512x32, .i1⟩
  | .hbm, ⟨59, _⟩ => ⟨S16x512x32, .i32⟩
  | _, _ => ⟨S16x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_c_6 : Ref sig .tc := ⟨.hbm, 47, rfl⟩
abbrev main_call0_v0 : Ref sig .tc := ⟨.hbm, 48, rfl⟩
abbrev main_call0_v1 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel3.lean ====
abbrev S16x2048x3 : Shape := ⟨3, ![16, 2048, 3]⟩
abbrev S16 : Shape := ⟨1, ![16]⟩
abbrev S3x16x2048 : Shape := ⟨3, ![3, 16, 2048]⟩
abbrev S1x16x2048 : Shape := ⟨3, ![1, 16, 2048]⟩
abbrev S16x2048 : Shape := ⟨2, ![16, 2048]⟩
abbrev S2048 : Shape := ⟨1, ![2048]⟩
abbrev S1x2048 : Shape := ⟨2, ![1, 2048]⟩
abbrev S16x1 : Shape := ⟨2, ![16, 1]⟩
abbrev S16x512 : Shape := ⟨2, ![16, 512]⟩

abbrev nBuf : Space → Nat
  | .hbm => 17
  | .vmem => 5
  | .smem => 0
  | _ => 0

abbrev bufTy : (tb : Table) → Fin (tcTables nBuf tb) → BufTy
  | .hbm, ⟨0, _⟩ => ⟨S16x2048x3, .f32⟩
  | .hbm, ⟨1, _⟩ => ⟨S16, .i32⟩
  | .hbm, ⟨2, _⟩ => ⟨S3x16x2048, .f32⟩
  | .hbm, ⟨3, _⟩ => ⟨S1x16x2048, .f32⟩
  | .hbm, ⟨4, _⟩ => ⟨S16x2048, .f32⟩
  | .hbm, ⟨5, _⟩ => ⟨S1x16x2048, .f32⟩
  | .hbm, ⟨6, _⟩ => ⟨S16x2048, .f32⟩
  | .hbm, ⟨7, _⟩ => ⟨S1x16x2048, .f32⟩
  | .hbm, ⟨8, _⟩ => ⟨S16x2048, .f32⟩
  | .hbm, ⟨9, _⟩ => ⟨S2048, .i32⟩
  | .hbm, ⟨10, _⟩ => ⟨S1x2048, .i32⟩
  | .hbm, ⟨11, _⟩ => ⟨S16x1, .i32⟩
  | .hbm, ⟨12, _⟩ => ⟨S16x2048, .i32⟩
  | .hbm, ⟨13, _⟩ => ⟨S16x2048, .i32⟩
  | .hbm, ⟨14, _⟩ => ⟨S16x2048, .i1⟩
  | .hbm, ⟨15, _⟩ => ⟨S16x2048, .f32⟩
  | .hbm, ⟨16, _⟩ => ⟨S16x512, .i32⟩
  | .local _ .vmem, ⟨0, _⟩ => ⟨S16x2048, .f32⟩
  | .local _ .vmem, ⟨1, _⟩ => ⟨S16x2048, .f32⟩
  | .local _ .vmem, ⟨2, _⟩ => ⟨S16x2048, .f32⟩
  | .local _ .vmem, ⟨3, _⟩ => ⟨S16x2048, .f32⟩
  | .local _ .vmem, ⟨4, _⟩ => ⟨S16x512, .i32⟩
  | _, _ => ⟨S16x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_7 : BitVec 32 := 0#32
  let c512_i32 : BitVec 32 := 512#32
  let v12 : BitVec 32 := Scalar.addi c0_i32_7 c512_i32
  let c1_i32 : BitVec 32 := 1#32
  ⟨c0_i32_7, v12, c1_i32⟩
abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x512 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference3Ideal.lean ====
abbrev S16x2048x3 : Shape := ⟨3, ![16, 2048, 3]⟩
abbrev S16 : Shape := ⟨1, ![16]⟩
abbrev S_ : Shape := ⟨0, ![]⟩
abbrev S16x2048 : Shape := ⟨2, ![16, 2048]⟩
abbrev S16x512 : Shape := ⟨2, ![16, 512]⟩
abbrev S1 : Shape := ⟨1, ![1]⟩
abbrev S16x1 : Shape := ⟨2, ![16, 1]⟩
abbrev S16x2 : Shape := ⟨2, ![16, 2]⟩
abbrev S16x3 : Shape := ⟨2, ![16, 3]⟩
abbrev S16x1x3 : Shape := ⟨3, ![16, 1, 3]⟩

abbrev nBuf : Space → Nat
  | .hbm => 60
  | .vmem => 0
  | .smem => 0
  | _ => 0

abbrev bufTy : (tb : Table) → Fin (tcTables nBuf tb) → BufTy
  | .hbm, ⟨0, _⟩ => ⟨S16x2048x3, .f32⟩
  | .hbm, ⟨1, _⟩ => ⟨S16, .i32⟩
  | .hbm, ⟨2, _⟩ => ⟨S_, .f32⟩
  | .hbm, ⟨3, _⟩ => ⟨S16x2048, .f32⟩
  | .hbm, ⟨4, _⟩ => ⟨S_, .i32⟩
  | .hbm, ⟨5, _⟩ => ⟨S16x512, .i32⟩
  | .hbm, ⟨6, _⟩ => ⟨S16, .i32⟩
  | .hbm, ⟨7, _⟩ => ⟨S_, .i32⟩
  | .hbm, ⟨8, _⟩ => ⟨S_, .i32⟩
  | .hbm, ⟨9, _⟩ => ⟨S16, .i32⟩
  | .hbm, ⟨10, _⟩ => ⟨S16x2048x3, .f32⟩
  | .hbm, ⟨11, _⟩ => ⟨S_, .i32⟩
  | .hbm, ⟨12, _⟩ => ⟨S_, .i32⟩
  | .hbm, ⟨13, _⟩ => ⟨S16x512, .i32⟩
  | .hbm, ⟨14, _⟩ => ⟨S16x2048, .f32⟩
  | .hbm, ⟨15, _⟩ => ⟨S16, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1, .i32⟩
  | .hbm, ⟨27, _⟩ => ⟨S16x512, .i32⟩
  | .hbm, ⟨28, _⟩ => ⟨S_, .i32⟩
  | .hbm, ⟨29, _⟩ => ⟨S16, .i32⟩
  | .hbm, ⟨30, _⟩ => ⟨S16, .i1⟩
  | .hbm, ⟨31, _⟩ => ⟨S_, .i32⟩
  | .hbm, ⟨32, _⟩ => ⟨S16, .i32⟩
  | .hbm, ⟨33, _⟩ => ⟨S16, .i32⟩
  | .hbm, ⟨34, _⟩ => ⟨S16, .i32⟩
  | .hbm, ⟨35, _⟩ => ⟨S_, .i32⟩
  | .hbm, ⟨36, _⟩ => ⟨S16, .i32⟩
  | .hbm, ⟨37, _⟩ => ⟨S16, .i1⟩
  | .hbm, ⟨38, _⟩ => ⟨S_, .i32⟩
  | .hbm, ⟨39, _⟩ => ⟨S16, .i32⟩
  | .hbm, ⟨40, _⟩ => ⟨S16, .i32⟩
  | .hbm, ⟨41, _⟩ => ⟨S16, .i32⟩
  | .hbm, ⟨42, _⟩ => ⟨S16x1, .i32⟩
  | .hbm, ⟨43, _⟩ => ⟨S16x1, .i32⟩
  | .hbm, ⟨44, _⟩ => ⟨S16x2, .i32⟩
  | .hbm, ⟨45, _⟩ => ⟨S16x3, .f32⟩
  | .hbm, ⟨46, _⟩ => ⟨S16x1x3, .f32⟩
  | .hbm, ⟨47, _⟩ => ⟨S16x2048x3, .f32⟩
  | .hbm, ⟨48, _⟩ => ⟨S16x2048x3, .f32⟩
  | .hbm, ⟨49, _⟩ => ⟨S16x2048x3, .f32⟩
  | .hbm, ⟨50, _⟩ => ⟨S_, .f32⟩
  | .hbm, ⟨51, _⟩ => ⟨S16x2048, .f32⟩
  | .hbm, ⟨52, _⟩ => ⟨S16x2048, .f32⟩
  | .hbm, ⟨53, _⟩ => ⟨S16x2048, .i32⟩
  | .hbm, ⟨54, _⟩ => ⟨S_, .f32⟩
  | .hbm, ⟨55, _⟩ => ⟨S_, .i32⟩
  | .hbm, ⟨56, _⟩ => ⟨S16, .f32⟩
  | .hbm, ⟨57, _⟩ => ⟨S16, .i32⟩
  | .hbm, ⟨58, _⟩ => ⟨S_, .i32⟩
  | .hbm, ⟨59, _⟩ => ⟨S_, .i32⟩
  | _, _ => ⟨S16x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_c_1 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_v3_6 : Ref sig .tc := ⟨.hbm, 15, rfl⟩
abbrev main_while0c_c_8 : Ref sig .tc := ⟨.hbm, 16, rfl⟩
abbrev main_while0c_v4 : Ref sig .tc := ⟨.hbm, 17, rfl⟩
abbrev main_while0b_c_8 : Ref sig .tc := ⟨.hbm, 18, rfl⟩
abbrev main_while0b_v4 : Ref sig .tc := ⟨.hbm, 19, rfl⟩
abbrev main_while0b_c_9 : Ref sig .tc := ⟨.hbm, 20, rfl⟩
abbrev main_while0b_v5 : Ref sig .tc := ⟨.hbm, 21, rfl⟩
abbrev main_while0b_c_10 : Ref sig .tc := ⟨.hbm, 22, rfl⟩
abbrev main_while0b_v6 : Ref sig .tc := ⟨.hbm, 23, rfl⟩
abbrev main_while0b_v7 : Ref sig .tc := ⟨.hbm, 24, rfl⟩
abbrev main_while0b_v8 : Ref sig .tc := ⟨.hbm, 25, rfl⟩
abbrev main_while0b_v9 : Ref sig .tc := ⟨.hbm, 26, rfl⟩
abbrev main_while0b_v10 : Ref sig .tc := ⟨.hbm, 27, rfl⟩
abbrev main_while0b_c_11 : Ref sig .tc := ⟨.hbm, 28, rfl⟩
abbrev main_while0b_v11 : Ref sig .tc := ⟨.hbm, 29, rfl⟩
abbrev main_while0b_v12 : Ref sig .tc := ⟨.hbm, 30, rfl⟩
abbrev main_while0b_c_12 : Ref sig .tc := ⟨.hbm, 31, rfl⟩
abbrev main_while0b_v13 : Ref sig .tc := ⟨.hbm, 32, rfl⟩
abbrev main_while0b_v14 : Ref sig .tc := ⟨.hbm, 33, rfl⟩
abbrev main_while0b_v15 : Ref sig .tc := ⟨.hbm, 34, rfl⟩
abbrev main_while0b_c_13 : Ref sig .tc := ⟨.hbm, 35, rfl⟩
abbrev main_while0b_v16 : Ref sig .tc := ⟨.hbm, 36, rfl⟩
abbrev main_while0b_v17 : Ref sig .tc := ⟨.hbm, 37, rfl⟩
abbrev main_while0b_c_14 : Ref sig .tc := ⟨.hbm, 38, rfl⟩
abbrev main_while0b_v18 : Ref sig .tc := ⟨.hbm, 39, rfl⟩
abbrev main_while0b_v19 : Ref sig .tc := ⟨.hbm, 40, rfl⟩
abbrev main_while0b_v20 : Ref sig .tc := ⟨.hbm, 41, rfl⟩
abbrev main_while0b_v21 : Ref sig .tc := ⟨.hbm, 42, rfl⟩
abbrev main_while0b_v22 : Ref sig .tc := ⟨.hbm, 43, rfl⟩
abbrev main_while0b_v23 : Ref sig .tc := ⟨.hbm, 44, rfl⟩
abbrev main_while0b_v24 : Ref sig .tc := ⟨.hbm, 45, rfl⟩
abbrev main_while0b_v25 : Ref sig .tc := ⟨.hbm, 46, rfl⟩
abbrev main_while0b_v26 : Ref sig .tc := ⟨.hbm, 47, rfl⟩
abbrev main_while0b_v27 : Ref sig .tc := ⟨.hbm, 48, rfl⟩
abbrev main_while0b_v28 : Ref sig .tc := ⟨.hbm, 49, rfl⟩
abbrev main_while0b_cst_15 : Ref sig .tc := ⟨.hbm, 50, rfl⟩
abbrev main_while0b_v29 : Ref sig .tc := ⟨.hbm, 51, rfl⟩
abbrev main_while0b_v30 : Ref sig .tc := ⟨.hbm, 52, rfl⟩
abbrev main_while0b_call0_v0 : Ref sig .tc := ⟨.hbm, 53, rfl⟩
abbrev main_while0b_call0_cst : Ref sig .tc := ⟨.hbm, 54, rfl⟩
abbrev main_while0b_call0_c : Ref sig .tc := ⟨.hbm, 55, rfl⟩
abbrev main_while0b_call0_v1_0 : Ref sig .tc := ⟨.hbm, 56, rfl⟩
abbrev main_while0b_v31 : Ref sig .tc := ⟨.hbm, 57, rfl⟩
abbrev main_while0b_c_16 : Ref sig .tc := ⟨.hbm, 58, rfl⟩
abbrev main_while0b_v32 : Ref sig .tc := ⟨.hbm, 59, rfl⟩

abbrev nD : Nat := 1
abbrev τ : Topo := Topo.v7x

variable {F : FTy → Type} [FloatOps F]

abbrev main_while0_count : Scf.Loop 32 := ⟨0#32, 512#32, 1#32⟩
-- ==== Proof.OneHot.lean ====
module

public import Idealize.ShloMosaic.Lib.Pointwise

@[expose] public section

/-! A sum against a one-hot row, and index words known to lie in a range. -/

noncomputable section

namespace Cert.Proof.OneHot

open Idealize.ShloMosaic

/-- The row of a table of 2048 rows that an index word names. -/
def row (w : BitVec 32) : Fin 2048 := ⟨w.toNat % 2048, Nat.mod_lt _ (by omega)⟩

/-- The row an in-range word names is the word. -/
theorem row_val (w : BitVec 32) (h : w.toNat < 2048) : (row w).val = w.toNat := Nat.mod_eq_of_lt h

/-- The comparison of two words for equality, widened and made a real number, is one or zero. -/
theorem hot_eq (u w : BitVec 32) :
    (FloatOps.sitofp (F := Ideal) FTy.f32 (BitVec.setWidth 32 (IntOp.cmpi CmpIPredicate.eq u w)) : EReal) = if u = w then 1 else 0 := by
  by_cases h : u = w
  · subst h
    simp [IntOp.cmpi, FloatOps.sitofp]
  · have hb : (u == w) = false := beq_eq_false_iff_ne.mpr h
    simp [IntOp.cmpi, FloatOps.sitofp, h, hb]

/-- The sum of `f` against the one-hot row of an in-range word is `f` at the word. -/
theorem sum_hot (w : BitVec 32) (hw : w.toNat < 2048) (f : Fin 2048 → EReal) :
    ∑ x : Fin 2048, (FloatOps.sitofp (F := Ideal) FTy.f32 (BitVec.setWidth 32 (IntOp.cmpi CmpIPredicate.eq (BitVec.ofNat 32 x.val) w)) : EReal) * f x
      = f (row w) := by
  rw [Finset.sum_eq_single (row w)]
  · rw [hot_eq, if_pos (by rw [row_val w hw]; simp), one_mul]
  · intro b _ hb
    rw [hot_eq, if_neg, zero_mul]
    rintro rfl
    refine hb (Fin.ext ?_)
    have := b.isLt
    show b.val = b.val % 2 ^ 32 % 2048
    omega
  · exact fun h => absurd (Finset.mem_univ _) h

/-- The range test of the precondition, read: a word that passes it is below the bound. -/
theorem lt_of_test (w : BitVec 32) (h : IntOp.andi (IntOp.cmpi .sge w 0#32) (IntOp.cmpi .slt w 2048#32) = 1#1) : w.toNat < 2048 := by
  have h2 : (0#32).sle w = true ∧ w.slt 2048#32 = true := by
    revert h
    show BitVec.ofBool ((0#32).sle w) &&& BitVec.ofBool (w.slt 2048#32) = 1#1 → _
    cases (0#32).sle w <;> cases w.slt 2048#32 <;> decide
  have h0 : (0 : Int) ≤ w.toInt := by simpa [BitVec.sle] using h2.1
  have h1 : w.toInt < 2048 := by simpa [BitVec.slt] using h2.2
  rw [BitVec.toInt_eq_toNat_cond] at h0 h1
  have := w.isLt
  split at h0 <;> omega

/-- An in-range word read signed is its plain value. -/
theorem toInt_of_lt (w : BitVec 32) (h : w.toNat < 2048) : w.toInt.toNat = w.toNat := by
  rw [BitVec.toInt_eq_toNat_of_lt (by omega)]; rfl

/-- jnp's wrap of a negative index leaves an in-range word alone. -/
theorem wrap_of_lt (w a : BitVec 32) (h : w.toNat < 2048) : Scalar.select (IntOp.cmpi .slt w 0#32) a w = w := by
  have h0 : ¬ w.toInt < 0 := by rw [BitVec.toInt_eq_toNat_of_lt (by omega)]; omega
  simp [IntOp.cmpi, BitVec.slt, h0, Scalar.select]

/-- The grouped features: for centre `j 1 / 32` and neighbour `j 1 % 32`, the neighbour's 256 features, then its three coordinates,
    then the centre's 256 features. -/
def picked (p : (⟨3, ![16, 2048, 256]⟩ : Shape).Idx → EReal) (q : (⟨3, ![16, 2048, 3]⟩ : Shape).Idx → EReal)
    (u : IVec ⟨3, ![16, 16384, 1]⟩ 32) (v : IVec ⟨3, ![16, 512, 1]⟩ 32) : (⟨3, ![16, 16384, 515]⟩ : Shape).Idx → EReal := fun j =>
  have h1 : (j 1).val < 16384 := (j 1).isLt
  have h2 : (j 2).val < 515 := (j 2).isLt
  if h : (j 2).val < 256 then p (ix3 (j 0) (row (u (ix3 (j 0) (j 1) (0 : Fin 1)))) (⟨(j 2).val, h⟩ : Fin 256))
  else if h' : (j 2).val - 256 < 3 then q (ix3 (j 0) (row (u (ix3 (j 0) (j 1) (0 : Fin 1)))) (⟨(j 2).val - 256, h'⟩ : Fin 3))
  else p (ix3 (j 0) (row (v (ix3 (j 0) (⟨(j 1).val / 32, by omega⟩ : Fin 512) (0 : Fin 1)))) (⟨(j 2).val - 256 - 3, by omega⟩ : Fin 256))

section
variable (p : (⟨3, ![16, 2048, 256]⟩ : Shape).Idx → EReal) (q : (⟨3, ![16, 2048, 3]⟩ : Shape).Idx → EReal)
  (u : IVec ⟨3, ![16, 16384, 1]⟩ 32) (v : IVec ⟨3, ![16, 512, 1]⟩ 32) (b : Fin 16) (r : Fin 16384) (ch : Fin 515)

/-- The first 256 channels: the neighbour's features. -/
theorem picked_feature (h : ch.val < 256) :
    picked p q u v (ix3 b r ch) = p (ix3 b (row (u (ix3 b r (0 : Fin 1)))) (⟨ch.val, h⟩ : Fin 256)) := dif_pos h

/-- The next three channels: the neighbour's coordinates. -/
theorem picked_coord (h : ¬ ch.val < 256) (h' : ch.val - 256 < 3) :
    picked p q u v (ix3 b r ch) = q (ix3 b (row (u (ix3 b r (0 : Fin 1)))) (⟨ch.val - 256, h'⟩ : Fin 3)) :=
  (dif_neg h).trans (dif_pos h')

/-- The last 256 channels: the centre's features. -/
theorem picked_centre (h : ¬ ch.val < 256) (h' : ¬ ch.val - 256 < 3) (s : Fin 512) (hs : s.val = r.val / 32) :
    picked p q u v (ix3 b r ch) = p (ix3 b (row (v (ix3 b s (0 : Fin 1)))) (⟨ch.val - 256 - 3, by omega⟩ : Fin 256)) := by
  have e : s = ⟨r.val / 32, by omega⟩ := Fin.ext hs
  rw [e]
  exact (dif_neg h).trans (dif_neg h')

end

end Cert.Proof.OneHot
end
-- ==== Proof.GatherBlock.lean ====
module

public import proofs.«01_k».proof.Proof.Gen.KernelIdeal
public import proofs.«01_k».proof.Proof.Gen.KernelIdeal.Value
public import proofs.«01_k».proof.Proof.OneHot

@[expose] public section

noncomputable section

namespace Cert.Proof.GatherBlock

open Cert.KernelIdeal Cert.KernelIdeal.Gen Idealize.ShloMosaic Idealize.ShloMosaic.TcCoe
open Cert.Proof.OneHot

theorem pay_apply (v0 : Vec Ideal S1x1024x1 .i32) (v7 : Vec Ideal S1x2048x256 .f32) (v10 : Vec Ideal S1x2048x3 .f32)
    (v13 : Vec Ideal S1x32x1 .i32) (j0 : Fin 1) (j1 : Fin 1024) (j2 : Fin 515)
    (hu : ((v0 (ix3 (0 : Fin 1) j1 (0 : Fin 1))) : BitVec 32).toNat < 2048)
    (hv : ((v13 (ix3 (0 : Fin 1) (⟨j1.val / 32, by omega⟩ : Fin 32) (0 : Fin 1))) : BitVec 32).toNat < 2048) :
    k0_pay1 v0 v7 v10 v13 (ix3 j0 j1 j2) =
      if h : j2.val < 256 then v7 (ix3 (0 : Fin 1) (row (v0 (ix3 (0 : Fin 1) j1 (0 : Fin 1)))) (⟨j2.val, h⟩ : Fin 256))
      else if h' : j2.val - 256 < 3 then v10 (ix3 (0 : Fin 1) (row (v0 (ix3 (0 : Fin 1) j1 (0 : Fin 1)))) (⟨j2.val - 256, h'⟩ : Fin 3))
      else v7 (ix3 (0 : Fin 1) (row (v13 (ix3 (0 : Fin 1) (⟨j1.val / 32, by omega⟩ : Fin 32) (0 : Fin 1)))) (⟨j2.val - 256 - 3, by omega⟩ : Fin 256)) := by
  pointwise [k0_pay1]
  split
  · exact sum_hot _ hu fun x => v7 (ix3 0 x _)
  · split
    · exact sum_hot _ hu fun x => v10 (ix3 0 x _)
    · exact sum_hot _ hv fun x => v7 (ix3 0 x _)

end Cert.Proof.GatherBlock
end
-- ==== Proof.GatherArray.lean ====
module

public import proofs.«01_k».proof.Proof.GatherBlock

@[expose] public section

/-! The gather kernel's result array: every grid point writes its block of one function of the arguments, and the blocks cover it. -/

noncomputable section

namespace Cert.Proof.GatherArray

open Cert.KernelIdeal Cert.KernelIdeal.Gen Idealize.ShloMosaic Idealize.ShloMosaic.TcCoe Idealize.SL.Sem
open Idealize.ShloMosaic.Pipeline (Dat)
open Cert.Proof.OneHot

variable (m : (ℓ : Loc nD τ sig) → Buf (Elt Ideal) ℓ) (ρ : Dev nD → PrngReg)

/-- The grouped features of the launched arguments. -/
abbrev G (c : Dev nD) : Buf (Elt Ideal) ((c : Thread nD τ).loc main_v0) :=
  picked (m ((c : Thread nD τ).loc main_arg0)) (m ((c : Thread nD τ).loc main_arg1))
    (m ((c : Thread nD τ).loc main_arg2)) (m ((c : Thread nD τ).loc main_arg3))

/-- The windows' block positions: the two tables are on the batch, the index words and the result on the batch and the group of centres. -/
theorem idx_facts : ∀ t : Fin cfg0.N,
    win0_0.index t (0 : Fin 3) = win0_4.index t (0 : Fin 3) ∧ win0_0.index t (1 : Fin 3) = 0 ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = win0_4.index t (1 : Fin 3) ∧ win0_2.index t (2 : Fin 3) = 0
    ∧ win0_3.index t (0 : Fin 3) = win0_4.index t (0 : Fin 3) ∧ win0_3.index t (1 : Fin 3) = win0_4.index t (1 : Fin 3) ∧ win0_3.index t (2 : Fin 3) = 0
    ∧ win0_4.index t (2 : Fin 3) = 0 ∧ win0_4.index t (0 : Fin 3) < 16 ∧ win0_4.index t (1 : Fin 3) < 16 :=
  (by decide +kernel : ∀ t : Fin grid0.N, _)

/-- Every block position of the result belongs to some point. -/
theorem idx_onto : ∀ b s : Fin 16, ∃ t : Fin cfg0.N, win0_4.index t (0 : Fin 3) = b.val ∧ win0_4.index t (1 : Fin 3) = s.val :=
  (by decide +kernel : ∀ b s : Fin 16, ∃ t : Fin grid0.N, win0_4.index t (0 : Fin 3) = b.val ∧ win0_4.index t (1 : Fin 3) = s.val)

theorem hz : (![0, 0, 0] : Fin 3 → Nat) = fun _ => 0 := funext fun a => by fin_cases a <;> rfl

/-- The features' block at a point. -/
theorem blk0 (c : Dev nD) (t : Fin cfg0.N) (b : Fin 16) (hb : win0_4.index t (0 : Fin 3) = b.val) (r : Fin 2048) (k : Fin 256) :
    (iblk m c 0 t : Vec Ideal S1x2048x256 .f32) (ix3 (0 : Fin 1) r k) = m ((c : Thread nD τ).loc main_arg0) (ix3 b r k) := by
  obtain ⟨h0, h1, h2, _⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 3) * 1 + 1 * 0 = b.val; omega
  | ⟨1, _⟩ => show win0_0.index t (1 : Fin 3) * 2048 + 1 * r.val = r.val; omega
  | ⟨2, _⟩ => show win0_0.index t (2 : Fin 3) * 256 + 1 * k.val = k.val; omega

/-- The coordinates' block at a point. -/
theorem blk1 (c : Dev nD) (t : Fin cfg0.N) (b : Fin 16) (hb : win0_4.index t (0 : Fin 3) = b.val) (r : Fin 2048) (k : Fin 3) :
    (iblk m c 1 t : Vec Ideal S1x2048x3 .f32) (ix3 (0 : Fin 1) r k) = m ((c : Thread nD τ).loc main_arg1) (ix3 b r k) := by
  obtain ⟨_, _, _, h0, h1, h2, _⟩ := idx_facts t
  unfold iblk
  rw [View.read_apply]
  show V m c main_arg1 _ = m (c.tc.loc main_arg1) _
  unfold V
  congr 1
  funext a
  apply Fin.ext
  match a with
  | ⟨0, _⟩ => show win0_1.index t (0 : Fin 3) * 1 + 1 * 0 = b.val; omega
  | ⟨1, _⟩ => show win0_1.index t (1 : Fin 3) * 2048 + 1 * r.val = r.val; omega
  | ⟨2, _⟩ => show win0_1.index t (2 : Fin 3) * 3 + 1 * k.val = k.val; omega

/-- The neighbours' words' block at a point. -/
theorem blk2 (c : Dev nD) (t : Fin cfg0.N) (b : Fin 16) (hb : win0_4.index t (0 : Fin 3) = b.val) (r : Fin 1024) (r' : Fin 16384)
    (hr : r'.val = win0_4.index t (1 : Fin 3) * 1024 + r.val) :
    (iblk m c 2 t : Vec Ideal S1x1024x1 .i32) (ix3 (0 : Fin 1) r (0 : Fin 1)) = m ((c : Thread nD τ).loc main_arg2) (ix3 b r' (0 : Fin 1)) := by
  obtain ⟨_, _, _, _, _, _, h0, h1, h2, _⟩ := idx_facts t
  unfold iblk
  rw [View.read_apply]
  show V m c main_arg2 _ = m (c.tc.loc main_arg2) _
  unfold V
  congr 1
  funext a
  apply Fin.ext
  match a with
  | ⟨0, _⟩ => show win0_2.index t (0 : Fin 3) * 1 + 1 * 0 = b.val; omega
  | ⟨1, _⟩ => show win0_2.index t (1 : Fin 3) * 1024 + 1 * r.val = r'.val; omega
  | ⟨2, _⟩ => show win0_2.index t (2 : Fin 3) * 1 + 1 * 0 = 0; omega

/-- The centres' words' block at a point. -/
theorem blk3 (c : Dev nD) (t : Fin cfg0.N) (b : Fin 16) (hb : win0_4.index t (0 : Fin 3) = b.val) (r : Fin 32) (r' : Fin 512)
    (hr : r'.val = win0_4.index t (1 : Fin 3) * 32 + r.val) :
    (iblk m c 3 t : Vec Ideal S1x32x1 .i32) (ix3 (0 : Fin 1) r (0 : Fin 1)) = m ((c : Thread nD τ).loc main_arg3) (ix3 b r' (0 : Fin 1)) := by
  obtain ⟨_, _, _, _, _, _, _, _, _, h0, h1, h2, _⟩ := idx_facts t
  unfold iblk
  rw [View.read_apply]
  show V m c main_arg3 _ = m (c.tc.loc main_arg3) _
  unfold V
  congr 1
  funext a
  apply Fin.ext
  match a with
  | ⟨0, _⟩ => show win0_3.index t (0 : Fin 3) * 1 + 1 * 0 = b.val; omega
  | ⟨1, _⟩ => show win0_3.index t (1 : Fin 3) * 32 + 1 * r.val = r'.val; omega
  | ⟨2, _⟩ => show win0_3.index t (2 : Fin 3) * 1 + 1 * 0 = 0; omega

/-- Both index arguments stay below the table's length. -/
def InRange (c : Dev nD) : Prop :=
  (∀ i, ((m ((c : Thread nD τ).loc main_arg2) i : BitVec 32)).toNat < 2048) ∧ ∀ i, ((m ((c : Thread nD τ).loc main_arg3) i : BitVec 32)).toNat < 2048

/-- What a point writes back is its block of the grouped features. -/
theorem flushed_eq (c : Dev nD) (h : InRange m c) (t : Fin cfg0.N) :
    (dats m 0 c).flushed 4 t = (win0_4.blk t).view.read (Elt Ideal) (G m c) := by
  rw [Value.flushed4]
  show out0_4 _ _ _ _ = _
  unfold out0_4
  rw [View.canon_unit_zero hz, View.ld_unit_zero hz, View.ld_unit_zero hz, View.ld_unit_zero hz, View.ld_unit_zero hz]
  obtain ⟨_, _, _, _, _, _, _, _, _, _, _, _, h42, hb, hs⟩ := idx_facts t
  funext j
  rw [View.read_apply]
  obtain ⟨j0, j1, j2, rfl⟩ : ∃ (j0 : Fin 1) (j1 : Fin 1024) (j2 : Fin 515), j = ix3 j0 j1 j2 := ⟨j 0, j 1, j 2, eq_ix3 j⟩
  have hj1 := j1.isLt
  have e2 := blk2 m c t ⟨_, hb⟩ rfl j1 ⟨win0_4.index t (1 : Fin 3) * 1024 + j1.val, by omega⟩ rfl
  have e3 := blk3 m c t ⟨_, hb⟩ rfl ⟨j1.val / 32, by omega⟩ ⟨win0_4.index t (1 : Fin 3) * 32 + j1.val / 32, by omega⟩ rfl
  refine (GatherBlock.pay_apply _ _ _ _ j0 j1 j2 (by rw [e2]; exact h.1 _) (by rw [e3]; exact h.2 _)).trans ?_
  rw [e2, e3]
  have hi : (win0_4.blk t).view.emb (ix3 j0 j1 j2) = ix3 (⟨_, hb⟩ : Fin 16) (⟨win0_4.index t (1 : Fin 3) * 1024 + j1.val, by omega⟩ : Fin 16384) j2 := by
    funext a
    apply Fin.ext
    have hj0 := j0.isLt
    match a with
    | ⟨0, _⟩ => show win0_4.index t (0 : Fin 3) * 1 + 1 * j0.val = win0_4.index t (0 : Fin 3); omega
    | ⟨1, _⟩ => show win0_4.index t (1 : Fin 3) * 1024 + 1 * j1.val = win0_4.index t (1 : Fin 3) * 1024 + j1.val; omega
    | ⟨2, _⟩ => show win0_4.index t (2 : Fin 3) * 515 + 1 * j2.val = j2.val; omega
  show _ = G m c ((win0_4.blk t).view.emb (ix3 j0 j1 j2))
  rw [hi]
  have hd : (win0_4.index t (1 : Fin 3) * 1024 + j1.val) / 32 = win0_4.index t (1 : Fin 3) * 32 + j1.val / 32 := by omega
  split
  · rename_i h1
    exact (blk0 m c t ⟨_, hb⟩ rfl _ _).trans (picked_feature _ _ _ _ _ _ _ h1).symm
  · rename_i h1
    split
    · rename_i h2
      exact (blk1 m c t ⟨_, hb⟩ rfl _ _).trans (picked_coord _ _ _ _ _ _ _ h1 h2).symm
    · rename_i h2
      exact (blk0 m c t ⟨_, hb⟩ rfl _ _).trans (picked_centre _ _ _ _ _ _ _ h1 h2 _ hd.symm).symm

/-- An index is in a point's block when each coordinate is in the block's stretch. -/
theorem mem_blk (t : Fin cfg0.N) (i : S16x16384x515.Idx) :
    i ∈ ((cfg0.win 4).blk t).view.set ↔ ∀ a : Fin 3, win0_4.index t a * win0_4.size a ≤ (i a : Nat)
      ∧ (i a : Nat) < win0_4.index t a * win0_4.size a + win0_4.xsize (grid0.coords t) a := by
  show i ∈ ((View.whole main_v0).slice (win0_4.rect t)).set ↔ _
  rw [View.set_slice_whole, Rect.mem_set_unit]
  exact Iff.rfl

/-- The blocks cover the array. -/
theorem cover (i : S16x16384x515.Idx) : ∃ t : Fin cfg0.N, (cfg0.win 4).flush t = true ∧ i ∈ ((cfg0.win 4).blk t).view.set := by
  have h0 : (i 0 : Nat) < 16 := (i 0).isLt
  have h1 : (i 1 : Nat) < 16384 := (i 1).isLt
  have h2 : (i 2 : Nat) < 515 := (i 2).isLt
  obtain ⟨t, e0, e1⟩ := idx_onto ⟨(i 0 : Nat), h0⟩ ⟨(i 1 : Nat) / 1024, by omega⟩
  dsimp only at e0 e1
  have e2 : win0_4.index t (2 : Fin 3) = 0 := (idx_facts t).2.2.2.2.2.2.2.2.2.2.2.2.1
  refine ⟨t, flush0_4 _, ?_⟩
  rw [mem_blk]
  intro a
  match a with
  | ⟨0, _⟩ =>
    show win0_4.index t (0 : Fin 3) * 1 ≤ (i 0 : Nat) ∧ (i 0 : Nat) < win0_4.index t (0 : Fin 3) * 1 + 1
    rw [e0]; omega
  | ⟨1, _⟩ =>
    show win0_4.index t (1 : Fin 3) * 1024 ≤ (i 1 : Nat) ∧ (i 1 : Nat) < win0_4.index t (1 : Fin 3) * 1024 + 1024
    rw [e1]; dsimp only; omega
  | ⟨2, _⟩ =>
    show win0_4.index t (2 : Fin 3) * 515 ≤ (i 2 : Nat) ∧ (i 2 : Nat) < win0_4.index t (2 : Fin 3) * 515 + 515
    rw [e2]; omega

/-- The result array after the run. -/
theorem final (c : Dev nD) (h : InRange m c) : (dats m 0 c).arrAt 4 cfg0.N = G m c :=
  (dats m 0 c).arrAt_eq_of_cover 4 (G m c) (fun t _ => flushed_eq m c h t) cover

end Cert.Proof.GatherArray
end
-- ==== Proof.PairGather.lean ====
module

public import Idealize.ShloMosaic.Lib.Pointwise

@[expose] public section

/-! A gather of whole rows out of a table `[B, N, C]`, each row named by a pair of index words (batch, row): what
`table[batch, row]` with two integer arrays lowers to. The pair sits on the last axis of the start indices. Both lemmas
read the gather at one index when the two words it meets are in range. -/

noncomputable section

namespace Cert.Proof.PairGather

open Idealize.ShloMosaic

variable {α : Type} {B N C S K : Nat}

/-- Dimension numbers of the gather whose result is `[B, S, K, C]`. -/
abbrev dims4 (wf : GatherDims.WF ⟨3, ![B, N, C]⟩ ⟨4, ![B, S, K, 2]⟩ ⟨4, ![B, S, K, C]⟩ [3] [0, 1] [] [0, 1] [] 3 ![1, 1, C]) :
    GatherDims ⟨3, ![B, N, C]⟩ ⟨4, ![B, S, K, 2]⟩ ⟨4, ![B, S, K, C]⟩ where
  offsetDims := [3]
  collapsedSliceDims := [0, 1]
  operandBatchingDims := []
  startIndicesBatchingDims := []
  startIndexMap := [0, 1]
  indexVectorDim := 3
  sliceSizes := ![1, 1, C]
  wf := wf

/-- Dimension numbers of the gather whose result is `[B, S, C]`. -/
abbrev dims3 (wf : GatherDims.WF ⟨3, ![B, N, C]⟩ ⟨3, ![B, S, 2]⟩ ⟨3, ![B, S, C]⟩ [2] [0, 1] [] [0, 1] [] 2 ![1, 1, C]) :
    GatherDims ⟨3, ![B, N, C]⟩ ⟨3, ![B, S, 2]⟩ ⟨3, ![B, S, C]⟩ where
  offsetDims := [2]
  collapsedSliceDims := [0, 1]
  operandBatchingDims := []
  startIndicesBatchingDims := []
  startIndexMap := [0, 1]
  indexVectorDim := 2
  sliceSizes := ![1, 1, C]
  wf := wf

/-- The gather with result `[B, S, K, C]` at an index whose pair of words is `(b', n)`. -/
theorem gather4_apply
    (wf : GatherDims.WF ⟨3, ![B, N, C]⟩ ⟨4, ![B, S, K, 2]⟩ ⟨4, ![B, S, K, C]⟩ [3] [0, 1] [] [0, 1] [] 3 ![1, 1, C])
    (x : (⟨3, ![B, N, C]⟩ : Shape).Idx → α) (idx : IVec ⟨4, ![B, S, K, 2]⟩ 32)
    (b : Fin B) (s : Fin S) (k : Fin K) (ch : Fin C) (b' : Fin B) (n : Fin N)
    (hb : (idx (ix4 b s k (0 : Fin 2))).toInt.toNat = b'.val) (hn : (idx (ix4 b s k (1 : Fin 2))).toInt.toNat = n.val) :
    Host.gather (dims4 wf) x idx (ix4 b s k ch) = x (ix3 b' n ch) := by
  have hs : ∀ c : Fin 2, (dims4 wf).siIdx (ix4 b s k ch) c = ix4 b s k c := fun c => by
    funext a
    match a with
    | ⟨0, _⟩ => rfl
    | ⟨1, _⟩ => rfl
    | ⟨2, _⟩ => rfl
    | ⟨3, _⟩ => rfl
  have h0 : (dims4 wf).start (ix4 b s k ch) idx 0 = b'.val := by
    unfold GatherDims.start
    rw [dif_pos (show (0 : Fin 3) ∈ [0, 1] by decide)]
    show min (idx ((dims4 wf).siIdx (ix4 b s k ch) (0 : Fin 2))).toInt.toNat (B - 1) = _
    have := b'.isLt
    rw [hs, hb]; omega
  have h1 : (dims4 wf).start (ix4 b s k ch) idx 1 = n.val := by
    unfold GatherDims.start
    rw [dif_pos (show (1 : Fin 3) ∈ [0, 1] by decide)]
    show min (idx ((dims4 wf).siIdx (ix4 b s k ch) (1 : Fin 2))).toInt.toNat (N - 1) = _
    have := n.isLt
    rw [hs, hn]; omega
  unfold Host.gather
  congr 1
  funext a
  refine Fin.ext ?_
  show (dims4 wf).start (ix4 b s k ch) idx a + (dims4 wf).batchCoord (ix4 b s k ch) a + (dims4 wf).offCoord (ix4 b s k ch) a = _
  rw [GatherDims.batchCoord_eq_zero _ _ _ List.not_mem_nil, Nat.add_zero]
  match a with
  | ⟨0, _⟩ => exact congrArg₂ (· + ·) h0 (GatherDims.offCoord_eq_zero _ _ _ fun h => ((GatherDims.mem_sKept _ _).mp h).1 (show (0 : Fin 3) ∈ [0, 1] by decide))
  | ⟨1, _⟩ => exact congrArg₂ (· + ·) h1 (GatherDims.offCoord_eq_zero _ _ _ fun h => ((GatherDims.mem_sKept _ _).mp h).1 (show (1 : Fin 3) ∈ [0, 1] by decide))
  | ⟨2, _⟩ =>
    have h2 : (dims4 wf).start (ix4 b s k ch) idx (2 : Fin 3) = 0 := by
      unfold GatherDims.start
      exact dif_neg (show (2 : Fin 3) ∉ [0, 1] by decide)
    exact (congrArg₂ (· + ·) h2 (show (dims4 wf).offCoord (ix4 b s k ch) (2 : Fin 3) = ch.val from rfl)).trans (Nat.zero_add _)

/-- The gather with result `[B, S, C]` at an index whose pair of words is `(b', n)`. -/
theorem gather3_apply
    (wf : GatherDims.WF ⟨3, ![B, N, C]⟩ ⟨3, ![B, S, 2]⟩ ⟨3, ![B, S, C]⟩ [2] [0, 1] [] [0, 1] [] 2 ![1, 1, C])
    (x : (⟨3, ![B, N, C]⟩ : Shape).Idx → α) (idx : IVec ⟨3, ![B, S, 2]⟩ 32)
    (b : Fin B) (s : Fin S) (ch : Fin C) (b' : Fin B) (n : Fin N)
    (hb : (idx (ix3 b s (0 : Fin 2))).toInt.toNat = b'.val) (hn : (idx (ix3 b s (1 : Fin 2))).toInt.toNat = n.val) :
    Host.gather (dims3 wf) x idx (ix3 b s ch) = x (ix3 b' n ch) := by
  have hs : ∀ c : Fin 2, (dims3 wf).siIdx (ix3 b s ch) c = ix3 b s c := fun c => by
    funext a
    match a with
    | ⟨0, _⟩ => rfl
    | ⟨1, _⟩ => rfl
    | ⟨2, _⟩ => rfl
  have h0 : (dims3 wf).start (ix3 b s ch) idx 0 = b'.val := by
    unfold GatherDims.start
    rw [dif_pos (show (0 : Fin 3) ∈ [0, 1] by decide)]
    show min (idx ((dims3 wf).siIdx (ix3 b s ch) (0 : Fin 2))).toInt.toNat (B - 1) = _
    have := b'.isLt
    rw [hs, hb]; omega
  have h1 : (dims3 wf).start (ix3 b s ch) idx 1 = n.val := by
    unfold GatherDims.start
    rw [dif_pos (show (1 : Fin 3) ∈ [0, 1] by decide)]
    show min (idx ((dims3 wf).siIdx (ix3 b s ch) (1 : Fin 2))).toInt.toNat (N - 1) = _
    have := n.isLt
    rw [hs, hn]; omega
  unfold Host.gather
  congr 1
  funext a
  refine Fin.ext ?_
  show (dims3 wf).start (ix3 b s ch) idx a + (dims3 wf).batchCoord (ix3 b s ch) a + (dims3 wf).offCoord (ix3 b s ch) a = _
  rw [GatherDims.batchCoord_eq_zero _ _ _ List.not_mem_nil, Nat.add_zero]
  match a with
  | ⟨0, _⟩ => exact congrArg₂ (· + ·) h0 (GatherDims.offCoord_eq_zero _ _ _ fun h => ((GatherDims.mem_sKept _ _).mp h).1 (show (0 : Fin 3) ∈ [0, 1] by decide))
  | ⟨1, _⟩ => exact congrArg₂ (· + ·) h1 (GatherDims.offCoord_eq_zero _ _ _ fun h => ((GatherDims.mem_sKept _ _).mp h).1 (show (1 : Fin 3) ∈ [0, 1] by decide))
  | ⟨2, _⟩ =>
    have h2 : (dims3 wf).start (ix3 b s ch) idx (2 : Fin 3) = 0 := by
      unfold GatherDims.start
      exact dif_neg (show (2 : Fin 3) ∉ [0, 1] by decide)
    exact (congrArg₂ (· + ·) h2 (show (dims3 wf).offCoord (ix3 b s ch) (2 : Fin 3) = ch.val from rfl)).trans (Nat.zero_add _)

end Cert.Proof.PairGather
end
-- ==== Proof.GatherSpec.lean ====
module

public import proofs.«01_k».proof.Proof.Gen.ReferenceIdeal
public import proofs.«01_k».proof.Proof.Gen.ReferenceIdeal.Run
public import proofs.«01_k».proof.Proof.PairGather
public import proofs.«01_k».proof.Proof.OneHot

@[expose] public section

/-! The gather reference's result, index by index. -/

noncomputable section

namespace Cert.Proof.GatherSpec

open Cert.ReferenceIdeal Cert.ReferenceIdeal.Value Idealize.ShloMosaic Idealize.ShloMosaic.TcCoe
open Cert.Proof.OneHot Cert.Proof.PairGather

variable (m : (ℓ : Loc nD τ sig) → Buf (Elt Ideal) ℓ)

/-- A batch number as an index word, wrapped, is itself. -/
theorem batch_word (b : Fin 16) (a : BitVec 32) :
    (Scalar.select (IntOp.cmpi .slt (BitVec.ofNat 32 b.val) 0#32) a (BitVec.ofNat 32 b.val)).toInt.toNat = b.val := by
  have h : (BitVec.ofNat 32 b.val).toNat = b.val := by
    have := b.isLt
    rw [BitVec.toNat_ofNat]; omega
  have h' : (BitVec.ofNat 32 b.val).toNat < 2048 := by omega
  rw [wrap_of_lt _ _ h', toInt_of_lt _ h', h]

/-- An in-range index word, wrapped, names its row. -/
theorem row_word (w a : BitVec 32) (h : w.toNat < 2048) :
    (Scalar.select (IntOp.cmpi .slt w 0#32) a w).toInt.toNat = (row w).val := by
  rw [wrap_of_lt _ _ h, toInt_of_lt _ h, row_val _ h]

theorem res_apply (c : Dev nD)
    (h2 : ∀ i, ((m ((c : Thread nD τ).loc main_arg2) i : BitVec 32)).toNat < 2048)
    (h3 : ∀ i, ((m ((c : Thread nD τ).loc main_arg3) i : BitVec 32)).toNat < 2048) :
    (res_main_v58 m c : Vec Ideal S16x16384x515 .f32) =
      picked (m ((c : Thread nD τ).loc main_arg0)) (m ((c : Thread nD τ).loc main_arg1))
        (m ((c : Thread nD τ).loc main_arg2)) (m ((c : Thread nD τ).loc main_arg3)) := by
  funext j
  idx_vars j
  pointwise [res_main_v58]
  have hj1 := j1.isLt
  have hk : j1.val / 32 * 32 + j1.val % 32 = j1.val := by omega
  split
  · split
    · rename_i ha
      refine (gather4_apply _ _ _ _ _ _ _ j0 _ ?_ ?_).trans (picked_feature _ _ _ _ _ _ _ ha).symm
      · pointwise
        exact batch_word _ _
      · pointwise
        exact row_word _ _ (h2 _)
    · rename_i ha hb
      refine (gather4_apply _ _ _ _ _ _ _ j0 _ ?_ ?_).trans (picked_coord _ _ _ _ _ _ _ hb (by omega)).symm
      · pointwise
        exact batch_word _ _
      · pointwise
        exact row_word _ _ (h2 _)
  · rename_i ha
    refine (gather3_apply _ _ _ _ _ _ j0 _ ?_ ?_).trans
      (picked_centre _ _ _ _ _ _ _ (by omega) (by omega) (⟨j1.val / 32, by omega⟩ : Fin 512) rfl).symm
    · pointwise
      exact batch_word _ _
    · pointwise
      exact row_word _ _ (h3 _)

end Cert.Proof.GatherSpec
end
-- ==== Proof.GatherClaims.lean ====
module

public import proofs.«01_k».proof.Defs
public import proofs.«01_k».proof.Proof.Gen.Kernel
public import proofs.«01_k».proof.Proof.Gen.Kernel.Frame
public import proofs.«01_k».proof.Proof.Gen.Pre_in_range
public import proofs.«01_k».proof.Proof.GatherArray
public import proofs.«01_k».proof.Proof.GatherSpec

@[expose] public section

/-! The claims about the gather call. -/

noncomputable section

namespace Cert.Proof.Gather

open Idealize.ShloMosaic Idealize.ShloMosaic.TcCoe Idealize.SL.Sem
open Cert.Proof.OneHot

theorem frame_kernel : Cert.quiescent_Kernel := fun m g _ => Cert.Kernel.Gen.frame m g

theorem frame_ideal : Cert.quiescent_KernelIdeal := fun m g _ => Cert.KernelIdeal.Gen.frame m g

theorem frame_ideal_pre : Cert.quiescent_KernelIdeal_pre_in_range := fun m g _ => Cert.KernelIdeal.Gen.frame m g

theorem frame_ref : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run (F := Ideal) m g)

theorem frame_ref_pre : Cert.quiescent_ReferenceIdeal_pre_in_range := fun m g _ => frame_ref m g trivial

/-- The precondition says both arrays of index words stay below the table's length. -/
theorem inRange (m : (ℓ : Loc Cert.KernelIdeal.nD Cert.KernelIdeal.τ Cert.KernelIdeal.sig) → Buf (Elt Ideal) ℓ)
    (h : Cert.Pre_KernelIdeal_in_range m) (c : Dev Cert.KernelIdeal.nD) : GatherArray.InRange m c :=
  ⟨fun i => lt_of_test _ (congrFun (h c).1 i), fun i => lt_of_test _ (congrFun (h c).2 i)⟩

theorem value : Cert.algebraic_KernelIdeal_ReferenceIdeal_pre_in_range := by
  intro m g m' g' hpre hagree
  refine ⟨fun c => GatherArray.G m c, ?_, ?_⟩
  · exact (θ_run Cert.KernelIdeal.defs _ _).mono
      (fun r h c => ⟨(h c).1.trans (GatherArray.final m c (inRange m hpre c)), (h c).2⟩)
      (Cert.KernelIdeal.Value.run_blocks m g)
  · refine (θ_run Cert.ReferenceIdeal.defs _ _).mono
      (fun r h c => ⟨(h c).1.trans ?_, (h c).2⟩)
      (Cert.ReferenceIdeal.Value.run m' g')
    obtain ⟨a0, a1, a2, a3⟩ := hagree c
    refine (GatherSpec.res_apply m' c ?_ ?_).trans ?_
    · rw [a2]; exact (inRange m hpre c).1
    · rw [a3]; exact (inRange m hpre c).2
    · rw [a0, a1, a2, a3]

end Cert.Proof.Gather
end
-- ==== Proof.Scan.lean ====
module

public import Idealize.ShloMosaic.Lib.Pointwise
public import Idealize.ShloMosaic.Lib.SortFacts

@[expose] public section

/-! Taking, again and again, the least marked position beyond the last one taken, lists the marked positions in order: it is
the sort of the words that hold their position where it is marked and 2048 where it is not. -/

noncomputable section

namespace Cert.Proof.Scan

open Idealize.ShloMosaic

/-- A position among 2048, as a word. -/
abbrev lane (x : Fin 2048) : BitVec 32 := BitVec.ofNat 32 x.val

theorem lane_toInt (x : Fin 2048) : (lane x).toInt = x.val := by
  have := x.isLt
  have h : (lane x).toNat = x.val := by rw [BitVec.toNat_ofNat]; omega
  rw [BitVec.toInt_eq_toNat_of_lt (by omega), h]

theorem none_toInt : (2048#32).toInt = 2048 := by decide

/-- The least marked position beyond `t`, or 2048 when there is none. -/
def next (p : Fin 2048 → BitVec 1) (t : BitVec 32) : BitVec 32 :=
  Finset.univ.fold IntOp.minsi 2147483647#32 fun x =>
    Scalar.select (IntOp.andi (p x) (IntOp.cmpi .sgt (lane x) t)) (lane x) 2048#32

/-- The position taken at step `k`. -/
def scan (p : Fin 2048 → BitVec 1) : Nat → BitVec 32
  | 0 => next p 4294967295#32
  | k + 1 => next p (scan p k)

/-- `s` is the least marked position beyond `t`, or 2048 when there is none. -/
structure IsNext (p : Fin 2048 → BitVec 1) (t : Int) (s : BitVec 32) : Prop where
  mem : s = 2048#32 ∨ ∃ x : Fin 2048, p x = 1#1 ∧ t < x.val ∧ s = lane x
  le : ∀ x : Fin 2048, p x = 1#1 → t < x.val → s.toInt ≤ x.val

theorem IsNext.le_none {p t s} (h : IsNext p t s) : s.toInt ≤ 2048 := by
  rcases h.mem with e | ⟨x, _, _, e⟩
  · rw [e, none_toInt]
  · have := x.isLt
    rw [e, lane_toInt]; omega

theorem IsNext.toInt_le {p t s s'} (h : IsNext p t s) (h' : IsNext p t s') : s.toInt ≤ s'.toInt := by
  rcases h'.mem with e | ⟨x, hp, ht, e⟩
  · rw [e, none_toInt]; exact h.le_none
  · rw [e, lane_toInt]; exact h.le x hp ht

/-- There is only one such word. -/
theorem IsNext.unique {p t s s'} (h : IsNext p t s) (h' : IsNext p t s') : s = s' :=
  BitVec.eq_of_toInt_eq (le_antisymm (h.toInt_le h') (h'.toInt_le h))

/-- The signed minimum of two words is one of them and below both. -/
theorem minsi_spec (a b : BitVec 32) :
    (IntOp.minsi a b = a ∨ IntOp.minsi a b = b) ∧ (IntOp.minsi a b).toInt ≤ a.toInt ∧ (IntOp.minsi a b).toInt ≤ b.toInt := by
  unfold IntOp.minsi
  by_cases h : a.slt b = true
  · rw [if_pos h]
    have : a.toInt < b.toInt := by simpa [BitVec.slt] using h
    exact ⟨Or.inl rfl, le_refl _, by omega⟩
  · rw [if_neg h]
    have : ¬ a.toInt < b.toInt := by simpa [BitVec.slt] using h
    exact ⟨Or.inr rfl, by omega, le_refl _⟩

/-- The signed minimum of a family of words is one of them or the start, and below all. -/
theorem fold_spec {ι : Type} (s : Finset ι) (f : ι → BitVec 32) (b : BitVec 32) :
    (s.fold IntOp.minsi b f = b ∨ ∃ x ∈ s, s.fold IntOp.minsi b f = f x)
      ∧ (s.fold IntOp.minsi b f).toInt ≤ b.toInt ∧ ∀ x ∈ s, (s.fold IntOp.minsi b f).toInt ≤ (f x).toInt := by
  classical
  induction s using Finset.induction_on with
  | empty => exact ⟨Or.inl rfl, le_refl _, fun x hx => absurd hx (Finset.notMem_empty x)⟩
  | insert a s ha ih =>
    rw [Finset.fold_insert ha]
    obtain ⟨hm, hb, hs⟩ := ih
    obtain ⟨hor, hl, hr⟩ := minsi_spec (f a) (s.fold IntOp.minsi b f)
    refine ⟨?_, hr.trans hb, fun x hx => ?_⟩
    · rcases hor with e | e
      · exact Or.inr ⟨a, Finset.mem_insert_self a s, e⟩
      · rw [e]
        rcases hm with e' | ⟨x, hx, e'⟩
        · exact Or.inl e'
        · exact Or.inr ⟨x, Finset.mem_insert_of_mem hx, e'⟩
    · rcases Finset.mem_insert.mp hx with rfl | hx'
      · exact hl
      · exact hr.trans (hs x hx')

theorem bit_cases (b : BitVec 1) : b = 1#1 ∨ b = 0#1 := by
  revert b; decide

theorem sgt_one (a b : BitVec 32) : IntOp.cmpi .sgt a b = 1#1 ↔ b.toInt < a.toInt := by
  show BitVec.ofBool (decide (b.toInt < a.toInt)) = 1#1 ↔ _
  by_cases h : b.toInt < a.toInt <;> simp [h]

theorem slt_one (a b : BitVec 32) : IntOp.cmpi .slt a b = 1#1 ↔ a.toInt < b.toInt := by
  show BitVec.ofBool (decide (a.toInt < b.toInt)) = 1#1 ↔ _
  by_cases h : a.toInt < b.toInt <;> simp [h]

theorem and_one (a b : BitVec 1) : IntOp.andi a b = 1#1 ↔ a = 1#1 ∧ b = 1#1 := by
  revert a b; decide

theorem select_one {α : Type} (x y : α) : Scalar.select 1#1 x y = x := rfl
theorem select_zero {α : Type} (x y : α) : Scalar.select 0#1 x y = y := rfl

/-- One step of the kernel's scan takes the least marked position beyond `t`. -/
theorem next_isNext (p : Fin 2048 → BitVec 1) (t : BitVec 32) : IsNext p t.toInt (next p t) := by
  obtain ⟨hm, _, hl⟩ := fold_spec Finset.univ
    (fun x : Fin 2048 => Scalar.select (IntOp.andi (p x) (IntOp.cmpi .sgt (lane x) t)) (lane x) 2048#32) 2147483647#32
  change (next p t = _ ∨ ∃ x ∈ _, next p t = _) at hm
  change ∀ x ∈ _, (next p t).toInt ≤ _ at hl
  have hle : ∀ x : Fin 2048, (next p t).toInt ≤ 2048 := fun x => by
    refine (hl x (Finset.mem_univ _)).trans ?_
    have := x.isLt
    rcases bit_cases (IntOp.andi (p x) (IntOp.cmpi .sgt (lane x) t)) with h | h
    · rw [h, select_one, lane_toInt]; omega
    · rw [h, select_zero, none_toInt]
  refine ⟨?_, fun x hp ht => ?_⟩
  · rcases hm with e | ⟨x, _, e⟩
    · have := hle 0
      rw [e] at this
      exact absurd this (by decide)
    · rcases bit_cases (IntOp.andi (p x) (IntOp.cmpi .sgt (lane x) t)) with h | h
      · rw [h, select_one] at e
        obtain ⟨h1, h2⟩ := (and_one _ _).mp h
        rw [sgt_one, lane_toInt] at h2
        exact Or.inr ⟨x, h1, h2, e⟩
      · rw [h, select_zero] at e
        exact Or.inl e
  · have h := hl x (Finset.mem_univ _)
    rw [(and_one _ _).mpr ⟨hp, (sgt_one _ _).mpr (by rw [lane_toInt]; exact ht)⟩, select_one, lane_toInt] at h
    exact h

/-- The words the reference sorts: a position where it is not struck out, 2048 where it is. -/
def kept (q : Fin 2048 → BitVec 1) (x : Fin 2048) : BitVec 32 := Scalar.select (q x) 2048#32 (lane x)

/-- The reference's sort of them. -/
def sorted (q : Fin 2048 → BitVec 1) (k : Fin 2048) : BitVec 32 :=
  kept q (sortedFrom (fun a b => IntOp.cmpi .slt (kept q a) (kept q b) == 1#1) k)

theorem kept_of_mark {q : Fin 2048 → BitVec 1} {x} (h : IntOp.xori (q x) 1#1 = 1#1) : kept q x = lane x := by
  unfold kept
  rcases bit_cases (q x) with e | e
  · rw [e] at h; exact absurd h (by decide)
  · rw [e, select_zero]

theorem kept_cases (q : Fin 2048 → BitVec 1) (x) : kept q x = 2048#32 ∨ (IntOp.xori (q x) 1#1 = 1#1 ∧ kept q x = lane x) := by
  rcases bit_cases (q x) with e | e
  · left; unfold kept; rw [e, select_one]
  · have h : IntOp.xori (q x) 1#1 = 1#1 := by rw [e]; decide
    exact Or.inr ⟨h, kept_of_mark h⟩

/-- The sorted words do not decrease. -/
theorem sorted_mono (q : Fin 2048 → BitVec 1) {i j : Fin 2048} (h : i ≤ j) : (sorted q i).toInt ≤ (sorted q j).toInt := by
  rcases eq_or_lt_of_le h with e | hlt
  · rw [e]
  · have hn := sortedFrom_noInversion (fun a b => IntOp.cmpi .slt (kept q a) (kept q b) == 1#1)
      (fun a b => IntOp.cmpi .slt (kept q a) (kept q b) == 1#1) ?_ (fun _ _ h => h) ?_ i j hlt
    · rw [beq_eq_false_iff_ne, Ne, slt_one] at hn
      exact not_lt.mp hn
    · intro a b h
      rw [beq_iff_eq, slt_one] at h
      rw [beq_eq_false_iff_ne, Ne, slt_one]
      omega
    · intro a b c h h'
      rw [beq_eq_false_iff_ne, Ne, slt_one] at h h' ⊢
      omega

/-- A marked position occurs among the sorted words. -/
theorem exists_sorted {q : Fin 2048 → BitVec 1} {x} (h : IntOp.xori (q x) 1#1 = 1#1) : ∃ k, sorted q k = lane x := by
  obtain ⟨k, hk⟩ := sortedFrom_surjective (fun a b => IntOp.cmpi .slt (kept q a) (kept q b) == 1#1) x
  exact ⟨k, by unfold sorted; rw [hk, kept_of_mark h]⟩

/-- The first sorted word is the least marked position. -/
theorem sorted_zero (q : Fin 2048 → BitVec 1) (t : Int) (ht : t < 0) :
    IsNext (fun x => IntOp.xori (q x) 1#1) t (sorted q 0) := by
  refine ⟨?_, fun x hp _ => ?_⟩
  · rcases kept_cases q (sortedFrom (fun a b => IntOp.cmpi .slt (kept q a) (kept q b) == 1#1) 0) with e | ⟨hp, e⟩
    · exact Or.inl e
    · exact Or.inr ⟨_, hp, by omega, e⟩
  · obtain ⟨k, hk⟩ := exists_sorted hp
    rw [← lane_toInt, ← hk]
    exact sorted_mono q (Fin.zero_le k)

/-- Every later one is the least marked position beyond the one before it. -/
theorem sorted_succ (q : Fin 2048 → BitVec 1) (k : Nat) (h : k + 1 < 2048) :
    IsNext (fun x => IntOp.xori (q x) 1#1) (sorted q ⟨k, by omega⟩).toInt (sorted q ⟨k + 1, h⟩) := by
  refine ⟨?_, fun x hp ht => ?_⟩
  · rcases kept_cases q (sortedFrom (fun a b => IntOp.cmpi .slt (kept q a) (kept q b) == 1#1) ⟨k + 1, h⟩) with e | ⟨hp, e⟩
    · exact Or.inl e
    · refine Or.inr ⟨_, hp, ?_, e⟩
      have hm : (sorted q ⟨k, by omega⟩).toInt ≤ (sorted q ⟨k + 1, h⟩).toInt := sorted_mono q (Fin.mk_le_mk.mpr (by omega))
      have e' : sorted q ⟨k + 1, h⟩ = _ := e
      rw [e', lane_toInt] at hm
      refine lt_of_le_of_ne hm fun heq => ?_
      rcases kept_cases q (sortedFrom (fun a b => IntOp.cmpi .slt (kept q a) (kept q b) == 1#1) ⟨k, by omega⟩) with f | ⟨_, f⟩
      · have f' : sorted q ⟨k, by omega⟩ = _ := f
        rw [f', none_toInt] at heq
        have := (sortedFrom (fun a b => IntOp.cmpi .slt (kept q a) (kept q b) == 1#1) ⟨k + 1, h⟩).isLt
        omega
      · have f' : sorted q ⟨k, by omega⟩ = _ := f
        rw [f', lane_toInt] at heq
        have hi := sortedFrom_injective _ (Fin.ext (Int.ofNat_inj.mp heq))
        have := Fin.mk.inj_iff.mp hi
        omega
  · obtain ⟨j, hj⟩ := exists_sorted hp
    rw [← lane_toInt, ← hj] at ht ⊢
    refine sorted_mono q ?_
    by_contra hlt
    have : j ≤ (⟨k, by omega⟩ : Fin 2048) := by
      rw [Fin.le_def]
      rw [Fin.le_def] at hlt
      dsimp only at hlt ⊢
      omega
    have := sorted_mono q this
    omega

/-- The kernel's scan lists the reference's sorted words. -/
theorem scan_eq_sorted (q : Fin 2048 → BitVec 1) : ∀ (k : Nat) (h : k < 2048),
    scan (fun x => IntOp.xori (q x) 1#1) k = sorted q ⟨k, h⟩
  | 0, _ => (next_isNext _ _).unique (sorted_zero q _ (by decide))
  | k + 1, h => by
    show next _ (scan _ k) = _
    rw [scan_eq_sorted q k (by omega)]
    exact (next_isNext _ _).unique (sorted_succ q k h)

end Cert.Proof.Scan
end
-- ==== Proof.Ball.lean ====
module

public import proofs.«01_k».proof.Proof.OneHot
public import proofs.«01_k».proof.Proof.Scan

@[expose] public section

/-! The ball query as a function of the cloud and the centres' index words. -/

noncomputable section

namespace Cert.Proof.Ball

open Idealize.ShloMosaic
open Cert.Proof.OneHot Cert.Proof.Scan

/-- Whether a point `p` lies outside the ball around `c`: the squared distance, expanded, against the squared radius. -/
def struck (c p : Fin 3 → EReal) : BitVec 1 :=
  BitVec.ofBool (decide (Ideal.ofBits FTy.f32 0x3D23D70A#32 <
    Ideal.ofBits FTy.f32 0xC0000000#32 * (c 0 * p 0 + c 1 * p 1 + c 2 * p 2)
      + (c 0 * c 0 + c 1 * c 1 + c 2 * c 2) + (p 0 * p 0 + p 1 * p 1 + p 2 * p 2)))

theorem struck_pos {c p : Fin 3 → EReal} (h : Ideal.ofBits FTy.f32 0x3D23D70A#32 <
    Ideal.ofBits FTy.f32 0xC0000000#32 * (c 0 * p 0 + c 1 * p 1 + c 2 * p 2)
      + (c 0 * c 0 + c 1 * c 1 + c 2 * c 2) + (p 0 * p 0 + p 1 * p 1 + p 2 * p 2)) : struck c p = 1#1 := by
  unfold struck
  rw [decide_eq_true h]
  rfl

theorem struck_neg {c p : Fin 3 → EReal} (h : ¬ Ideal.ofBits FTy.f32 0x3D23D70A#32 <
    Ideal.ofBits FTy.f32 0xC0000000#32 * (c 0 * p 0 + c 1 * p 1 + c 2 * p 2)
      + (c 0 * c 0 + c 1 * c 1 + c 2 * c 2) + (p 0 * p 0 + p 1 * p 1 + p 2 * p 2)) : struck c p = 0#1 := by
  unfold struck
  rw [decide_eq_false h]
  rfl

/-- The written word: the sorted one, or the first sorted one where nothing is left. -/
def slot (q : Fin 2048 → BitVec 1) (k : Fin 2048) : BitVec 32 :=
  Scalar.select (IntOp.cmpi .eq (sorted q k) 2048#32) (sorted q 0) (sorted q k)

/-- The first written word is the first sorted one. -/
theorem slot_zero (q : Fin 2048 → BitVec 1) : slot q 0 = sorted q 0 := by
  unfold slot
  rcases bit_cases (IntOp.cmpi .eq (sorted q 0) 2048#32) with h | h
  · rw [h, select_one]
  · rw [h, select_zero]

variable (x : (⟨3, ![16, 2048, 3]⟩ : Shape).Idx → EReal) (f : IVec ⟨3, ![16, 512, 1]⟩ 32)

/-- The points of a cloud that lie outside the ball around a centre. -/
def outside (b : Fin 16) (r : Fin 512) (n : Fin 2048) : BitVec 1 :=
  struck (fun k => x (ix3 b (row (f (ix3 b r (0 : Fin 1)))) k)) (fun k => x (ix3 b n k))

/-- The neighbours' index words. -/
def neighbours : IVec ⟨3, ![16, 512, 32]⟩ 32 := fun j =>
  have h : (j 2).val < 32 := (j 2).isLt
  slot (outside x f (j 0) (j 1)) ⟨(j 2).val, by omega⟩

/-- The centres' coordinates. -/
def centres : (⟨3, ![16, 512, 3]⟩ : Shape).Idx → EReal := fun j => x (ix3 (j 0) (row (f (ix3 (j 0) (j 1) (0 : Fin 1)))) (j 2))

end Cert.Proof.Ball
end
-- ==== Proof.BallBlock.lean ====
module

public import proofs.«01_k».proof.Proof.Gen.Kernel2Ideal
public import proofs.«01_k».proof.Proof.Gen.Kernel2Ideal.Value
public import proofs.«01_k».proof.Proof.Ball

@[expose] public section

/-! What the ball query's body leaves in its two blocks, index by index. -/

noncomputable section

namespace Cert.Proof.BallBlock

open Cert.Kernel2Ideal Cert.Kernel2Ideal.Gen Idealize.ShloMosaic Idealize.ShloMosaic.TcCoe
open Cert.Proof.OneHot Cert.Proof.Scan Cert.Proof.Ball

theorem hz : (![0, 0, 0] : Fin 3 → Nat) = fun _ => 0 := funext fun a => by fin_cases a <;> rfl

/-- One step of the scan, for all rows at once: the least marked lane beyond each row's `t`. -/
def step (M : IVec S512x2048 1) (t : IVec S512x1 32) : IVec S512x1 32 :=
  shapeCast S512x1 (multiReductionI .minsi [1] S512
    (select (andi M (cmpi .sgt (iota .tc S512x2048 32 [1] iota_S512x2048_d1_w32) (broadcastTo S512x2048 t broadcasts_S512x1_S512x2048)))
      (iota .tc S512x2048 32 [1] iota_S512x2048_d1_w32) (broadcast S512x2048 2048#32))
    2147483647#32 reduces_S512x2048_S512 rfl) shapeCasts_S512_S512x1

/-- The lanes taken at step `k`. -/
def taken (M : IVec S512x2048 1) : Nat → IVec S512x1 32
  | 0 => step M (broadcast S512x1 4294967295#32)
  | k + 1 => step M (taken M k)

/-- The column written for step `k`: the first column stands in where nothing was left to take. -/
def column (M : IVec S512x2048 1) : Nat → IVec S512x1 32
  | 0 => taken M 0
  | k + 1 => select (cmpi .eq (taken M (k + 1)) (broadcast S512x1 2048#32)) (taken M 0) (taken M (k + 1))

/-- The 32 columns make up the block. -/
theorem columns_fit (f : Fin 32 → S512x1.Idx → BitVec 32) :
    Shape.Concatenates ((List.ofFn fun n : Fin 32 => (⟨S512x1, f n⟩ : (s : Shape) × (s.Idx → BitVec 32))).map (·.1)) S512x32 1 := by
  rw [List.map_ofFn]
  exact concatenates_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x32_d1

section
variable (x0 x1 x2 : Vec Ideal S1x1x2048 .f32) (x3 : Vec Ideal S1x2048x3 .f32) (x4 : Vec Ideal S1x512x1 .i32)

set_option maxRecDepth 8192 in
theorem out_eq : out0_5 x0 x1 x2 x3 x4 = View.canon [⟨r0_3, shapeCast S1x512x32 (concatenate S512x32 1
    (List.ofFn fun n : Fin 32 => (⟨S512x1, column (k0_pay98 x0 x1 x2 x3 x4) n.val⟩ : (s : Shape) × (s.Idx → BitVec 32))) (columns_fit _)) shapeCasts_S512x32_S1x512x32⟩] := rfl

theorem step_apply (M : IVec S512x2048 1) (t : IVec S512x1 32) (r : Fin 512) (z : Fin 1) :
    step M t (ix2 r z) = next (fun x => M (ix2 r x)) (t (ix2 r (0 : Fin 1))) := by
  unfold next
  pointwise [step]

theorem taken_apply (M : IVec S512x2048 1) (r : Fin 512) (z : Fin 1) : ∀ k, taken M k (ix2 r z) = scan (fun x => M (ix2 r x)) k
  | 0 => step_apply M _ r z
  | k + 1 => (step_apply M _ r z).trans (congrArg _ (taken_apply M r 0 k))

/-- The kernel's mask marks the points that are not struck out. -/
theorem mask_apply (r : Fin 512) (hw : ((x4 (ix3 (0 : Fin 1) r (0 : Fin 1))) : BitVec 32).toNat < 2048) (x : Fin 2048) :
    k0_pay98 x0 x1 x2 x3 x4 (ix2 r x) = IntOp.xori (struck
      (fun k => ![x0, x1, x2] k (ix3 (0 : Fin 1) (0 : Fin 1) (row (x4 (ix3 (0 : Fin 1) r (0 : Fin 1))))))
      (fun k => ![x0, x1, x2] k (ix3 (0 : Fin 1) (0 : Fin 1) x))) 1#1 := by
  unfold k0_pay98 k0_pay86 k0_pay87 k0_pay88 k0_pay89 k0_pay90 k0_pay91 k0_pay92 k0_pay93 k0_pay94 k0_pay95 k0_pay96 k0_pay97
  rw [View.ld_unit_zero hz, View.ld_unit_zero hz, View.ld_unit_zero hz, View.ld_unit_zero hz]
  pointwise [k0_pay20, k0_pay6, k0_pay7, k0_pay8, k0_pay9, k0_pay10, k0_pay11, k0_pay12, k0_pay14, k0_pay15, k0_pay16, k0_pay17, k0_pay18, k0_pay19]
  rw [sum_hot _ hw fun x => x0 (ix3 0 0 x), sum_hot _ hw fun x => x1 (ix3 0 0 x), sum_hot _ hw fun x => x2 (ix3 0 0 x)]
  rfl

/-- The second block: the centres' coordinates. -/
theorem nxyz_apply (j0 : Fin 1) (r : Fin 512) (hw : ((x4 (ix3 (0 : Fin 1) r (0 : Fin 1))) : BitVec 32).toNat < 2048) (x : Fin 3) :
    k0_pay13 x0 x1 x2 x4 (ix3 j0 r x) = ![x0, x1, x2] x (ix3 (0 : Fin 1) (0 : Fin 1) (row (x4 (ix3 (0 : Fin 1) r (0 : Fin 1))))) := by
  pointwise [k0_pay13, k0_pay6, k0_pay7, k0_pay8, k0_pay9, k0_pay10, k0_pay11, k0_pay12]
  rw [sum_hot _ hw fun x => x0 (ix3 0 0 x), sum_hot _ hw fun x => x1 (ix3 0 0 x), sum_hot _ hw fun x => x2 (ix3 0 0 x)]
  match x with
  | ⟨0, _⟩ => rfl
  | ⟨1, _⟩ => rfl
  | ⟨2, _⟩ => rfl

/-- One column at one row, from the row's mask. -/
theorem column_apply (M : IVec S512x2048 1) (q : Fin 2048 → BitVec 1) (r : Fin 512) (h : ∀ x, M (ix2 r x) = IntOp.xori (q x) 1#1) (z : Fin 1) :
    ∀ (k : Nat) (hk : k < 2048), column M k (ix2 r z) = slot q ⟨k, hk⟩ := by
  have ht : ∀ k (hk : k < 2048), taken M k (ix2 r z) = sorted q ⟨k, hk⟩ := fun k hk => by
    rw [taken_apply, show (fun x => M (ix2 r x)) = fun x => IntOp.xori (q x) 1#1 from funext h, scan_eq_sorted q k hk]
  intro k hk
  cases k with
  | zero => exact (ht 0 hk).trans (slot_zero q).symm
  | succ k =>
    show Scalar.select (IntOp.cmpi .eq (taken M (k + 1) (ix2 r z)) 2048#32) (taken M 0 (ix2 r z)) (taken M (k + 1) (ix2 r z)) = _
    rw [ht (k + 1) hk, ht 0 (by omega)]
    rfl

/-- The first block: the neighbours' index words. -/
theorem idx_apply (j0 : Fin 1) (r : Fin 512) (hw : ((x4 (ix3 (0 : Fin 1) r (0 : Fin 1))) : BitVec 32).toNat < 2048) (k : Fin 32) :
    out0_5 x0 x1 x2 x3 x4 (ix3 j0 r k) = slot (fun x => struck
      (fun k => ![x0, x1, x2] k (ix3 (0 : Fin 1) (0 : Fin 1) (row (x4 (ix3 (0 : Fin 1) r (0 : Fin 1))))))
      (fun k => ![x0, x1, x2] k (ix3 (0 : Fin 1) (0 : Fin 1) x))) ⟨k.val, by omega⟩ := by
  rw [out_eq, View.canon_unit_zero hz]
  pointwise
  exact column_apply _ _ r (mask_apply x0 x1 x2 x3 x4 r hw) 0 k.val _
end

end Cert.Proof.BallBlock
end
-- ==== Proof.BallArray.lean ====
module

public import proofs.«01_k».proof.Proof.BallBlock

@[expose] public section

/-! The ball query's two result arrays: every grid point writes one batch of each, and the batches cover them. -/

noncomputable section

namespace Cert.Proof.BallArray

open Cert.Kernel2Ideal Cert.Kernel2Ideal.Gen Idealize.ShloMosaic Idealize.ShloMosaic.TcCoe Idealize.SL.Sem
open Idealize.ShloMosaic.StableHlo
open Idealize.ShloMosaic.Pipeline (Dat)
open Cert.Proof.OneHot Cert.Proof.Ball

variable (m : (ℓ : Loc nD τ sig) → Buf (Elt Ideal) ℓ) (ρ : Dev nD → PrngReg)

/-- The first coordinates as the region finds them. -/
theorem V_x (c : Dev nD) (b : Fin 16) (z : Fin 1) (n : Fin 2048) :
    (V m c main_v7 : Vec Ideal S16x1x2048 .f32) (ix3 b z n) = m ((c : Thread nD τ).loc main_arg0) (ix3 b n (0 : Fin 3)) := by
  have e : (V m c main_v7 : Vec Ideal S16x1x2048 .f32) = shapeCast _ (shapeCast _ (extractStridedSlice S1x16x2048 ![0, 0, 0]
      (transpose S3x16x2048 [2, 0, 1] (m ((c : Thread nD τ).loc main_arg0)) transposes_S16x2048x3_S3x16x2048_2_0_1)
      slices_S3x16x2048_S1x16x2048_0_0_0) shapeCasts_S1x16x2048_S16x2048) shapeCasts_S16x2048_S16x1x2048 := by
    show StableHlo.after hostOps0 _ _ = _
    simp only [hostOps0]
    after_results_simp <;> rfl
  rw [e]
  pointwise

/-- The second coordinates as the region finds them. -/
theorem V_y (c : Dev nD) (b : Fin 16) (z : Fin 1) (n : Fin 2048) :
    (V m c main_v8 : Vec Ideal S16x1x2048 .f32) (ix3 b z n) = m ((c : Thread nD τ).loc main_arg0) (ix3 b n (1 : Fin 3)) := by
  have e : (V m c main_v8 : Vec Ideal S16x1x2048 .f32) = shapeCast _ (shapeCast _ (extractStridedSlice S1x16x2048 ![1, 0, 0]
      (transpose S3x16x2048 [2, 0, 1] (m ((c : Thread nD τ).loc main_arg0)) transposes_S16x2048x3_S3x16x2048_2_0_1)
      slices_S3x16x2048_S1x16x2048_1_0_0) shapeCasts_S1x16x2048_S16x2048) shapeCasts_S16x2048_S16x1x2048 := by
    show StableHlo.after hostOps0 _ _ = _
    simp only [hostOps0]
    after_results_simp <;> rfl
  rw [e]
  pointwise

/-- The third coordinates as the region finds them. -/
theorem V_z (c : Dev nD) (b : Fin 16) (z : Fin 1) (n : Fin 2048) :
    (V m c main_v9 : Vec Ideal S16x1x2048 .f32) (ix3 b z n) = m ((c : Thread nD τ).loc main_arg0) (ix3 b n (2 : Fin 3)) := by
  have e : (V m c main_v9 : Vec Ideal S16x1x2048 .f32) = shapeCast _ (shapeCast _ (extractStridedSlice S1x16x2048 ![2, 0, 0]
      (transpose S3x16x2048 [2, 0, 1] (m ((c : Thread nD τ).loc main_arg0)) transposes_S16x2048x3_S3x16x2048_2_0_1)
      slices_S3x16x2048_S1x16x2048_2_0_0) shapeCasts_S1x16x2048_S16x2048) shapeCasts_S16x2048_S16x1x2048 := by
    show StableHlo.after hostOps0 _ _ = _
    simp only [hostOps0]
    after_results_simp <;> rfl
  rw [e]
  pointwise

/-- Every window's block is one batch. -/
theorem idx_facts : ∀ t : Fin cfg0.N,
    win0_0.index t (0 : Fin 3) = win0_5.index t (0 : Fin 3) ∧ win0_0.index t (1 : Fin 3) = 0 ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_4.index t (0 : Fin 3) = win0_5.index t (0 : Fin 3) ∧ win0_4.index t (1 : Fin 3) = 0 ∧ win0_4.index t (2 : Fin 3) = 0
    ∧ win0_6.index t (0 : Fin 3) = win0_5.index t (0 : Fin 3) ∧ win0_6.index t (1 : Fin 3) = 0 ∧ win0_6.index t (2 : Fin 3) = 0
    ∧ win0_5.index t (1 : Fin 3) = 0 ∧ win0_5.index t (2 : Fin 3) = 0 ∧ win0_5.index t (0 : Fin 3) < 16 :=
  (by decide +kernel : ∀ t : Fin grid0.N, _)

/-- Every batch belongs to some point. -/
theorem idx_onto : ∀ b : Fin 16, ∃ t : Fin cfg0.N, win0_5.index t (0 : Fin 3) = b.val :=
  (by decide +kernel : ∀ b : Fin 16, ∃ t : Fin grid0.N, win0_5.index t (0 : Fin 3) = b.val)

section
variable (c : Dev nD) (t : Fin cfg0.N) (b : Fin 16) (hb : win0_5.index t (0 : Fin 3) = b.val)
include hb

/-- The block of first coordinates at a point. -/
theorem blk0 (n : Fin 2048) :
    (iblk m c 0 t : Vec Ideal S1x1x2048 .f32) (ix3 (0 : Fin 1) (0 : Fin 1) n) = m ((c : Thread nD τ).loc main_arg0) (ix3 b n (0 : Fin 3)) := by
  have h := idx_facts t
  refine Eq.trans ?_ (V_x m c b 0 n)
  unfold iblk
  rw [View.read_apply]
  show V m c main_v7 _ = V m c main_v7 _
  congr 1
  funext a
  apply Fin.ext
  match a with
  | ⟨0, _⟩ => show win0_0.index t (0 : Fin 3) * 1 + 1 * 0 = b.val; omega
  | ⟨1, _⟩ => show win0_0.index t (1 : Fin 3) * 1 + 1 * 0 = 0; omega
  | ⟨2, _⟩ => show win0_0.index t (2 : Fin 3) * 2048 + 1 * n.val = n.val; omega

/-- The block of second coordinates at a point. -/
theorem blk1 (n : Fin 2048) :
    (iblk m c 1 t : Vec Ideal S1x1x2048 .f32) (ix3 (0 : Fin 1) (0 : Fin 1) n) = m ((c : Thread nD τ).loc main_arg0) (ix3 b n (1 : Fin 3)) := by
  have h := idx_facts t
  refine Eq.trans ?_ (V_y m c b 0 n)
  unfold iblk
  rw [View.read_apply]
  show V m c main_v8 _ = V m c main_v8 _
  congr 1
  funext a
  apply Fin.ext
  match a with
  | ⟨0, _⟩ => show win0_1.index t (0 : Fin 3) * 1 + 1 * 0 = b.val; omega
  | ⟨1, _⟩ => show win0_1.index t (1 : Fin 3) * 1 + 1 * 0 = 0; omega
  | ⟨2, _⟩ => show win0_1.index t (2 : Fin 3) * 2048 + 1 * n.val = n.val; omega

/-- The block of third coordinates at a point. -/
theorem blk2 (n : Fin 2048) :
    (iblk m c 2 t : Vec Ideal S1x1x2048 .f32) (ix3 (0 : Fin 1) (0 : Fin 1) n) = m ((c : Thread nD τ).loc main_arg0) (ix3 b n (2 : Fin 3)) := by
  have h := idx_facts t
  refine Eq.trans ?_ (V_z m c b 0 n)
  unfold iblk
  rw [View.read_apply]
  show V m c main_v9 _ = V m c main_v9 _
  congr 1
  funext a
  apply Fin.ext
  match a with
  | ⟨0, _⟩ => show win0_2.index t (0 : Fin 3) * 1 + 1 * 0 = b.val; omega
  | ⟨1, _⟩ => show win0_2.index t (1 : Fin 3) * 1 + 1 * 0 = 0; omega
  | ⟨2, _⟩ => show win0_2.index t (2 : Fin 3) * 2048 + 1 * n.val = n.val; omega

/-- The three coordinate blocks together. -/
theorem planes (k : Fin 3) (n : Fin 2048) :
    (![iblk m c 0 t, iblk m c 1 t, iblk m c 2 t] : Fin 3 → Vec Ideal S1x1x2048 .f32) k (ix3 (0 : Fin 1) (0 : Fin 1) n)
      = m ((c : Thread nD τ).loc main_arg0) (ix3 b n k) :=
  match k with
  | ⟨0, _⟩ => blk0 m c t b hb n
  | ⟨1, _⟩ => blk1 m c t b hb n
  | ⟨2, _⟩ => blk2 m c t b hb n

/-- The block of the centres' index words at a point. -/
theorem blk4 (r : Fin 512) :
    (iblk m c 4 t : Vec Ideal S1x512x1 .i32) (ix3 (0 : Fin 1) r (0 : Fin 1)) = m ((c : Thread nD τ).loc main_arg1) (ix3 b r (0 : Fin 1)) := by
  have h := idx_facts t
  unfold iblk
  rw [View.read_apply]
  show V m c main_arg1 _ = m (c.tc.loc main_arg1) _
  rw [V_main_arg1]
  congr 1
  funext a
  apply Fin.ext
  match a with
  | ⟨0, _⟩ => show win0_4.index t (0 : Fin 3) * 1 + 1 * 0 = b.val; omega
  | ⟨1, _⟩ => show win0_4.index t (1 : Fin 3) * 512 + 1 * r.val = r.val; omega
  | ⟨2, _⟩ => show win0_4.index t (2 : Fin 3) * 1 + 1 * 0 = 0; omega

end

/-- The index words stay below the number of points. -/
def InRange (c : Dev nD) : Prop := ∀ i, ((m ((c : Thread nD τ).loc main_arg1) i : BitVec 32)).toNat < 2048

/-- The neighbours of the launched arguments. -/
abbrev G5 (c : Dev nD) : Buf (Elt Ideal) ((c : Thread nD τ).loc main_v10_0) :=
  neighbours (m ((c : Thread nD τ).loc main_arg0)) (m ((c : Thread nD τ).loc main_arg1))

/-- The centres of the launched arguments. -/
abbrev G6 (c : Dev nD) : Buf (Elt Ideal) ((c : Thread nD τ).loc main_v10_1) :=
  centres (m ((c : Thread nD τ).loc main_arg0)) (m ((c : Thread nD τ).loc main_arg1))

/-- A block of index words whose inputs are one batch of the arguments is that batch of the neighbours. -/
theorem block_eq (x0 x1 x2 : Vec Ideal S1x1x2048 .f32) (x3 : Vec Ideal S1x2048x3 .f32) (x4 : Vec Ideal S1x512x1 .i32)
    (x : Vec Ideal S16x2048x3 .f32) (f : Vec Ideal S16x512x1 .i32) (b : Fin 16)
    (hx : ∀ k n, (![x0, x1, x2] : Fin 3 → Vec Ideal S1x1x2048 .f32) k (ix3 (0 : Fin 1) (0 : Fin 1) n) = x (ix3 b n k))
    (j0 : Fin 1) (r : Fin 512) (hf : x4 (ix3 (0 : Fin 1) r (0 : Fin 1)) = f (ix3 b r (0 : Fin 1)))
    (hw : (f (ix3 b r (0 : Fin 1))).toNat < 2048) (k : Fin 32) :
    out0_5 x0 x1 x2 x3 x4 (ix3 j0 r k) = neighbours x f (ix3 b r k) := by
  rw [BallBlock.idx_apply x0 x1 x2 x3 x4 j0 r (by rw [hf]; exact hw) k, hf]
  have e : (fun n => struck (fun k => (![x0, x1, x2] : Fin 3 → Vec Ideal S1x1x2048 .f32) k
        (ix3 (0 : Fin 1) (0 : Fin 1) (row (f (ix3 b r (0 : Fin 1))))))
      (fun k => (![x0, x1, x2] : Fin 3 → Vec Ideal S1x1x2048 .f32) k (ix3 (0 : Fin 1) (0 : Fin 1) n))) = outside x f b r := by
    funext n
    simp only [hx]
    rfl
  rw [e]
  rfl

/-- What a point writes back of the index words is its batch of the neighbours. -/
theorem flushed5_eq (c : Dev nD) (h : InRange m c) (t : Fin cfg0.N) :
    (dats m 0 c).flushed 5 t = (win0_5.blk t).view.read (Elt Ideal) (G5 m c) := by
  rw [Value.flushed5]
  show out0_5 (iblk m c 0 t) (iblk m c 1 t) (iblk m c 2 t) (iblk m c 3 t) (iblk m c 4 t) = _
  have hf := idx_facts t
  obtain ⟨b, hb⟩ : ∃ b : Fin 16, win0_5.index t (0 : Fin 3) = b.val := ⟨⟨_, hf.2.2.2.2.2.2.2.2.2.2.2.2.2.2.2.2.2⟩, rfl⟩
  funext j
  rw [View.read_apply]
  obtain ⟨j0, j1, j2, rfl⟩ : ∃ (j0 : Fin 1) (j1 : Fin 512) (j2 : Fin 32), j = ix3 j0 j1 j2 := ⟨j 0, j 1, j 2, eq_ix3 j⟩
  have hi : (win0_5.blk t).view.emb (ix3 j0 j1 j2) = ix3 b j1 j2 := by
    funext a
    apply Fin.ext
    have hj0 := j0.isLt
    match a with
    | ⟨0, _⟩ => show win0_5.index t (0 : Fin 3) * 1 + 1 * j0.val = b.val; omega
    | ⟨1, _⟩ => show win0_5.index t (1 : Fin 3) * 512 + 1 * j1.val = j1.val; omega
    | ⟨2, _⟩ => show win0_5.index t (2 : Fin 3) * 32 + 1 * j2.val = j2.val; omega
  have e := block_eq (iblk m c 0 t) (iblk m c 1 t) (iblk m c 2 t) (iblk m c 3 t) (iblk m c 4 t)
    (m ((c : Thread nD τ).loc main_arg0)) (m ((c : Thread nD τ).loc main_arg1)) b (planes m c t b hb) j0 j1
    (blk4 m c t b hb j1) (h _) j2
  refine Eq.trans e ?_
  show _ = G5 m c ((win0_5.blk t).view.emb (ix3 j0 j1 j2))
  rw [hi]

/-- What a point writes back of the coordinates is its batch of the centres. -/
theorem flushed6_eq (c : Dev nD) (h : InRange m c) (t : Fin cfg0.N) :
    (dats m 0 c).flushed 6 t = (win0_6.blk t).view.read (Elt Ideal) (G6 m c) := by
  rw [Value.flushed6]
  show out0_6 _ _ _ _ _ = _
  unfold out0_6
  rw [View.canon_unit_zero BallBlock.hz, View.ld_unit_zero BallBlock.hz, View.ld_unit_zero BallBlock.hz, View.ld_unit_zero BallBlock.hz,
    View.ld_unit_zero BallBlock.hz]
  have hf := idx_facts t
  obtain ⟨b, hb⟩ : ∃ b : Fin 16, win0_5.index t (0 : Fin 3) = b.val := ⟨⟨_, hf.2.2.2.2.2.2.2.2.2.2.2.2.2.2.2.2.2⟩, rfl⟩
  funext j
  rw [View.read_apply]
  obtain ⟨j0, j1, j2, rfl⟩ : ∃ (j0 : Fin 1) (j1 : Fin 512) (j2 : Fin 3), j = ix3 j0 j1 j2 := ⟨j 0, j 1, j 2, eq_ix3 j⟩
  have e4 := blk4 m c t b hb j1
  refine (BallBlock.nxyz_apply _ _ _ _ j0 j1 (by rw [e4]; exact h _) j2).trans ?_
  rw [e4]
  have hi : (win0_6.blk t).view.emb (ix3 j0 j1 j2) = ix3 b j1 j2 := by
    funext a
    apply Fin.ext
    have hj0 := j0.isLt
    match a with
    | ⟨0, _⟩ => show win0_6.index t (0 : Fin 3) * 1 + 1 * j0.val = b.val; omega
    | ⟨1, _⟩ => show win0_6.index t (1 : Fin 3) * 512 + 1 * j1.val = j1.val; omega
    | ⟨2, _⟩ => show win0_6.index t (2 : Fin 3) * 3 + 1 * j2.val = j2.val; omega
  show _ = G6 m c ((win0_6.blk t).view.emb (ix3 j0 j1 j2))
  rw [hi]
  exact planes m c t b hb j2 _

/-- An index is in a point's block of neighbours when each coordinate is in the block's stretch. -/
theorem mem_blk5 (t : Fin cfg0.N) (i : S16x512x32.Idx) :
    i ∈ ((cfg0.win 5).blk t).view.set ↔ ∀ a : Fin 3, win0_5.index t a * win0_5.size a ≤ (i a : Nat)
      ∧ (i a : Nat) < win0_5.index t a * win0_5.size a + win0_5.xsize (grid0.coords t) a := by
  show i ∈ ((View.whole main_v10_0).slice (win0_5.rect t)).set ↔ _
  rw [View.set_slice_whole, Rect.mem_set_unit]
  exact Iff.rfl

/-- The same for the block of centres. -/
theorem mem_blk6 (t : Fin cfg0.N) (i : S16x512x3.Idx) :
    i ∈ ((cfg0.win 6).blk t).view.set ↔ ∀ a : Fin 3, win0_6.index t a * win0_6.size a ≤ (i a : Nat)
      ∧ (i a : Nat) < win0_6.index t a * win0_6.size a + win0_6.xsize (grid0.coords t) a := by
  show i ∈ ((View.whole main_v10_1).slice (win0_6.rect t)).set ↔ _
  rw [View.set_slice_whole, Rect.mem_set_unit]
  exact Iff.rfl

/-- The blocks cover the array of neighbours. -/
theorem cover5 (i : S16x512x32.Idx) : ∃ t : Fin cfg0.N, (cfg0.win 5).flush t = true ∧ i ∈ ((cfg0.win 5).blk t).view.set := by
  have h0 : (i 0 : Nat) < 16 := (i 0).isLt
  have h1 : (i 1 : Nat) < 512 := (i 1).isLt
  have h2 : (i 2 : Nat) < 32 := (i 2).isLt
  obtain ⟨t, e0⟩ := idx_onto ⟨(i 0 : Nat), h0⟩
  dsimp only at e0
  have hf := idx_facts t
  refine ⟨t, flush0_5 _, ?_⟩
  rw [mem_blk5]
  intro a
  match a with
  | ⟨0, _⟩ =>
    show win0_5.index t (0 : Fin 3) * 1 ≤ (i 0 : Nat) ∧ (i 0 : Nat) < win0_5.index t (0 : Fin 3) * 1 + 1
    omega
  | ⟨1, _⟩ =>
    show win0_5.index t (1 : Fin 3) * 512 ≤ (i 1 : Nat) ∧ (i 1 : Nat) < win0_5.index t (1 : Fin 3) * 512 + 512
    omega
  | ⟨2, _⟩ =>
    show win0_5.index t (2 : Fin 3) * 32 ≤ (i 2 : Nat) ∧ (i 2 : Nat) < win0_5.index t (2 : Fin 3) * 32 + 32
    omega

/-- The blocks cover the array of centres. -/
theorem cover6 (i : S16x512x3.Idx) : ∃ t : Fin cfg0.N, (cfg0.win 6).flush t = true ∧ i ∈ ((cfg0.win 6).blk t).view.set := by
  have h0 : (i 0 : Nat) < 16 := (i 0).isLt
  have h1 : (i 1 : Nat) < 512 := (i 1).isLt
  have h2 : (i 2 : Nat) < 3 := (i 2).isLt
  obtain ⟨t, e0⟩ := idx_onto ⟨(i 0 : Nat), h0⟩
  dsimp only at e0
  have hf := idx_facts t
  refine ⟨t, flush0_6 _, ?_⟩
  rw [mem_blk6]
  intro a
  match a with
  | ⟨0, _⟩ =>
    show win0_6.index t (0 : Fin 3) * 1 ≤ (i 0 : Nat) ∧ (i 0 : Nat) < win0_6.index t (0 : Fin 3) * 1 + 1
    omega
  | ⟨1, _⟩ =>
    show win0_6.index t (1 : Fin 3) * 512 ≤ (i 1 : Nat) ∧ (i 1 : Nat) < win0_6.index t (1 : Fin 3) * 512 + 512
    omega
  | ⟨2, _⟩ =>
    show win0_6.index t (2 : Fin 3) * 3 ≤ (i 2 : Nat) ∧ (i 2 : Nat) < win0_6.index t (2 : Fin 3) * 3 + 3
    omega

/-- The array of neighbours after the run. -/
theorem final5 (c : Dev nD) (h : InRange m c) : (dats m 0 c).arrAt 5 cfg0.N = G5 m c :=
  (dats m 0 c).arrAt_eq_of_cover 5 (G5 m c) (fun t _ => flushed5_eq m c h t) cover5

/-- The array of centres after the run. -/
theorem final6 (c : Dev nD) (h : InRange m c) : (dats m 0 c).arrAt 6 cfg0.N = G6 m c :=
  (dats m 0 c).arrAt_eq_of_cover 6 (G6 m c) (fun t _ => flushed6_eq m c h t) cover6

end Cert.Proof.BallArray
end
-- ==== Proof.BallSpec.lean ====
module

public import proofs.«01_k».proof.Proof.Gen.Reference2Ideal
public import proofs.«01_k».proof.Proof.Gen.Reference2Ideal.Run
public import proofs.«01_k».proof.Proof.PairGather
public import proofs.«01_k».proof.Proof.Ball

@[expose] public section

/-! The ball query's reference, index by index. -/

noncomputable section

namespace Cert.Proof.BallSpec

open Cert.Reference2Ideal Cert.Reference2Ideal.Gen Cert.Reference2Ideal.Value Idealize.ShloMosaic Idealize.ShloMosaic.TcCoe
open Cert.Proof.OneHot Cert.Proof.PairGather Cert.Proof.Ball Cert.Proof.Scan

variable (m : (ℓ : Loc nD τ sig) → Buf (Elt Ideal) ℓ)

/-- A batch number as an index word, wrapped, is itself. -/
theorem batch_word (b : Fin 16) (a : BitVec 32) :
    (Scalar.select (IntOp.cmpi .slt (BitVec.ofNat 32 b.val) 0#32) a (BitVec.ofNat 32 b.val)).toInt.toNat = b.val := by
  have h : (BitVec.ofNat 32 b.val).toNat = b.val := by
    have := b.isLt
    rw [BitVec.toNat_ofNat]; omega
  have h' : (BitVec.ofNat 32 b.val).toNat < 2048 := by omega
  rw [wrap_of_lt _ _ h', toInt_of_lt _ h', h]

/-- An in-range index word, wrapped, names its row. -/
theorem row_word (w a : BitVec 32) (h : w.toNat < 2048) :
    (Scalar.select (IntOp.cmpi .slt w 0#32) a w).toInt.toNat = (row w).val := by
  rw [wrap_of_lt _ _ h, toInt_of_lt _ h, row_val _ h]

/-- The sort along the last axis at one index. -/
theorem sort_apply (v : IVec S16x512x2048 32) (q : Fin 2048 → BitVec 1) (b : Fin 16) (r : Fin 512) (z : Fin 2048)
    (h : ∀ x, v (ix3 b r x) = kept q x) : Host.sort S16x512x2048 2 comparator_i32_d2 v (ix3 b r z) = sorted q z := by
  have ha : ∀ x : Fin 2048, (ix3 b r z : S16x512x2048.Idx).along (2 : Fin 3) x = ix3 b r x := fun x => by
    funext a
    match a with
    | ⟨0, _⟩ => rfl
    | ⟨1, _⟩ => rfl
    | ⟨2, _⟩ => rfl
  have hv : (fun x : Fin 2048 => v ((ix3 b r z : S16x512x2048.Idx).along (2 : Fin 3) x)) = kept q := funext fun x => by rw [ha, h]
  show (fun x : Fin 2048 => v ((ix3 b r z : S16x512x2048.Idx).along (2 : Fin 3) x)) (sortedFrom (fun a a' => comparator_i32_d2
    ((fun x : Fin 2048 => v ((ix3 b r z : S16x512x2048.Idx).along (2 : Fin 3) x)) a)
    ((fun x : Fin 2048 => v ((ix3 b r z : S16x512x2048.Idx).along (2 : Fin 3) x)) a') == 1#1) z) = _
  rw [hv]
  rfl

/-- The sorted, cut and refilled words at one index, when the words before the sort are known along the row. -/
theorem sorted_apply (v : IVec S16x512x2048 32) (q : Fin 2048 → BitVec 1) (b : Fin 16) (r : Fin 512) (k : Fin 32)
    (h : ∀ x, v (ix3 b r x) = kept q x) :
    (select (cmpi .eq (extractStridedSlice S16x512x32 ![0, 0, 0] (Host.sort S16x512x2048 2 comparator_i32_d2 v) slices_S16x512x2048_S16x512x32_0_0_0)
        (broadcastInDim S16x512x32 ![] bcast_S_S16x512x32 (constantI S_ 32 2048#32)))
      (shapeCast S16x512x32 (broadcastInDim S16x512x1x32 ![0, 1, 2] bcast_S16x512x1_S16x512x1x32_0_1_2 (extractStridedSlice S16x512x1 ![0, 0, 0]
        (extractStridedSlice S16x512x32 ![0, 0, 0] (Host.sort S16x512x2048 2 comparator_i32_d2 v) slices_S16x512x2048_S16x512x32_0_0_0)
        slices_S16x512x32_S16x512x1_0_0_0)) shapeCasts_S16x512x1x32_S16x512x32)
      (extractStridedSlice S16x512x32 ![0, 0, 0] (Host.sort S16x512x2048 2 comparator_i32_d2 v) slices_S16x512x2048_S16x512x32_0_0_0) : IVec S16x512x32 32)
      (ix3 b r k) = slot q ⟨k.val, by omega⟩ := by
  have e : ∀ z : Fin 2048, Host.sort S16x512x2048 2 comparator_i32_d2 v (ix3 b r z) = sorted q z := fun z => sort_apply v q b r z h
  pointwise
  rw [e, e]
  rfl

/-- The gather of the centres' coordinates, from index words read as (batch, row). -/
theorem centres_apply (c : Dev nD) (h1 : ∀ i, ((m ((c : Thread nD τ).loc main_arg1) i : BitVec 32)).toNat < 2048)
    (idx : IVec S16x512x2 32) (hb : ∀ (b : Fin 16) (s : Fin 512), (idx (ix3 b s (0 : Fin 2))).toInt.toNat = b.val)
    (hn : ∀ (b : Fin 16) (s : Fin 512), (idx (ix3 b s (1 : Fin 2))).toInt.toNat = (row (m ((c : Thread nD τ).loc main_arg1) (ix3 b s (0 : Fin 1)))).val) :
    Host.gather gather_S16x2048x3_S16x512x2_S16x512x3_2_01_n_n_01_2_113 (m ((c : Thread nD τ).loc main_arg0)) idx
      = centres (m ((c : Thread nD τ).loc main_arg0)) (m ((c : Thread nD τ).loc main_arg1)) := by
  funext j
  obtain ⟨j0, j1, j2, rfl⟩ : ∃ (j0 : Fin 16) (j1 : Fin 512) (j2 : Fin 3), j = ix3 j0 j1 j2 := ⟨j 0, j 1, j 2, eq_ix3 j⟩
  exact gather3_apply _ _ _ _ _ _ j0 _ (hb _ _) (hn _ _)

/-- The first result: the neighbours' index words. -/
theorem res_apply (c : Dev nD) (h1 : ∀ i, ((m ((c : Thread nD τ).loc main_arg1) i : BitVec 32)).toNat < 2048) :
    (res_main_v45 m c : IVec S16x512x32 32) =
      neighbours (m ((c : Thread nD τ).loc main_arg0)) (m ((c : Thread nD τ).loc main_arg1)) := by
  unfold res_main_v45
  generalize hG : Host.gather gather_S16x2048x3_S16x512x2_S16x512x3_2_01_n_n_01_2_113 _ _ = G
  have hC : G = centres (m ((c : Thread nD τ).loc main_arg0)) (m ((c : Thread nD τ).loc main_arg1)) := by
    rw [← hG]
    refine centres_apply m c h1 _ (fun b s => ?_) (fun b s => ?_)
    · pointwise
      exact batch_word _ _
    · pointwise
      exact row_word _ _ (h1 _)
  subst hC
  clear hG
  funext j
  obtain ⟨j0, j1, j2, rfl⟩ : ∃ (j0 : Fin 16) (j1 : Fin 512) (j2 : Fin 32), j = ix3 j0 j1 j2 := ⟨j 0, j 1, j 2, eq_ix3 j⟩
  refine sorted_apply _ (outside (m ((c : Thread nD τ).loc main_arg0)) (m ((c : Thread nD τ).loc main_arg1)) j0 j1) j0 j1 j2 fun x => ?_
  pointwise
  simp only [Fin.sum_univ_three]
  split
  · rename_i hlt
    have e : outside (m ((c : Thread nD τ).loc main_arg0)) (m ((c : Thread nD τ).loc main_arg1)) j0 j1 x = 1#1 :=
      struck_pos (c := fun k => centres (m ((c : Thread nD τ).loc main_arg0)) (m ((c : Thread nD τ).loc main_arg1)) (ix3 j0 j1 k))
        (p := fun k => m ((c : Thread nD τ).loc main_arg0) (ix3 j0 x k)) hlt
    unfold kept
    rw [e]
    rfl
  · rename_i hlt
    have e : outside (m ((c : Thread nD τ).loc main_arg0)) (m ((c : Thread nD τ).loc main_arg1)) j0 j1 x = 0#1 :=
      struck_neg (c := fun k => centres (m ((c : Thread nD τ).loc main_arg0)) (m ((c : Thread nD τ).loc main_arg1)) (ix3 j0 j1 k))
        (p := fun k => m ((c : Thread nD τ).loc main_arg0) (ix3 j0 x k)) hlt
    unfold kept
    rw [e]
    rfl

end Cert.Proof.BallSpec
end
-- ==== Proof.BallClaims.lean ====
module

public import proofs.«01_k».proof.Defs
public import proofs.«01_k».proof.Proof.Gen.Kernel2
public import proofs.«01_k».proof.Proof.Gen.Kernel2.Frame
public import proofs.«01_k».proof.Proof.Gen.Pre_centres_in_range
public import proofs.«01_k».proof.Proof.BallArray
public import proofs.«01_k».proof.Proof.BallSpec

@[expose] public section

/-! The claims about the ball query's call. -/

noncomputable section

namespace Cert.Proof.BallQuery

open Idealize.ShloMosaic Idealize.ShloMosaic.TcCoe Idealize.SL.Sem
open Cert.Proof.OneHot

theorem frame_kernel : Cert.quiescent_Kernel2 := fun m g _ => Cert.Kernel2.Gen.frame m g

theorem frame_ideal : Cert.quiescent_Kernel2Ideal := fun m g _ => Cert.Kernel2Ideal.Gen.frame m g

theorem frame_ideal_pre : Cert.quiescent_Kernel2Ideal_pre_centres_in_range := fun m g _ => Cert.Kernel2Ideal.Gen.frame m g

theorem frame_ref : Cert.quiescent_Reference2Ideal := fun m g _ =>
  (θ_run Cert.Reference2Ideal.defs _ _).mono
    (fun r h => ⟨fun c => (h c).2.2, sem_eq_zero_of_no_sems (by decide) r.2⟩) (Cert.Reference2Ideal.Value.run (F := Ideal) m g)

theorem frame_ref_pre : Cert.quiescent_Reference2Ideal_pre_centres_in_range := fun m g _ => frame_ref m g trivial

/-- The precondition says the index words stay below the number of points. -/
theorem inRange (m : (ℓ : Loc Cert.Kernel2Ideal.nD Cert.Kernel2Ideal.τ Cert.Kernel2Ideal.sig) → Buf (Elt Ideal) ℓ)
    (h : Cert.Pre_Kernel2Ideal_centres_in_range m) (c : Dev Cert.Kernel2Ideal.nD) : BallArray.InRange m c :=
  fun i => lt_of_test _ (congrFun (h c) i)

theorem value : Cert.algebraic_Kernel2Ideal_Reference2Ideal_pre_centres_in_range := by
  intro m g m' g' hpre hagree
  refine ⟨fun c => BallArray.G5 m c, fun c => BallArray.G6 m c, ?_, ?_⟩
  · exact (θ_run Cert.Kernel2Ideal.defs _ _).mono
      (fun r h c => ⟨(h c).1.trans (BallArray.final5 m c (inRange m hpre c)),
        (h c).2.1.trans (BallArray.final6 m c (inRange m hpre c)), (h c).2.2⟩)
      (Cert.Kernel2Ideal.Value.run_blocks m g)
  · refine (θ_run Cert.Reference2Ideal.defs _ _).mono
      (fun r h c => ⟨(h c).1.trans ?_, (h c).2.1.trans ?_, (h c).2.2⟩)
      (Cert.Reference2Ideal.Value.run m' g')
    · obtain ⟨a0, a1⟩ := hagree c
      refine (BallSpec.res_apply m' c ?_).trans ?_
      · rw [a1]; exact inRange m hpre c
      · rw [a0, a1]
    · obtain ⟨a0, a1⟩ := hagree c
      refine (BallSpec.centres_apply m' c ?_ _ (fun b s => ?_) (fun b s => ?_)).trans ?_
      · rw [a1]; exact inRange m hpre c
      · pointwise
        exact BallSpec.batch_word _ _
      · pointwise
        exact BallSpec.row_word _ _ (by rw [a1]; exact inRange m hpre c _)
      · rw [a0, a1]

end Cert.Proof.BallQuery
end
-- ==== Proof.Far.lean ====
module

public import proofs.«01_k».proof.Proof.OneHot

@[expose] public section

/-! Farthest point sampling of one batch: the squared distances to the nearest point chosen so far, and the first
point where that distance is largest, chosen next. -/

noncomputable section

namespace Cert.Far

open Idealize.ShloMosaic

/-- `p` is the first index where `d` is largest. -/
def IsFirst {N : Nat} (d : Fin N → EReal) (p : Fin N) : Prop := (∀ n, d n ≤ d p) ∧ ∀ n, n < p → d n < d p

theorem IsFirst.unique {N : Nat} {d : Fin N → EReal} {p q : Fin N} (hp : IsFirst d p) (hq : IsFirst d q) : p = q := by
  rcases lt_trichotomy p q with h | h | h
  · exact absurd (hp.1 q) (not_le.mpr (hq.2 p h))
  · exact h
  · exact absurd (hq.1 p) (not_le.mpr (hp.2 q h))

theorem exists_isFirst (d : Fin 2048 → EReal) : ∃ p, IsFirst d p := by
  obtain ⟨m, hm⟩ := Finite.exists_max d
  have hex : ∃ k, ∃ h : k < 2048, d ⟨k, h⟩ = d m := ⟨m.val, m.isLt, rfl⟩
  classical
  obtain ⟨h, e⟩ := Nat.find_spec hex
  refine ⟨⟨Nat.find hex, h⟩, fun n => (hm n).trans_eq e.symm, fun n hn => ?_⟩
  rw [e]
  exact lt_of_le_of_ne (hm n) fun h' => Nat.find_min hex hn ⟨n.isLt, h'⟩

/-- The first index where `d` is largest. -/
def first (d : Fin 2048 → EReal) : Fin 2048 := Classical.choose (exists_isFirst d)

theorem first_isFirst (d : Fin 2048 → EReal) : IsFirst d (first d) := Classical.choose_spec (exists_isFirst d)

theorem eq_first {d : Fin 2048 → EReal} {p : Fin 2048} (h : IsFirst d p) : p = first d := h.unique (first_isFirst d)

/-- The squared distance of points `n` and `p`. -/
def gap (x y z : Fin 2048 → EReal) (p n : Fin 2048) : EReal :=
  (x n - x p) * (x n - x p) + (y n - y p) * (y n - y p) + (z n - z p) * (z n - z p)

/-- The distance every point starts with. -/
def start : EReal := FloatOps.ofBits (F := Ideal) FTy.f32 0x501502F9#32

/-- The distances kept and the point chosen, before trip `k`. -/
def state (x y z : Fin 2048 → EReal) (f : Fin 2048) : ℕ → (Fin 2048 → EReal) × Fin 2048
  | 0 => (fun _ => start, f)
  | k + 1 =>
    let d := fun n => min ((state x y z f k).1 n) (gap x y z (state x y z f k).2 n)
    (d, first d)

/-- The chosen points: batch `j 0`, choice `j 1`. -/
def chosen (p : (⟨3, ![16, 2048, 3]⟩ : Shape).Idx → EReal) (f : IVec ⟨1, ![16]⟩ 32) : IVec ⟨2, ![16, 512]⟩ 32 := fun j =>
  BitVec.ofNat 32 (state (fun n => p (ix3 (j 0) n (0 : Fin 3))) (fun n => p (ix3 (j 0) n (1 : Fin 3)))
    (fun n => p (ix3 (j 0) n (2 : Fin 3))) (Cert.Proof.OneHot.row (f (ix1 (j 0)))) (j 1).val).2.val

end Cert.Far
end
-- ==== Proof.FarBlock.lean ====
module

public import proofs.«01_k».proof.Proof.Gen.Kernel3Ideal.Value
public import proofs.«01_k».proof.Proof.Far
public import Idealize.ShloMosaic.Lib.VecWindow

@[expose] public section

/-! The farthest point kernel's block, index by index: each trip's three carried arrays from those before it, and by
induction over the trips the array of chosen points. -/

noncomputable section

namespace Cert.Far.Block

open Cert.Kernel3Ideal Cert.Kernel3Ideal.Gen Idealize.ShloMosaic Idealize.ShloMosaic.TcCoe
open Cert.Proof.OneHot

variable (v0 v2 v4 : Vec Ideal S16x2048 .f32) (d : FVec Ideal S16x2048 .f32) (oh : Vec Ideal S16x2048 .f32) (cent : IVec S16x512 32)

/-- The word of an index below 2048, read signed, is the index. -/
theorem toInt_word (n : Nat) (h : n < 2048) : (BitVec.ofNat 32 n).toInt = n := by
  rw [BitVec.toInt_eq_toNat_of_lt (by rw [BitVec.toNat_ofNat]; omega), BitVec.toNat_ofNat]
  omega

/-- Two indices with one word are one index. -/
theorem word_inj {a b : Fin 2048} : BitVec.ofNat 32 a.val = BitVec.ofNat 32 b.val ↔ a = b := by
  constructor
  · intro h
    have h' := congrArg BitVec.toInt h
    rw [toInt_word _ a.isLt, toInt_word _ b.isLt] at h'
    exact Fin.ext (by exact_mod_cast h')
  · rintro rfl; rfl

/-- The signed smaller of two words, read signed. -/
theorem toInt_minsi (a b : BitVec 32) : (IntOp.minsi a b).toInt = min a.toInt b.toInt := by
  unfold IntOp.minsi
  rcases lt_or_ge a.toInt b.toInt with h | h
  · simp [BitVec.slt, h, h.le]
  · simp [BitVec.slt, not_lt.mpr h, h]

/-- The smallest word of the indices passing a test is the first such index's. -/
theorem fold_minsi (P : Fin 2048 → Prop) [DecidablePred P] (p : Fin 2048) (hp : P p) (hlt : ∀ n, P n → p ≤ n) :
    Finset.fold IntOp.minsi (2147483647#32) (fun x : Fin 2048 => if P x then BitVec.ofNat 32 x.val else 2048#32) Finset.univ
      = BitVec.ofNat 32 p.val := by
  apply BitVec.eq_of_toInt_eq
  have e := Finset.fold_hom (op := IntOp.minsi) (op' := (min : Int → Int → Int)) (m := BitVec.toInt) (b := 2147483647#32)
    (f := fun x : Fin 2048 => if P x then BitVec.ofNat 32 x.val else 2048#32) (s := Finset.univ) toInt_minsi
  rw [← e, toInt_word _ p.isLt]
  apply le_antisymm
  · rw [Finset.fold_min_le]
    refine .inr ⟨p, Finset.mem_univ _, ?_⟩
    rw [if_pos hp, toInt_word _ p.isLt]
  · rw [Finset.le_fold_min]
    have hlt' := p.isLt
    refine ⟨?_, fun x _ => ?_⟩
    · have : (2147483647#32).toInt = 2147483647 := by decide
      rw [this]; omega
    · split
      · next h =>
        rw [toInt_word _ x.isLt]
        exact_mod_cast hlt x h
      · have : (2048#32).toInt = 2048 := by decide
        rw [this]; omega

/-- The word below every value. -/
theorem bot_word : Ideal.ofBits FTy.f32 4286578688#32 = (⊥ : EReal) := by
  simp [Ideal.ofBits, Ideal.ieee]

/-- The largest of a row's values is the value at the first index where it stands. -/
theorem fold_max (e : Fin 2048 → EReal) : Finset.fold max (Ideal.ofBits FTy.f32 4286578688#32) e Finset.univ = e (first e) := by
  rw [bot_word]
  apply le_antisymm
  · rw [Finset.fold_max_le]
    exact ⟨bot_le, fun x _ => (first_isFirst e).1 x⟩
  · rw [Finset.le_fold_max]
    exact .inr ⟨first e, Finset.mem_univ _, le_rfl⟩

/-- The distances after a trip. -/
theorem pay5_apply (b : Fin 16) (p n : Fin 2048) (h : ∀ x, oh (ix2 b x) = if x = p then 1 else 0) :
    k0_pay5 v0 v2 v4 d oh (ix2 b n)
      = min (d (ix2 b n)) (gap (fun n => v0 (ix2 b n)) (fun n => v2 (ix2 b n)) (fun n => v4 (ix2 b n)) p n) := by
  pointwise [k0_pay5]
  simp only [h, mul_ite, mul_one, mul_zero, Finset.sum_ite_eq', Finset.mem_univ, if_true]
  rfl

/-- The one-hot row after a trip. -/
theorem pay6_apply (b : Fin 16) (n : Fin 2048) :
    k0_pay6 v0 v2 v4 d oh (ix2 b n) = if n = first (fun x => k0_pay5 v0 v2 v4 d oh (ix2 b x)) then 1 else 0 := by
  unfold k0_pay6
  generalize k0_pay5 v0 v2 v4 d oh = e
  pointwise
  rw [fold_max, fold_minsi (fun x => e (ix2 b x) = e (ix2 b (first fun x => e (ix2 b x)))) (first fun x => e (ix2 b x)) rfl, hot_eq]
  · simp only [word_inj]
  · intro x hx
    by_contra hlt
    exact absurd hx (ne_of_lt ((first_isFirst fun x => e (ix2 b x)).2 x (not_le.mp hlt)))

/-- The sum of the words of the indices in a one-hot row is its index's. -/
theorem fold_addi (p : Fin 2048) (o : Fin 2048 → EReal) (h : ∀ x, o x = if x = p then 1 else 0) :
    Finset.fold IntOp.addi (0#32) (fun x : Fin 2048 => if 0 < o x then BitVec.ofNat 32 x.val else 0#32) Finset.univ
      = BitVec.ofNat 32 p.val := by
  have e : (fun x : Fin 2048 => if 0 < o x then BitVec.ofNat 32 x.val else 0#32) = fun x => if x = p then BitVec.ofNat 32 x.val else 0#32 := by
    funext x
    rw [h]
    by_cases hx : x = p
    · simp [hx]
    · simp [hx]
  rw [e]
  have key : ∀ s : Finset (Fin 2048), Finset.fold IntOp.addi (0#32) (fun x : Fin 2048 => if x = p then BitVec.ofNat 32 x.val else 0#32) s
      = if p ∈ s then BitVec.ofNat 32 p.val else 0#32 := by
    intro s
    induction s using Finset.induction_on with
    | empty => simp
    | insert a s ha ih =>
      rw [Finset.fold_insert ha, ih]
      by_cases h : a = p
      · subst h
        rw [if_pos rfl, if_neg ha, if_pos (Finset.mem_insert_self _ _)]
        exact BitVec.add_zero _
      · rw [if_neg h]
        simp only [Finset.mem_insert, Ne.symm h, false_or]
        exact BitVec.zero_add _
  rw [key, if_pos (Finset.mem_univ _)]

/-- The loop counter is the trip's number. -/
theorem counter (k : Fin k0_t1_loop.trips) : Scf.iv 0#32 1#32 k.val = BitVec.ofNat 32 k.val := by
  simp [Scf.iv]

/-- The chosen points after a trip. -/
theorem pay4_apply (k : Fin k0_t1_loop.trips) (b : Fin 16) (s : Fin 512) (p : Fin 2048) (h : ∀ x, oh (ix2 b x) = if x = p then 1 else 0) :
    k0_pay4 (F := Ideal) k oh cent (ix2 b s) = if s.val = k.val then BitVec.ofNat 32 p.val else cent (ix2 b s) := by
  pointwise [k0_pay4]
  rw [fold_addi p _ h]
  have hk : k.val < 512 := k.isLt
  have hc : IntOp.cmpi .eq (BitVec.ofNat 32 s.val) (Scf.iv 0#32 1#32 k.val) = if s.val = k.val then 1#1 else 0#1 := by
    rw [counter]
    have := @word_inj ⟨s.val, by omega⟩ ⟨k.val, by omega⟩
    simp only [Fin.mk.injEq] at this
    simp only [IntOp.cmpi]
    by_cases hs : s.val = k.val
    · simp [hs]
    · rw [if_neg hs]
      have hb : (BitVec.ofNat 32 s.val == BitVec.ofNat 32 k.val) = false := beq_eq_false_iff_ne.mpr fun h => hs (this.mp h)
      rw [hb]; rfl
  rw [hc]
  split <;> rfl

/-- The value carried through a loop has, at the end, what holds at its start and is carried by each trip. -/
theorem fold_induct {n : Nat} {σ : Type} (P : Nat → σ → Prop) (g : Fin n → σ → σ) (a : σ) (h0 : P 0 a)
    (hs : ∀ (k : Fin n) a, P k.val a → P (k.val + 1) (g k a)) : P n (Scf.fold g a) := by
  rw [Scf.fold_eq]
  have key : ∀ j (hj : j ≤ n) , P j (((List.finRange n).take j).foldl (fun acc k => g k acc) a) := by
    intro j
    induction j with
    | zero => intro _; simpa using h0
    | succ j ih =>
      intro hj
      have e : (List.finRange n).take (j + 1) = (List.finRange n).take j ++ [⟨j, hj⟩] := by
        rw [List.take_succ, List.getElem?_eq_getElem (by simpa using hj)]
        simp
      rw [e, List.foldl_append]
      exact hs ⟨j, hj⟩ _ (ih (by omega))
  have := key n le_rfl
  rwa [List.take_of_length_le (by simp)] at this

/-- A trip of the loop. -/
def trip (k : Fin k0_t1_loop.trips) (a : FVec Ideal S16x2048 .f32 × FVec Ideal S16x2048 .f32 × IVec S16x512 32) :
    FVec Ideal S16x2048 .f32 × FVec Ideal S16x2048 .f32 × IVec S16x512 32 :=
  (k0_pay5 v0 v2 v4 a.1 a.2.1, k0_pay6 v0 v2 v4 a.1 a.2.1, k0_pay4 k a.2.1 a.2.2)

/-- What is carried before trip `k`, in terms of the sampling of each batch. -/
def Carried (f : Fin 16 → Fin 2048) (k : Nat) (a : FVec Ideal S16x2048 .f32 × FVec Ideal S16x2048 .f32 × IVec S16x512 32) : Prop :=
  ∀ b : Fin 16,
    let st := state (fun n => v0 (ix2 b n)) (fun n => v2 (ix2 b n)) (fun n => v4 (ix2 b n)) (f b)
    (∀ n, a.1 (ix2 b n) = (st k).1 n) ∧ (∀ n, a.2.1 (ix2 b n) = if n = (st k).2 then 1 else 0)
      ∧ ∀ s : Fin 512, s.val < k → a.2.2 (ix2 b s) = BitVec.ofNat 32 (st s.val).2.val

theorem carried_trip (f : Fin 16 → Fin 2048) (k : Fin k0_t1_loop.trips) (a) (h : Carried v0 v2 v4 f k.val a) :
    Carried v0 v2 v4 f (k.val + 1) (trip v0 v2 v4 k a) := by
  intro b
  obtain ⟨h1, h2, h3⟩ := h b
  intro st
  have e : ∀ n, k0_pay5 v0 v2 v4 a.1 a.2.1 (ix2 b n) = (st (k.val + 1)).1 n := fun n => by
    rw [pay5_apply _ _ _ _ _ b _ n h2, h1]
    rfl
  refine ⟨e, fun n => ?_, fun s hs => ?_⟩
  · show k0_pay6 v0 v2 v4 a.1 a.2.1 (ix2 b n) = _
    rw [pay6_apply, funext e]
    rfl
  · show k0_pay4 k a.2.1 a.2.2 (ix2 b s) = _
    rw [pay4_apply _ _ k b s _ h2]
    by_cases hk : s.val = k.val
    · rw [if_pos hk, hk]
    · rw [if_neg hk]
      exact h3 s (by omega)

/-- The chosen points of a block whose start is a one-hot row per batch. -/
theorem loop_apply (f : Fin 16 → Fin 2048) (h : ∀ b x, oh (ix2 b x) = if x = f b then 1 else 0) (b : Fin 16) (s : Fin 512) :
    (Scf.fold (trip v0 v2 v4) (k0_pay1 (F := Ideal), k0_pay3 oh, k0_pay2)).2.2 (ix2 b s)
      = BitVec.ofNat 32 (state (fun n => v0 (ix2 b n)) (fun n => v2 (ix2 b n)) (fun n => v4 (ix2 b n)) (f b) s.val).2.val := by
  have h0 : Carried v0 v2 v4 f 0 (k0_pay1 (F := Ideal), k0_pay3 oh, k0_pay2) := by
    intro b
    refine ⟨fun n => ?_, fun n => ?_, fun s hs => absurd hs (by omega)⟩
    · show k0_pay1 (F := Ideal) (ix2 b n) = start
      rfl
    · show k0_pay3 oh (ix2 b n) = _
      have e : k0_pay3 oh (ix2 b n) = oh (ix2 b n) := by pointwise [k0_pay3]
      rw [e]
      exact h b n
  exact (fold_induct (Carried v0 v2 v4 f) (trip v0 v2 v4) _ h0 (carried_trip v0 v2 v4 f) b).2.2 s s.isLt

theorem hz : (![0, 0] : Fin 2 → Nat) = fun _ => 0 := by funext a; fin_cases a <;> rfl

/-- What a run of the body leaves in the output's buffer: the third of the carried arrays. -/
theorem out_eq (c : Dev nD) (arg0 : Memref sig .tc .vmem S16x2048 .f32) (harg0 : arg0.IsWhole) (arg1 : Memref sig .tc .vmem S16x2048 .f32) (harg1 : arg1.IsWhole) (arg2 : Memref sig .tc .vmem S16x2048 .f32) (harg2 : arg2.IsWhole) (arg3 : Memref sig .tc .vmem S16x2048 .f32) (harg3 : arg3.IsWhole) (arg4 : Memref sig .tc .vmem S16x512 .i32) (harg4 : arg4.IsWhole) :
    out0_A_4 c arg0 harg0 arg1 harg1 arg2 harg2 arg3 harg3 arg4 harg4 v0 v2 v4 oh
      = (Scf.fold (trip v0 v2 v4) (k0_pay1 (F := Ideal), k0_pay3 oh, k0_pay2)).2.2 := by
  unfold out0_A_4 kernelRun0_A kernelRun0_A.sl.r
  rw [View.read_writes_junk_eq_canon, View.canon_unit_zero hz]
  rw [show View.readAt (Elt Ideal) arg0.view (Rect.unit ![0, 0] S16x2048.size inb_S16x2048_S16x2048_0_0).toLoadRect (harg0.unread v0) = v0 from
      (View.readAt_full arg0.view _ _).trans (harg0.read_unread v0),
    show View.readAt (Elt Ideal) arg1.view (Rect.unit ![0, 0] S16x2048.size inb_S16x2048_S16x2048_0_0).toLoadRect (harg1.unread v2) = v2 from
      (View.readAt_full arg1.view _ _).trans (harg1.read_unread v2),
    show View.readAt (Elt Ideal) arg2.view (Rect.unit ![0, 0] S16x2048.size inb_S16x2048_S16x2048_0_0).toLoadRect (harg2.unread v4) = v4 from
      (View.readAt_full arg2.view _ _).trans (harg2.read_unread v4),
    show View.readAt (Elt Ideal) arg3.view (Rect.unit ![0, 0] S16x2048.size inb_S16x2048_S16x2048_0_0).toLoadRect (harg3.unread oh) = oh from
      (View.readAt_full arg3.view _ _).trans (harg3.read_unread oh)]
  rfl

end Cert.Far.Block
end
-- ==== Proof.FarArray.lean ====
module

public import proofs.«01_k».proof.Proof.FarBlock

@[expose] public section

/-! The farthest point kernel's result array: its one grid point writes all of it. -/

noncomputable section

namespace Cert.Far.Array

open Cert.Kernel3Ideal Cert.Kernel3Ideal.Gen Idealize.ShloMosaic Idealize.ShloMosaic.TcCoe Idealize.SL.Sem
open Idealize.ShloMosaic.StableHlo
open Idealize.ShloMosaic.Pipeline (Dat)
open Cert.Proof.OneHot

variable (m : (ℓ : Loc nD τ sig) → Buf (Elt Ideal) ℓ) (ρ : Dev nD → PrngReg)

/-- One at an index, zero elsewhere. -/
def hot (p n : Fin 2048) : EReal := if n = p then 1 else 0

/-- The comparison of an index with an in-range word, as a real number. -/
theorem hot_word (n : Fin 2048) (w : BitVec 32) (h : w.toNat < 2048) :
    (FloatOps.uitofp (F := Ideal) FTy.f32 (IntOp.cmpi CmpIPredicate.eq (BitVec.ofNat 32 n.val) w) : EReal) = hot (row w) n := by
  unfold hot
  by_cases hn : n = row w
  · have e : BitVec.ofNat 32 n.val = w := by rw [hn, row_val w h]; simp
    rw [if_pos hn, e]
    simp [IntOp.cmpi, FloatOps.uitofp]
  · have hb : (BitVec.ofNat 32 n.val == w) = false := by
      refine beq_eq_false_iff_ne.mpr fun e => hn (Fin.ext ?_)
      have := n.isLt
      rw [row_val w h, ← e, BitVec.toNat_ofNat]
      omega
    rw [if_neg hn]
    simp [IntOp.cmpi, FloatOps.uitofp, hb]

/-- The first coordinates as the region finds them. -/
theorem V_x (c : Dev nD) (b : Fin 16) (n : Fin 2048) :
    (V m c main_v2 : Vec Ideal S16x2048 .f32) (ix2 b n) = m ((c : Thread nD τ).loc main_arg0) (ix3 b n (0 : Fin 3)) := by
  have e : (V m c main_v2 : Vec Ideal S16x2048 .f32) = shapeCast _ (extractStridedSlice S1x16x2048 ![0, 0, 0]
      (transpose S3x16x2048 [2, 0, 1] (m ((c : Thread nD τ).loc main_arg0)) transposes_S16x2048x3_S3x16x2048_2_0_1)
      slices_S3x16x2048_S1x16x2048_0_0_0) shapeCasts_S1x16x2048_S16x2048 := by
    show StableHlo.after hostOps0 _ _ = _
    simp only [hostOps0]
    after_results_simp <;> rfl
  rw [e]
  pointwise

/-- The second coordinates as the region finds them. -/
theorem V_y (c : Dev nD) (b : Fin 16) (n : Fin 2048) :
    (V m c main_v4 : Vec Ideal S16x2048 .f32) (ix2 b n) = m ((c : Thread nD τ).loc main_arg0) (ix3 b n (1 : Fin 3)) := by
  have e : (V m c main_v4 : Vec Ideal S16x2048 .f32) = shapeCast _ (extractStridedSlice S1x16x2048 ![1, 0, 0]
      (transpose S3x16x2048 [2, 0, 1] (m ((c : Thread nD τ).loc main_arg0)) transposes_S16x2048x3_S3x16x2048_2_0_1)
      slices_S3x16x2048_S1x16x2048_1_0_0) shapeCasts_S1x16x2048_S16x2048 := by
    show StableHlo.after hostOps0 _ _ = _
    simp only [hostOps0]
    after_results_simp <;> rfl
  rw [e]
  pointwise

/-- The third coordinates as the region finds them. -/
theorem V_z (c : Dev nD) (b : Fin 16) (n : Fin 2048) :
    (V m c main_v6 : Vec Ideal S16x2048 .f32) (ix2 b n) = m ((c : Thread nD τ).loc main_arg0) (ix3 b n (2 : Fin 3)) := by
  have e : (V m c main_v6 : Vec Ideal S16x2048 .f32) = shapeCast _ (extractStridedSlice S1x16x2048 ![2, 0, 0]
      (transpose S3x16x2048 [2, 0, 1] (m ((c : Thread nD τ).loc main_arg0)) transposes_S16x2048x3_S3x16x2048_2_0_1)
      slices_S3x16x2048_S1x16x2048_2_0_0) shapeCasts_S1x16x2048_S16x2048 := by
    show StableHlo.after hostOps0 _ _ = _
    simp only [hostOps0]
    after_results_simp <;> rfl
  rw [e]
  pointwise

/-- The one-hot row of each batch's first point as the region finds it. -/
theorem V_hot (c : Dev nD) (b : Fin 16) (n : Fin 2048)
    (h : ((m ((c : Thread nD τ).loc main_arg1) (ix1 b) : BitVec 32)).toNat < 2048) :
    (V m c main_v13 : Vec Ideal S16x2048 .f32) (ix2 b n) = hot (row (m ((c : Thread nD τ).loc main_arg1) (ix1 b))) n := by
  have e : (V m c main_v13 : Vec Ideal S16x2048 .f32) = (uitofp .f32 (cmpi .eq
      (broadcastInDim S16x2048 ![0, 1] bcast_S1x2048_S16x2048_0_1 (broadcastInDim S1x2048 ![1] bcast_S2048_S1x2048_1 (iotaInDim S2048 32 0)))
      (broadcastInDim S16x2048 ![0, 1] bcast_S16x1_S16x2048_0_1 (broadcastInDim S16x1 ![0] bcast_S16_S16x1_0
        (m ((c : Thread nD τ).loc main_arg1) : IVec S16 32)))) : FVec Ideal S16x2048 .f32) := by
    show StableHlo.after hostOps0 _ _ = _
    simp only [hostOps0]
    after_results_simp <;> rfl
  rw [e]
  pointwise
  exact hot_word n _ h

/-- Every window's block is the whole array. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The block of first coordinates at a point. -/
theorem blk0 (c : Dev nD) (t : Fin cfg0.N) (b : Fin 16) (n : Fin 2048) :
    (iblk m c 0 t : Vec Ideal S16x2048 .f32) (ix2 b n) = m ((c : Thread nD τ).loc main_arg0) (ix3 b n (0 : Fin 3)) := by
  have hf := idx_facts t
  refine Eq.trans ?_ (V_x m c b n)
  unfold iblk
  rw [View.read_apply]
  show V m c main_v2 _ = V m c main_v2 _
  congr 1
  funext a
  apply Fin.ext
  match a with
  | ⟨0, _⟩ => show win0_0.index t (0 : Fin 2) * 16 + 1 * b.val = b.val; omega
  | ⟨1, _⟩ => show win0_0.index t (1 : Fin 2) * 2048 + 1 * n.val = n.val; omega

/-- The block of second coordinates at a point. -/
theorem blk1 (c : Dev nD) (t : Fin cfg0.N) (b : Fin 16) (n : Fin 2048) :
    (iblk m c 1 t : Vec Ideal S16x2048 .f32) (ix2 b n) = m ((c : Thread nD τ).loc main_arg0) (ix3 b n (1 : Fin 3)) := by
  have hf := idx_facts t
  refine Eq.trans ?_ (V_y m c b n)
  unfold iblk
  rw [View.read_apply]
  show V m c main_v4 _ = V m c main_v4 _
  congr 1
  funext a
  apply Fin.ext
  match a with
  | ⟨0, _⟩ => show win0_1.index t (0 : Fin 2) * 16 + 1 * b.val = b.val; omega
  | ⟨1, _⟩ => show win0_1.index t (1 : Fin 2) * 2048 + 1 * n.val = n.val; omega

/-- The block of third coordinates at a point. -/
theorem blk2 (c : Dev nD) (t : Fin cfg0.N) (b : Fin 16) (n : Fin 2048) :
    (iblk m c 2 t : Vec Ideal S16x2048 .f32) (ix2 b n) = m ((c : Thread nD τ).loc main_arg0) (ix3 b n (2 : Fin 3)) := by
  have hf := idx_facts t
  refine Eq.trans ?_ (V_z m c b n)
  unfold iblk
  rw [View.read_apply]
  show V m c main_v6 _ = V m c main_v6 _
  congr 1
  funext a
  apply Fin.ext
  match a with
  | ⟨0, _⟩ => show win0_2.index t (0 : Fin 2) * 16 + 1 * b.val = b.val; omega
  | ⟨1, _⟩ => show win0_2.index t (1 : Fin 2) * 2048 + 1 * n.val = n.val; omega

/-- The block of one-hot rows at a point. -/
theorem blk3 (c : Dev nD) (t : Fin cfg0.N) (b : Fin 16) (n : Fin 2048)
    (h : ((m ((c : Thread nD τ).loc main_arg1) (ix1 b) : BitVec 32)).toNat < 2048) :
    (iblk m c 3 t : Vec Ideal S16x2048 .f32) (ix2 b n) = hot (row (m ((c : Thread nD τ).loc main_arg1) (ix1 b))) n := by
  have hf := idx_facts t
  refine Eq.trans ?_ (V_hot m c b n h)
  unfold iblk
  rw [View.read_apply]
  show V m c main_v13 _ = V m c main_v13 _
  congr 1
  funext a
  apply Fin.ext
  match a with
  | ⟨0, _⟩ => show win0_3.index t (0 : Fin 2) * 16 + 1 * b.val = b.val; omega
  | ⟨1, _⟩ => show win0_3.index t (1 : Fin 2) * 2048 + 1 * n.val = n.val; omega

/-- The index words stay below the number of points. -/
def InRange (c : Dev nD) : Prop := ∀ i, ((m ((c : Thread nD τ).loc main_arg1) i : BitVec 32)).toNat < 2048

/-- The chosen points of the launched arguments. -/
abbrev G4 (c : Dev nD) : Buf (Elt Ideal) ((c : Thread nD τ).loc main_v14) :=
  chosen (m ((c : Thread nD τ).loc main_arg0)) (m ((c : Thread nD τ).loc main_arg1))

/-- A block whose inputs are the arguments is their chosen points. -/
theorem block_eq (v0 v2 v4 oh : Vec Ideal S16x2048 .f32) (x : Vec Ideal S16x2048x3 .f32) (f : IVec S16 32)
    (h0 : ∀ b n, v0 (ix2 b n) = x (ix3 b n (0 : Fin 3))) (h1 : ∀ b n, v2 (ix2 b n) = x (ix3 b n (1 : Fin 3)))
    (h2 : ∀ b n, v4 (ix2 b n) = x (ix3 b n (2 : Fin 3))) (h3 : ∀ b n, oh (ix2 b n) = hot (row (f (ix1 b))) n)
    (b : Fin 16) (s : Fin 512) :
    (Scf.fold (Block.trip v0 v2 v4) (k0_pay1 (F := Ideal), k0_pay3 oh, k0_pay2)).2.2 (ix2 b s) = chosen x f (ix2 b s) := by
  rw [Block.loop_apply v0 v2 v4 oh (fun b => row (f (ix1 b))) h3 b s]
  simp only [h0, h1, h2]
  rfl

/-- What the point writes back is the chosen points. -/
theorem flushed4_eq (c : Dev nD) (h : InRange m c) (t : Fin cfg0.N) :
    (dats m 0 c).flushed 4 t = (win0_4.blk t).view.read (Elt Ideal) (G4 m c) := by
  rw [Value.flushed4_A]
  show out0_A_4 c (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t) = _
  have hf := idx_facts t
  rw [Block.out_eq]
  funext j
  rw [View.read_apply]
  obtain ⟨j0, j1, rfl⟩ : ∃ (j0 : Fin 16) (j1 : Fin 512), j = ix2 j0 j1 := ⟨j 0, j 1, eq_ix2 j⟩
  have hi : (win0_4.blk t).view.emb (ix2 j0 j1) = ix2 j0 j1 := by
    funext a
    apply Fin.ext
    match a with
    | ⟨0, _⟩ => show win0_4.index t (0 : Fin 2) * 16 + 1 * j0.val = j0.val; omega
    | ⟨1, _⟩ => show win0_4.index t (1 : Fin 2) * 512 + 1 * j1.val = j1.val; omega
  have e := block_eq (iblk m c 0 t) (iblk m c 1 t) (iblk m c 2 t) (iblk m c 3 t)
    (m ((c : Thread nD τ).loc main_arg0)) (m ((c : Thread nD τ).loc main_arg1)) (blk0 m c t) (blk1 m c t) (blk2 m c t)
    (fun b n => blk3 m c t b n (h _)) j0 j1
  refine Eq.trans e ?_
  show _ = G4 m c ((win0_4.blk t).view.emb (ix2 j0 j1))
  rw [hi]

/-- An index is in the point's block when each coordinate is in the block's stretch. -/
theorem mem_blk4 (t : Fin cfg0.N) (i : S16x512.Idx) :
    i ∈ ((cfg0.win 4).blk t).view.set ↔ ∀ a : Fin 2, win0_4.index t a * win0_4.size a ≤ (i a : Nat)
      ∧ (i a : Nat) < win0_4.index t a * win0_4.size a + win0_4.xsize (grid0.coords t) a := by
  show i ∈ ((View.whole main_v14).slice (win0_4.rect t)).set ↔ _
  rw [View.set_slice_whole, Rect.mem_set_unit]
  exact Iff.rfl

/-- The one block covers the array. -/
theorem cover4 (i : S16x512.Idx) : ∃ t : Fin cfg0.N, (cfg0.win 4).flush t = true ∧ i ∈ ((cfg0.win 4).blk t).view.set := by
  have h0 : (i 0 : Nat) < 16 := (i 0).isLt
  have h1 : (i 1 : Nat) < 512 := (i 1).isLt
  obtain ⟨t⟩ : Nonempty (Fin cfg0.N) := ⟨⟨0, by decide⟩⟩
  have hf := idx_facts t
  refine ⟨t, flush0_4 _, ?_⟩
  rw [mem_blk4]
  intro a
  match a with
  | ⟨0, _⟩ =>
    show win0_4.index t (0 : Fin 2) * 16 ≤ (i 0 : Nat) ∧ (i 0 : Nat) < win0_4.index t (0 : Fin 2) * 16 + 16
    omega
  | ⟨1, _⟩ =>
    show win0_4.index t (1 : Fin 2) * 512 ≤ (i 1 : Nat) ∧ (i 1 : Nat) < win0_4.index t (1 : Fin 2) * 512 + 512
    omega

/-- The array of chosen points after the run. -/
theorem final4 (c : Dev nD) (h : InRange m c) : (dats m 0 c).arrAt 4 cfg0.N = G4 m c :=
  (dats m 0 c).arrAt_eq_of_cover 4 (G4 m c) (fun t _ => flushed4_eq m c h t) cover4

end Cert.Far.Array
end
-- ==== Proof.FarRun.lean ====
module

public import proofs.«01_k».proof.Proof.Gen.Reference3Ideal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

/-! The farthest point reference, run: its loop takes 512 trips, and each carried buffer after a trip is said in
terms of the carried buffers before it. -/

@[expose] public section

noncomputable section

namespace Cert.Far

open Cert.Reference3Ideal Cert.Reference3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- The contents of a buffer of a shape and element type. -/
abbrev T (F : FTy → Type) (s : Shape) (e : EltTy) : Type := BufTy.Contents (Elt F) ⟨s, e⟩

/-- A batch word and a row word per batch, side by side. -/
def pairWords (a b : T F S16x1 .i32) : T F S16x2 .i32 :=
  concatenate S16x2 1 [⟨S16x1, a⟩, ⟨S16x1, b⟩] concatenates_S16x1_S16x1_S16x2_d1

/-- The largest value of a row, and the index where it first stands. -/
def bestValue (x : T F S16x2048 .f32) (y : T F S16x2048 .i32)
    (u : T F S_ .f32) (v : T F S_ .i32) :
    T F S16 .f32 :=
  fun j => (Host.argReduce reducer_argmax_f32_i32 x y u v reducesTo_S16x2048_S16_d1 h_S_ j).1

@[inherit_doc bestValue]
def bestPlace (x : T F S16x2048 .f32) (y : T F S16x2048 .i32)
    (u : T F S_ .f32) (v : T F S_ .i32) :
    T F S16 .i32 :=
  fun j => (Host.argReduce reducer_argmax_f32_i32 x y u v reducesTo_S16x2048_S16_d1 h_S_ j).2

/-- The operations of before the loop. -/
abbrev entryOps : List (HloOp τ sig (Elt F)) :=
  [ nullary main_cst (constant S_ .f32 0x501502F9#32),
    unary main_cst main_v0 (broadcastInDim S16x2048 ![] bcast_S_S16x2048 : T F S_ .f32 → T F S16x2048 .f32),
    nullary main_c (constantI S_ 32 0#32),
    unary main_c main_v1 (broadcastInDim S16x512 ![] bcast_S_S16x512 : T F S_ .i32 → T F S16x512 .i32),
    nullary main_v2 (iotaInDim S16 32 0),
    nullary main_c_0 (constantI S_ 32 0#32),
    nullary main_c_1 (constantI S_ 32 0#32),
    unary main_v2 main_v3_0 id,
    unary main_arg0 main_v3_1 id,
    unary main_c_1 main_v3_2 id,
    unary main_c_0 main_v3_3 id,
    unary main_v1 main_v3_4 id,
    unary main_v0 main_v3_5 id,
    unary main_arg1 main_v3_6 id ]

theorem entryOps_sub : (entryOps : List (HloOp τ sig (Elt F))).Forall fun op => op.bufs ⊆ tcRefs τ sig :=
  ⟨nullary_bufs_sub .., unary_bufs_sub .., nullary_bufs_sub .., unary_bufs_sub .., nullary_bufs_sub .., nullary_bufs_sub .., nullary_bufs_sub .., unary_bufs_sub .., unary_bufs_sub .., unary_bufs_sub .., unary_bufs_sub .., unary_bufs_sub .., unary_bufs_sub .., unary_bufs_sub ..⟩

theorem entryOps_fresh : (entryOps : List (HloOp τ sig (Elt F))).Forall fun op => op.fresh = ∅ :=
  forall_fresh_of_map rfl

/-- The buffers they write. -/
abbrev entryOpsOut : List (Ref sig .tc) :=
  [main_cst, main_v0, main_c, main_v1, main_v2, main_c_0, main_c_1, main_v3_0, main_v3_1, main_v3_2, main_v3_3, main_v3_4, main_v3_5, main_v3_6]

theorem entryOps_writes : (entryOps : List (HloOp τ sig (Elt F))).Forall fun op =>
    op.writes ⊆ (entryOpsOut.map (Proc.devRef (τ := τ) .tc)).toFinset :=
  forall_writes_sub_of_map rfl

/-- The operations of the trip number and the index words, made ready, and the chosen points written down. -/
abbrev wordOps : List (HloOp τ sig (Elt F)) :=
  [ nullary main_while0b_c_8 (constantI S_ 32 1#32),
    binary main_v3_3 main_while0b_c_8 main_while0b_v4 (addi : T F S_ .i32 → T F S_ .i32 → T F S_ .i32),
    nullary main_while0b_c_9 (constantI S_ 32 0#32),
    binary main_v3_3 main_while0b_c_9 main_while0b_v5 (cmpi .slt : T F S_ .i32 → T F S_ .i32 → T F S_ .i1),
    nullary main_while0b_c_10 (constantI S_ 32 512#32),
    binary main_v3_3 main_while0b_c_10 main_while0b_v6 (addi : T F S_ .i32 → T F S_ .i32 → T F S_ .i32),
    ternary main_while0b_v5 main_while0b_v6 main_v3_3 main_while0b_v7 (select : T F S_ .i1 → T F S_ .i32 → T F S_ .i32 → T F S_ .i32),
    unary main_while0b_v7 main_while0b_v8 (id : T F S_ .i32 → T F S_ .i32),
    unary main_while0b_v8 main_while0b_v9 (broadcastInDim S1 ![] bcast_S_S1 : T F S_ .i32 → T F S1 .i32),
    ternary main_v3_4 main_while0b_v9 main_v3_6 main_while0b_v10 ((fun x i u => Host.scatter scatter_S16x512_S1_S16_0_1_1_0 (fun _ b => b) x i u) : T F S16x512 .i32 → T F S1 .i32 → T F S16 .i32 → T F S16x512 .i32),
    nullary main_while0b_c_11 (constantI S_ 32 0#32),
    unary main_while0b_c_11 main_while0b_v11 (broadcastInDim S16 ![] bcast_S_S16 : T F S_ .i32 → T F S16 .i32),
    binary main_v3_0 main_while0b_v11 main_while0b_v12 (cmpi .slt : T F S16 .i32 → T F S16 .i32 → T F S16 .i1),
    nullary main_while0b_c_12 (constantI S_ 32 16#32),
    unary main_while0b_c_12 main_while0b_v13 (broadcastInDim S16 ![] bcast_S_S16 : T F S_ .i32 → T F S16 .i32),
    binary main_v3_0 main_while0b_v13 main_while0b_v14 (addi : T F S16 .i32 → T F S16 .i32 → T F S16 .i32),
    ternary main_while0b_v12 main_while0b_v14 main_v3_0 main_while0b_v15 (select : T F S16 .i1 → T F S16 .i32 → T F S16 .i32 → T F S16 .i32),
    nullary main_while0b_c_13 (constantI S_ 32 0#32),
    unary main_while0b_c_13 main_while0b_v16 (broadcastInDim S16 ![] bcast_S_S16 : T F S_ .i32 → T F S16 .i32),
    binary main_v3_6 main_while0b_v16 main_while0b_v17 (cmpi .slt : T F S16 .i32 → T F S16 .i32 → T F S16 .i1),
    nullary main_while0b_c_14 (constantI S_ 32 2048#32),
    unary main_while0b_c_14 main_while0b_v18 (broadcastInDim S16 ![] bcast_S_S16 : T F S_ .i32 → T F S16 .i32),
    binary main_v3_6 main_while0b_v18 main_while0b_v19 (addi : T F S16 .i32 → T F S16 .i32 → T F S16 .i32),
    ternary main_while0b_v17 main_while0b_v19 main_v3_6 main_while0b_v20 (select : T F S16 .i1 → T F S16 .i32 → T F S16 .i32 → T F S16 .i32) ]

theorem wordOps_sub : (wordOps : List (HloOp τ sig (Elt F))).Forall fun op => op.bufs ⊆ tcRefs τ sig :=
  ⟨nullary_bufs_sub .., binary_bufs_sub .., nullary_bufs_sub .., binary_bufs_sub .., nullary_bufs_sub .., binary_bufs_sub .., ternary_bufs_sub .., unary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩

theorem wordOps_fresh : (wordOps : List (HloOp τ sig (Elt F))).Forall fun op => op.fresh = ∅ :=
  forall_fresh_of_map rfl

/-- The buffers they write. -/
abbrev wordOpsOut : List (Ref sig .tc) :=
  [main_while0b_c_8, main_while0b_v4, main_while0b_c_9, main_while0b_v5, main_while0b_c_10, main_while0b_v6, main_while0b_v7, main_while0b_v8, main_while0b_v9, main_while0b_v10, main_while0b_c_11, main_while0b_v11, main_while0b_v12, main_while0b_c_12, main_while0b_v13, main_while0b_v14, main_while0b_v15, main_while0b_c_13, main_while0b_v16, main_while0b_v17, main_while0b_c_14, main_while0b_v18, main_while0b_v19, main_while0b_v20]

theorem wordOps_writes : (wordOps : List (HloOp τ sig (Elt F))).Forall fun op =>
    op.writes ⊆ (wordOpsOut.map (Proc.devRef (τ := τ) .tc)).toFinset :=
  forall_writes_sub_of_map rfl

/-- The operations of the distance to the point chosen last, and the smaller distance kept. -/
abbrev distOps : List (HloOp τ sig (Elt F)) :=
  [ unary main_while0b_v15 main_while0b_v21 (broadcastInDim S16x1 ![0] bcast_S16_S16x1_0 : T F S16 .i32 → T F S16x1 .i32),
    unary main_while0b_v20 main_while0b_v22 (broadcastInDim S16x1 ![0] bcast_S16_S16x1_0 : T F S16 .i32 → T F S16x1 .i32),
    binary main_while0b_v21 main_while0b_v22 main_while0b_v23 (pairWords : T F S16x1 .i32 → T F S16x1 .i32 → T F S16x2 .i32),
    binary main_v3_1 main_while0b_v23 main_while0b_v24 ((fun x i => Host.gather gather_S16x2048x3_S16x2_S16x3_1_01_n_n_01_1_113 x i) : T F S16x2048x3 .f32 → T F S16x2 .i32 → T F S16x3 .f32),
    unary main_while0b_v24 main_while0b_v25 (broadcastInDim S16x1x3 ![0, 2] bcast_S16x3_S16x1x3_0_2 : T F S16x3 .f32 → T F S16x1x3 .f32),
    unary main_while0b_v25 main_while0b_v26 (broadcastInDim S16x2048x3 ![0, 1, 2] bcast_S16x1x3_S16x2048x3_0_1_2 : T F S16x1x3 .f32 → T F S16x2048x3 .f32),
    binary main_v3_1 main_while0b_v26 main_while0b_v27 (subf : T F S16x2048x3 .f32 → T F S16x2048x3 .f32 → T F S16x2048x3 .f32),
    binary main_while0b_v27 main_while0b_v27 main_while0b_v28 (mulf : T F S16x2048x3 .f32 → T F S16x2048x3 .f32 → T F S16x2048x3 .f32),
    nullary main_while0b_cst_15 (constant S_ .f32 0x00000000#32),
    binary main_while0b_v28 main_while0b_cst_15 main_while0b_v29 ((fun x v => Host.reduceAdd x v reducesTo_S16x2048x3_S16x2048_d2 h_S_) : T F S16x2048x3 .f32 → T F S_ .f32 → T F S16x2048 .f32),
    binary main_v3_5 main_while0b_v29 main_while0b_v30 (minimumf : T F S16x2048 .f32 → T F S16x2048 .f32 → T F S16x2048 .f32) ]

theorem distOps_sub : (distOps : List (HloOp τ sig (Elt F))).Forall fun op => op.bufs ⊆ tcRefs τ sig :=
  ⟨unary_bufs_sub .., unary_bufs_sub .., binary_bufs_sub .., binary_bufs_sub .., unary_bufs_sub .., unary_bufs_sub .., binary_bufs_sub .., binary_bufs_sub .., nullary_bufs_sub .., binary_bufs_sub .., binary_bufs_sub ..⟩

theorem distOps_fresh : (distOps : List (HloOp τ sig (Elt F))).Forall fun op => op.fresh = ∅ :=
  forall_fresh_of_map rfl

/-- The buffers they write. -/
abbrev distOpsOut : List (Ref sig .tc) :=
  [main_while0b_v21, main_while0b_v22, main_while0b_v23, main_while0b_v24, main_while0b_v25, main_while0b_v26, main_while0b_v27, main_while0b_v28, main_while0b_cst_15, main_while0b_v29, main_while0b_v30]

theorem distOps_writes : (distOps : List (HloOp τ sig (Elt F))).Forall fun op =>
    op.writes ⊆ (distOpsOut.map (Proc.devRef (τ := τ) .tc)).toFinset :=
  forall_writes_sub_of_map rfl

/-- The operations of the index of the largest distance. -/
abbrev bestOps : List (HloOp τ sig (Elt F)) :=
  [ TRef.nullary (.of main_while0b_call0_v0 : TRef sig ⟨S16x2048, .i32⟩) (iotaInDim S16x2048 32 1),
    TRef.nullary (.of main_while0b_call0_cst : TRef sig ⟨S_, .f32⟩) (constant S_ .f32 0xFF800000#32),
    TRef.nullary (.of main_while0b_call0_c : TRef sig ⟨S_, .i32⟩) (constantI S_ 32 0#32),
    TRef.quaternary (.of main_while0b_v30 : TRef sig ⟨S16x2048, .f32⟩) (.of main_while0b_call0_v0 : TRef sig ⟨S16x2048, .i32⟩)
      (.of main_while0b_call0_cst : TRef sig ⟨S_, .f32⟩) (.of main_while0b_call0_c : TRef sig ⟨S_, .i32⟩)
      (.of main_while0b_call0_v1_0 : TRef sig ⟨S16, .f32⟩) bestValue,
    TRef.quaternary (.of main_while0b_v30 : TRef sig ⟨S16x2048, .f32⟩) (.of main_while0b_call0_v0 : TRef sig ⟨S16x2048, .i32⟩)
      (.of main_while0b_call0_cst : TRef sig ⟨S_, .f32⟩) (.of main_while0b_call0_c : TRef sig ⟨S_, .i32⟩)
      (.of main_while0b_v31 : TRef sig ⟨S16, .i32⟩) bestPlace ]

theorem bestOps_sub : (bestOps : List (HloOp τ sig (Elt F))).Forall fun op => op.bufs ⊆ tcRefs τ sig :=
  ⟨nullary_bufs_sub .., nullary_bufs_sub .., nullary_bufs_sub .., quaternary_bufs_sub .., quaternary_bufs_sub ..⟩

theorem bestOps_fresh : (bestOps : List (HloOp τ sig (Elt F))).Forall fun op => op.fresh = ∅ :=
  forall_fresh_of_map rfl

/-- The buffers they write. -/
abbrev bestOpsOut : List (Ref sig .tc) :=
  [main_while0b_call0_v0, main_while0b_call0_cst, main_while0b_call0_c, main_while0b_call0_v1_0, main_while0b_v31]

theorem bestOps_writes : (bestOps : List (HloOp τ sig (Elt F))).Forall fun op =>
    op.writes ⊆ (bestOpsOut.map (Proc.devRef (τ := τ) .tc)).toFinset :=
  forall_writes_sub_of_map rfl

/-- The operations of the counters stepped and the carried values put back. -/
abbrev stepOps : List (HloOp τ sig (Elt F)) :=
  [ nullary main_while0b_c_16 (constantI S_ 32 1#32),
    binary main_v3_2 main_while0b_c_16 main_while0b_v32 (addi : T F S_ .i32 → T F S_ .i32 → T F S_ .i32),
    unary main_while0b_v32 main_v3_2 id,
    unary main_while0b_v4 main_v3_3 id,
    unary main_while0b_v10 main_v3_4 id,
    unary main_while0b_v30 main_v3_5 id,
    unary main_while0b_v31 main_v3_6 id ]

theorem stepOps_sub : (stepOps : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub ..⟩

theorem stepOps_fresh : (stepOps : List (HloOp τ sig (Elt F))).Forall fun op => op.fresh = ∅ :=
  forall_fresh_of_map rfl

/-- The buffers they write. -/
abbrev stepOpsOut : List (Ref sig .tc) :=
  [main_while0b_c_16, main_while0b_v32, main_v3_2, main_v3_3, main_v3_4, main_v3_5, main_v3_6]

theorem stepOps_writes : (stepOps : List (HloOp τ sig (Elt F))).Forall fun op =>
    op.writes ⊆ (stepOpsOut.map (Proc.devRef (τ := τ) .tc)).toFinset :=
  forall_writes_sub_of_map rfl

theorem main_items (c : Dev nD) : main (F := F) c = (Pipeline.chain [seq entryOps, HostLoop.enter 0] :
    Prog (TpuEff nD τ sig (Elt F) (HostLoop.Sig (Pipeline.Sig Λ₀ (Fin 0) fun p => (pcfgs (F := F) p).Adm) 1) .tc) PUnit) := by
  rewrite [chain_seq_cons, Pipeline.chain_cons]
  chain_rfl

theorem body_items : main_while0_body (F := F) = (Pipeline.chain
    [seq wordOps, seq distOps, seq bestOps, seq stepOps] :
    Prog (TpuEff nD τ sig (Elt F) (HostLoop.Sig (Pipeline.Sig Λ₀ (Fin 0) fun p => (pcfgs (F := F) p).Adm) 1) .tc) PUnit) := by
  rewrite [chain_seq_cons, chain_seq_cons, Pipeline.chain_cons, chain_seq_cons]
  chain_rfl

/-- The operations of the loop's test. -/
abbrev testOps : List (HloOp τ sig (Elt F)) :=
  [ nullary main_while0c_c_8 (constantI S_ 32 512#32),
    binary main_v3_2 main_while0c_c_8 main_while0c_v4 (cmpi .slt : T F S_ .i32 → T F S_ .i32 → T F S_ .i1) ]

/-- The buffers they write. -/
abbrev testOpsOut : List (Ref sig .tc) := [main_while0c_c_8, main_while0c_v4]

theorem testOps_writes : (testOps : List (HloOp τ sig (Elt F))).Forall fun op =>
    op.writes ⊆ (testOpsOut.map (Proc.devRef (τ := τ) .tc)).toFinset :=
  forall_writes_sub_of_map rfl

/-- The stretches of operations before the loop, and those of its body. -/
abbrev entryParts : List (List (HloOp τ sig (Elt F))) := [entryOps]

@[inherit_doc entryParts]
abbrev bodyParts : List (List (HloOp τ sig (Elt F))) := [wordOps, distOps, bestOps, stepOps]

theorem entryParts_plain : Plain (entryParts (F := F)) :=
  .cons entryOps_sub (hf := List.forall_iff_forall_mem.mp entryOps_fresh) .nil

theorem bodyParts_plain : Plain (bodyParts (F := F)) :=
  .cons wordOps_sub (hf := List.forall_iff_forall_mem.mp wordOps_fresh)
    (.cons distOps_sub (hf := List.forall_iff_forall_mem.mp distOps_fresh)
      (.cons bestOps_sub (hf := List.forall_iff_forall_mem.mp bestOps_fresh)
        (.cons stepOps_sub (hf := List.forall_iff_forall_mem.mp stepOps_fresh) .nil)))

/-! ## One trip -/

/-- The contents after one test and one trip. -/
abbrev trip (V : Valuation τ sig (Elt F)) : Valuation τ sig (Elt F) := afterL bodyParts (after testOps V)

theorem trip_eq (V : Valuation τ sig (Elt F)) :
    trip V = after stepOps (after bestOps (after distOps (after wordOps (after testOps V)))) := rfl

section keeps
variable (V : Valuation τ sig (Elt F)) (r : Ref sig .tc)

theorem testOps_keep (h : r ∉ testOpsOut) : after testOps V (Proc.devRef .tc r) = V (Proc.devRef .tc r) :=
  after_of_writes_sub _ V testOps_writes h
theorem wordOps_keep (h : r ∉ wordOpsOut) : after wordOps V (Proc.devRef .tc r) = V (Proc.devRef .tc r) :=
  after_of_writes_sub _ V wordOps_writes h
theorem distOps_keep (h : r ∉ distOpsOut) : after distOps V (Proc.devRef .tc r) = V (Proc.devRef .tc r) :=
  after_of_writes_sub _ V distOps_writes h
theorem bestOps_keep (h : r ∉ bestOpsOut) : after bestOps V (Proc.devRef .tc r) = V (Proc.devRef .tc r) :=
  after_of_writes_sub _ V bestOps_writes h
theorem stepOps_keep (h : r ∉ stepOpsOut) : after stepOps V (Proc.devRef .tc r) = V (Proc.devRef .tc r) :=
  after_of_writes_sub _ V stepOps_writes h
theorem entryOps_keep (h : r ∉ entryOpsOut) : after entryOps V (Proc.devRef .tc r) = V (Proc.devRef .tc r) :=
  after_of_writes_sub _ V entryOps_writes h

/-- A buffer that no stretch of the loop writes is the same after a trip. -/
theorem trip_keep (h₀ : r ∉ testOpsOut) (h₁ : r ∉ wordOpsOut) (h₂ : r ∉ distOpsOut) (h₃ : r ∉ bestOpsOut)
    (h₄ : r ∉ stepOpsOut) : trip V (Proc.devRef .tc r) = V (Proc.devRef .tc r) := by
  rw [trip_eq, stepOps_keep _ r h₄, bestOps_keep _ r h₃, distOps_keep _ r h₂, wordOps_keep _ r h₁, testOps_keep _ r h₀]
end keeps

/-- An index word made ready: a negative one has the length added. -/
def ready (n : BitVec 32) (w : T F S16 .i32) : T F S16 .i32 :=
  select (cmpi .slt w (broadcastInDim S16 ![] bcast_S_S16 (constantI S_ 32 0#32)))
    (addi w (broadcastInDim S16 ![] bcast_S_S16 (constantI S_ 32 n))) w

/-- The difference of every point and the point the words name. -/
def apart (x : T F S16x2048x3 .f32) (bw w : T F S16 .i32) : T F S16x2048x3 .f32 :=
  subf x (broadcastInDim S16x2048x3 ![0, 1, 2] bcast_S16x1x3_S16x2048x3_0_1_2
    (broadcastInDim S16x1x3 ![0, 2] bcast_S16x3_S16x1x3_0_2
      (Host.gather gather_S16x2048x3_S16x2_S16x3_1_01_n_n_01_1_113 x
        (pairWords (broadcastInDim S16x1 ![0] bcast_S16_S16x1_0 bw) (broadcastInDim S16x1 ![0] bcast_S16_S16x1_0 w)))))

/-- The smaller of the distances kept and the squared distances to the point the words name. -/
def nearer (x : T F S16x2048x3 .f32) (bw w : T F S16 .i32) (d : T F S16x2048 .f32) : T F S16x2048 .f32 :=
  minimumf d (Host.reduceAdd (mulf (apart x bw w) (apart x bw w)) (constant S_ .f32 0x00000000#32)
    reducesTo_S16x2048x3_S16x2048_d2 h_S_)

/-- The chosen points with the column of a trip written. -/
def noted (k : T F S_ .i32) (p : T F S16x512 .i32) (w : T F S16 .i32) : T F S16x512 .i32 :=
  Host.scatter scatter_S16x512_S1_S16_0_1_1_0 (fun _ b => b) p
    (broadcastInDim S1 ![] bcast_S_S1 (id (select (cmpi .slt k (constantI S_ 32 0#32))
      (addi k (constantI S_ 32 512#32)) k))) w

section reads
variable (V : Valuation τ sig (Elt F))

set_option maxRecDepth 8192 in
set_option maxHeartbeats 2000000 in
theorem wordOps_next : after wordOps V (Proc.devRef .tc main_while0b_v4) =
    (addi (V (Proc.devRef .tc main_v3_3)) (constantI S_ 32 1#32) : T F S_ .i32) := by
  after_results_simp <;> rfl

set_option maxRecDepth 8192 in
set_option maxHeartbeats 2000000 in
theorem wordOps_noted : after wordOps V (Proc.devRef .tc main_while0b_v10) =
    noted (V (Proc.devRef .tc main_v3_3)) (V (Proc.devRef .tc main_v3_4)) (V (Proc.devRef .tc main_v3_6)) := by
  after_results_simp <;> rfl

set_option maxRecDepth 8192 in
set_option maxHeartbeats 2000000 in
theorem wordOps_batch : after wordOps V (Proc.devRef .tc main_while0b_v15) = ready 16#32 (V (Proc.devRef .tc main_v3_0)) := by
  after_results_simp <;> rfl

set_option maxRecDepth 8192 in
set_option maxHeartbeats 2000000 in
theorem wordOps_row : after wordOps V (Proc.devRef .tc main_while0b_v20) = ready 2048#32 (V (Proc.devRef .tc main_v3_6)) := by
  after_results_simp <;> rfl

set_option maxRecDepth 8192 in
set_option maxHeartbeats 2000000 in
theorem distOps_nearer : after distOps V (Proc.devRef .tc main_while0b_v30) =
    nearer (V (Proc.devRef .tc main_v3_1)) (V (Proc.devRef .tc main_while0b_v15)) (V (Proc.devRef .tc main_while0b_v20))
      (V (Proc.devRef .tc main_v3_5)) := by
  after_results_simp <;> rfl

set_option maxRecDepth 8192 in
set_option maxHeartbeats 2000000 in
theorem bestOps_place : after bestOps V (Proc.devRef .tc main_while0b_v31) =
    bestPlace (V (Proc.devRef .tc main_while0b_v30)) (iotaInDim S16x2048 32 1) (constant S_ .f32 0xFF800000#32)
      (constantI S_ 32 0#32) := by
  after_results_simp <;> rfl

set_option maxRecDepth 8192 in
theorem stepOps_count : after stepOps V (Proc.devRef .tc main_v3_2) =
    (addi (V (Proc.devRef .tc main_v3_2)) (constantI S_ 32 1#32) : T F S_ .i32) := by
  after_results_simp <;> rfl
theorem stepOps_next : after stepOps V (Proc.devRef .tc main_v3_3) = V (Proc.devRef .tc main_while0b_v4) := by
  after_results_simp <;> rfl
theorem stepOps_noted : after stepOps V (Proc.devRef .tc main_v3_4) = V (Proc.devRef .tc main_while0b_v10) := by
  after_results_simp <;> rfl
theorem stepOps_nearer : after stepOps V (Proc.devRef .tc main_v3_5) = V (Proc.devRef .tc main_while0b_v30) := by
  after_results_simp <;> rfl
theorem stepOps_place : after stepOps V (Proc.devRef .tc main_v3_6) = V (Proc.devRef .tc main_while0b_v31) := by
  after_results_simp <;> rfl

end reads

section trips
variable (V : Valuation τ sig (Elt F))

theorem trip_count : trip V (Proc.devRef .tc main_v3_2) =
    (addi (V (Proc.devRef .tc main_v3_2)) (constantI S_ 32 1#32) : T F S_ .i32) := by
  rw [trip_eq, stepOps_count, bestOps_keep _ _ (by decide), distOps_keep _ _ (by decide), wordOps_keep _ _ (by decide),
    testOps_keep _ _ (by decide)]

theorem trip_next : trip V (Proc.devRef .tc main_v3_3) =
    (addi (V (Proc.devRef .tc main_v3_3)) (constantI S_ 32 1#32) : T F S_ .i32) := by
  rw [trip_eq, stepOps_next, bestOps_keep _ _ (by decide), distOps_keep _ _ (by decide), wordOps_next,
    testOps_keep _ _ (by decide)]

theorem trip_noted : trip V (Proc.devRef .tc main_v3_4) =
    noted (V (Proc.devRef .tc main_v3_3)) (V (Proc.devRef .tc main_v3_4)) (V (Proc.devRef .tc main_v3_6)) := by
  rw [trip_eq, stepOps_noted, bestOps_keep _ _ (by decide), distOps_keep _ _ (by decide), wordOps_noted,
    testOps_keep _ _ (by decide), testOps_keep _ _ (by decide), testOps_keep _ _ (by decide)]

theorem dist_after : after distOps (after wordOps (after testOps V)) (Proc.devRef .tc main_while0b_v30) =
    nearer (V (Proc.devRef .tc main_v3_1)) (ready 16#32 (V (Proc.devRef .tc main_v3_0)))
      (ready 2048#32 (V (Proc.devRef .tc main_v3_6))) (V (Proc.devRef .tc main_v3_5)) := by
  rw [distOps_nearer, wordOps_batch, wordOps_row, wordOps_keep _ main_v3_1 (by decide), wordOps_keep _ main_v3_5 (by decide),
    testOps_keep _ _ (by decide), testOps_keep _ _ (by decide), testOps_keep _ _ (by decide), testOps_keep _ _ (by decide)]

theorem trip_nearer : trip V (Proc.devRef .tc main_v3_5) =
    nearer (V (Proc.devRef .tc main_v3_1)) (ready 16#32 (V (Proc.devRef .tc main_v3_0)))
      (ready 2048#32 (V (Proc.devRef .tc main_v3_6))) (V (Proc.devRef .tc main_v3_5)) := by
  rw [trip_eq, stepOps_nearer, bestOps_keep _ _ (by decide), dist_after]

theorem trip_place : trip V (Proc.devRef .tc main_v3_6) =
    bestPlace (nearer (V (Proc.devRef .tc main_v3_1)) (ready 16#32 (V (Proc.devRef .tc main_v3_0)))
      (ready 2048#32 (V (Proc.devRef .tc main_v3_6))) (V (Proc.devRef .tc main_v3_5)))
      (iotaInDim S16x2048 32 1) (constant S_ .f32 0xFF800000#32) (constantI S_ 32 0#32) := by
  rw [trip_eq, stepOps_place, bestOps_place, dist_after]

end trips

/-! ## The run -/

variable (m : (ℓ : Loc nD τ sig) → Buf (Elt F) ℓ) (ρ : Dev nD → PrngReg)

/-- The contents before the test number `k`. -/
abbrev before (k : ℕ) (c : Dev nD) : Valuation τ sig (Elt F) := atTrip testOps bodyParts (entryContents entryParts m) k c

theorem before_zero (c : Dev nD) : before m 0 c = after entryOps (entryContents [] m c) := rfl

theorem before_succ (k : ℕ) (c : Dev nD) : before m (k + 1) c = trip (before m k c) := rfl

theorem before_count (c : Dev nD) : ∀ k, before m k c (Proc.devRef .tc main_v3_2) = fun _ => Scf.iv 0#32 1#32 k
  | 0 => by
    rw [before_zero, Scf.iv_zero]
    after_results_simp <;> rfl
  | k + 1 => by
    rw [before_succ, trip_count, before_count c k, Scf.iv_succ]
    rfl

set_option backward.isDefEq.respectTransparency.types false in
/-- What the loop's test does: it goes on exactly while fewer than 512 trips are made. -/
theorem test_spec : CondSpec (pcfgs (F := F)) defs₀ loops (main_while0_cond (F := F)) testOps bodyParts
    (entryContents entryParts m) 512 := by
  intro k hk c bd
  have hc := before_count m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]
    · iexact Hb
    · iexact Hh
  iintro ⟨Hb, Hh⟩
  rw [wp_ret]
  imodintro
  iapply (wp_hlo_within (Variants.lift Variants.none) (c : Thread nD τ) bd Set.univ (sub_ucRefs _ (binary_bufs_sub ..))) $$ [Hb Hh]
  · isplitl [Hb]
    · iexact Hb
    · iexact Hh
  iintro ⟨Hb, Hh⟩
  rw [HostLoop.elt_apply, wp_ret]
  imodintro
  isplitr
  · ipureintro
    show Iff (IntOp.cmpi .slt (HloOp.result _ (before m k c) main_v3_2 HostLoop.idx0)
      (HloOp.result _ (before m k c) main_while0c_c_8 HostLoop.idx0) = 1#1) (k < 512)
    rw [nullary_result_ne _ _ _ _ (by decide), nullary_result, hc]
    exact Scf.cmpi_slt_iv_ub_iff (lb := 0#32) (ub := 512#32) (st := 1#32) (by decide) hk
  isplitl [Hb]
  · iexact Hb
  rw [after_cons, after_cons, after_nil]
  iexact Hh

set_option maxRecDepth 100000 in
/-- The reference ends, with every buffer at its contents before the last test, tested. -/
theorem run_ends : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) =
        finalContents testOps entryParts bodyParts [] 512 m c (Proc.devRef .tc b)) :=
  run_loop (pcfgs (F := F)) defs₀ loops main 0 main_while0_cond main_while0_body rfl entryParts bodyParts [] testOps
    entryParts_plain bodyParts_plain .nil (fun c => by rw [main_items]; rfl) (by rw [body_items]; rfl) 512 m ρ (test_spec m)

/-- A buffer nothing writes holds its first contents. -/
theorem before_keep (c : Dev nD) (r : Ref sig .tc) (h : r ∉ entryOpsOut) (h₀ : r ∉ testOpsOut) (h₁ : r ∉ wordOpsOut)
    (h₂ : r ∉ distOpsOut) (h₃ : r ∉ bestOpsOut) (h₄ : r ∉ stepOpsOut) :
    ∀ k, before m k c (Proc.devRef .tc r) = m ((c.tc : Thread nD τ).loc r)
  | 0 => by rw [before_zero, entryOps_keep _ _ h]; rfl
  | k + 1 => by rw [before_succ, trip_keep _ _ h₀ h₁ h₂ h₃ h₄, before_keep c r h h₀ h₁ h₂ h₃ h₄ k]

/-- The reference ends with its result the chosen points before the last test, and its arguments unchanged. -/
theorem run_points : θ_run (defs (F := F)) (onTc (τ := τ) (main (F := F))) ⟨m, fun _ => 0, ρ⟩ fun r => ∀ c : Dev nD,
    r.2.mem ((c.tc : Thread nD τ).loc main_v3_4) = before m 512 c (Proc.devRef .tc main_v3_4)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c =>
    ⟨(h c main_v3_4 rfl).trans (testOps_keep _ _ (by decide)),
      (h c main_arg0 rfl).trans ((testOps_keep _ _ (by decide)).trans
        (before_keep m c main_arg0 (by decide) (by decide) (by decide) (by decide) (by decide) (by decide) 512)),
      (h c main_arg1 rfl).trans ((testOps_keep _ _ (by decide)).trans
        (before_keep m c main_arg1 (by decide) (by decide) (by decide) (by decide) (by decide) (by decide) 512))⟩)
    (run_ends m ρ)

end Cert.Far
-- ==== Proof.FarSpec.lean ====
module

public import proofs.«01_k».proof.Proof.FarRun
public import proofs.«01_k».proof.Proof.Far
public import Idealize.ShloMosaic.Lib.Routing.OpsOne

@[expose] public section

/-! The farthest point reference, index by index: what a trip makes of the carried arrays, and by induction over the
trips the array of chosen points. -/

noncomputable section

namespace Cert.Far.Spec

open Cert.Reference3Ideal Cert.Reference3Ideal.Gen Idealize.ShloMosaic Idealize.ShloMosaic.TcCoe
open Idealize.ShloMosaic.StableHlo
open Cert.Proof.OneHot

/-! ## The first place of the largest value -/

/-- `q` is as good a candidate as `p`: a larger value, or the same value no later. -/
def Beats (p q : EReal × BitVec 32) : Prop := p.1 < q.1 ∨ (p.1 = q.1 ∧ q.2.toInt ≤ p.2.toInt)

theorem Beats.refl (p : EReal × BitVec 32) : Beats p p := .inr ⟨rfl, le_rfl⟩

theorem Beats.trans {p q r : EReal × BitVec 32} (h : Beats p q) (h' : Beats q r) : Beats p r := by
  rcases h with h | ⟨h, i⟩ <;> rcases h' with h' | ⟨h', i'⟩
  · exact .inl (h.trans h')
  · exact .inl (h' ▸ h)
  · exact .inl (h ▸ h')
  · exact .inr ⟨h.trans h', i'.trans i⟩

/-- The better of two candidates is one of them and as good as both. -/
theorem better (a b : EReal × BitVec 32) :
    (reducer_argmax_f32_i32 (F := Ideal) a b = a ∨ reducer_argmax_f32_i32 (F := Ideal) a b = b)
      ∧ Beats a (reducer_argmax_f32_i32 (F := Ideal) a b) ∧ Beats b (reducer_argmax_f32_i32 (F := Ideal) a b) := by
  obtain ⟨a1, a2⟩ := a
  obtain ⟨b1, b2⟩ := b
  have hr : reducer_argmax_f32_i32 (F := Ideal) (a1, a2) (b1, b2)
      = if b1 < a1 ∨ (a1 = b1 ∧ a2.toInt < b2.toInt) then (a1, a2) else (b1, b2) := by
    unfold reducer_argmax_f32_i32
    rcases lt_trichotomy a1 b1 with h | h | h
    · simp [Ideal.cmpf_def, Ideal.cmp, IntOp.ori, IntOp.andi, IntOp.cmpi, Scalar.select, h, h.ne, h.le, not_lt.mpr h.le]
    · subst h
      by_cases hs : a2.toInt < b2.toInt
      · simp [Ideal.cmpf_def, Ideal.cmp, IntOp.ori, IntOp.andi, IntOp.cmpi, Scalar.select, BitVec.slt, hs]
      · simp [Ideal.cmpf_def, Ideal.cmp, IntOp.ori, IntOp.andi, IntOp.cmpi, Scalar.select, BitVec.slt, hs]
    · simp [Ideal.cmpf_def, Ideal.cmp, IntOp.ori, IntOp.andi, IntOp.cmpi, Scalar.select, h, h.ne', h.le, not_lt.mpr h.le]
  rw [hr]
  split
  · next h =>
    refine ⟨.inl rfl, .refl _, ?_⟩
    rcases h with h | ⟨h, i⟩
    · exact .inl h
    · exact .inr ⟨h.symm, i.le⟩
  · next h =>
    rw [not_or, not_and] at h
    refine ⟨.inr rfl, ?_, .refl _⟩
    rcases lt_or_eq_of_le (not_lt.mp h.1) with h' | h'
    · exact .inl h'
    · exact .inr ⟨h', not_lt.mp (h.2 h')⟩

/-- The best of a list of candidates is one of them and as good as all. -/
theorem best (l : List (EReal × BitVec 32)) : ∀ a,
    (l.foldl (reducer_argmax_f32_i32 (F := Ideal)) a = a ∨ l.foldl (reducer_argmax_f32_i32 (F := Ideal)) a ∈ l)
      ∧ Beats a (l.foldl (reducer_argmax_f32_i32 (F := Ideal)) a)
      ∧ ∀ p ∈ l, Beats p (l.foldl (reducer_argmax_f32_i32 (F := Ideal)) a) := by
  induction l with
  | nil => exact fun a => ⟨.inl rfl, .refl _, fun p hp => absurd hp List.not_mem_nil⟩
  | cons q l ih =>
    intro a
    obtain ⟨hm, ha, hq⟩ := better a q
    obtain ⟨im, ia, iq⟩ := ih (reducer_argmax_f32_i32 (F := Ideal) a q)
    rw [List.foldl_cons]
    refine ⟨?_, ha.trans ia, fun p hp => ?_⟩
    · rcases im with im | im
      · rw [im]
        rcases hm with hm | hm
        · exact .inl hm
        · rw [hm]
          exact .inr List.mem_cons_self
      · exact .inr (List.mem_cons_of_mem _ im)
    · rcases List.mem_cons.mp hp with rfl | hp
      · exact hq.trans ia
      · exact iq p hp

/-- The candidates of a batch: its values, each with its index. -/
theorem mem_fiber (x : FVec Ideal S16x2048 .f32) (b : Fin 16) (p : EReal × BitVec 32) :
    p ∈ Host.argReduceFiber x (iotaInDim S16x2048 32 1) reducesTo_S16x2048_S16_d1 (ix1 b)
      ↔ ∃ n : Fin 2048, p = (x (ix2 b n), BitVec.ofNat 32 n.val) := by
  have hd : ∀ i : S16x2048.Idx, reducesTo_S16x2048_S16_d1.drop i = ix1 b ↔ i 0 = b := fun i => by
    have hv : (reducesTo_S16x2048_S16_d1.drop i 0 : Nat) = i 0 := Shape.ReducesTo.drop_apply_val reducesTo_S16x2048_S16_d1 i 0
    constructor
    · intro h
      rw [h] at hv
      exact Fin.ext hv.symm
    · intro h
      funext a
      match a with
      | ⟨0, _⟩ => exact Fin.ext (hv.trans (congrArg Fin.val h))
  unfold Host.argReduceFiber
  rw [List.mem_map]
  constructor
  · rintro ⟨k, hk, rfl⟩
    have h0 := (hd _).mp (of_decide_eq_true (List.mem_filter.mp hk).2)
    refine ⟨S16x2048.rowMajor.symm k 1, ?_⟩
    have e : S16x2048.rowMajor.symm k = ix2 b (S16x2048.rowMajor.symm k 1) := by
      rw [← h0]; exact eq_ix2 _
    exact Prod.ext (congrArg x e) rfl
  · rintro ⟨n, rfl⟩
    refine ⟨S16x2048.rowMajor (ix2 b n), List.mem_filter.mpr ⟨List.mem_finRange _, ?_⟩, ?_⟩
    · exact decide_eq_true ((hd _).mpr (by rw [Equiv.symm_apply_apply]; rfl))
    · rw [Equiv.symm_apply_apply]; rfl

/-- The word of an index below 2048, read signed, is the index. -/
theorem toInt_word (n : Nat) (h : n < 2048) : (BitVec.ofNat 32 n).toInt = n := by
  rw [BitVec.toInt_eq_toNat_of_lt (by rw [BitVec.toNat_ofNat]; omega), BitVec.toNat_ofNat]
  omega

/-- The word below every value. -/
theorem bot_word : FloatOps.ofBits (F := Ideal) FTy.f32 0xFF800000#32 = (⊥ : EReal) := by
  show Ideal.ofBits FTy.f32 0xFF800000#32 = ⊥
  simp [Ideal.ofBits, Ideal.ieee]

/-- The place of the largest value is the first index where it stands. -/
theorem bestPlace_apply (x : FVec Ideal S16x2048 .f32) (b : Fin 16) :
    bestPlace (F := Ideal) x (iotaInDim S16x2048 32 1) (constant (F := Ideal) S_ .f32 0xFF800000#32) (constantI S_ 32 0#32) (ix1 b)
      = BitVec.ofNat 32 (first fun n => x (ix2 b n)).val := by
  unfold bestPlace
  rw [Ideal.argReduce_eq_reduce2, Host.reduce2_eq_foldl_fiber]
  obtain ⟨hm, -, hb⟩ := best (Host.argReduceFiber x (iotaInDim S16x2048 32 1) reducesTo_S16x2048_S16_d1 (ix1 b))
    ((constant (F := Ideal) S_ .f32 0xFF800000#32 : FVec Ideal S_ .f32) (Shape.Idx.first h_S_), (constantI S_ 32 0#32) (Shape.Idx.first h_S_))
  revert hm hb
  generalize List.foldl (reducer_argmax_f32_i32 (F := Ideal)) _ _ = r
  intro hm hb
  have hp := first_isFirst fun n => x (ix2 b n)
  have hr := hb _ ((mem_fiber x b _).mpr ⟨first fun n => x (ix2 b n), rfl⟩)
  generalize (first fun n => x (ix2 b n)) = p at hp hr ⊢
  rcases hm with hm | hm
  · have h1 : r.1 = ⊥ := (congrArg Prod.fst hm).trans bot_word
    have h2 : r.2 = 0#32 := congrArg Prod.snd hm
    rcases hr with hr | ⟨hr, -⟩
    · rw [h1] at hr; exact absurd hr not_lt_bot
    · have h0 : p.val = 0 := by
        by_contra hne
        have := hp.2 ⟨0, by omega⟩ (Fin.lt_def.mpr (Nat.pos_of_ne_zero hne))
        have hx : x (ix2 b p) = ⊥ := hr.trans h1
        exact absurd (this.trans_eq hx) not_lt_bot
      rw [h0, h2]
  · obtain ⟨n, rfl⟩ := (mem_fiber x b _).mp hm
    rcases hr with hr | ⟨hr, hi⟩
    · exact absurd hr (not_lt.mpr (hp.1 n))
    · have hi' : (n.val : Int) ≤ p.val := by rw [← toInt_word _ n.isLt, ← toInt_word _ p.isLt]; exact hi
      have : ¬ n < p := fun h => absurd hr (ne_of_gt (hp.2 n h))
      have e : n = p := le_antisymm (by exact_mod_cast hi') (not_lt.mp this)
      rw [e]

/-! ## A trip -/

section gather
variable {α : Type} {B N C : Nat}

/-- Dimension numbers of the gather of one row per batch. -/
abbrev dims2 (wf : GatherDims.WF ⟨3, ![B, N, C]⟩ ⟨2, ![B, 2]⟩ ⟨2, ![B, C]⟩ [1] [0, 1] [] [0, 1] [] 1 ![1, 1, C]) :
    GatherDims ⟨3, ![B, N, C]⟩ ⟨2, ![B, 2]⟩ ⟨2, ![B, C]⟩ where
  offsetDims := [1]
  collapsedSliceDims := [0, 1]
  operandBatchingDims := []
  startIndicesBatchingDims := []
  startIndexMap := [0, 1]
  indexVectorDim := 1
  sliceSizes := ![1, 1, C]
  wf := wf

/-- The gather of one row per batch at an index whose pair of words is `(b', n)`. -/
theorem gather2_apply
    (wf : GatherDims.WF ⟨3, ![B, N, C]⟩ ⟨2, ![B, 2]⟩ ⟨2, ![B, C]⟩ [1] [0, 1] [] [0, 1] [] 1 ![1, 1, C])
    (x : (⟨3, ![B, N, C]⟩ : Shape).Idx → α) (idx : IVec ⟨2, ![B, 2]⟩ 32) (b : Fin B) (ch : Fin C) (b' : Fin B) (n : Fin N)
    (hb : (idx (ix2 b (0 : Fin 2))).toInt.toNat = b'.val) (hn : (idx (ix2 b (1 : Fin 2))).toInt.toNat = n.val) :
    Host.gather (dims2 wf) x idx (ix2 b ch) = x (ix3 b' n ch) := by
  have hs : ∀ c : Fin 2, (dims2 wf).siIdx (ix2 b ch) c = ix2 b c := fun c => by
    funext a
    match a with
    | ⟨0, _⟩ => rfl
    | ⟨1, _⟩ => rfl
  have h0 : (dims2 wf).start (ix2 b ch) idx 0 = b'.val := by
    unfold GatherDims.start
    rw [dif_pos (show (0 : Fin 3) ∈ [0, 1] by decide)]
    show min (idx ((dims2 wf).siIdx (ix2 b ch) (0 : Fin 2))).toInt.toNat (B - 1) = _
    have := b'.isLt
    rw [hs, hb]; omega
  have h1 : (dims2 wf).start (ix2 b ch) idx 1 = n.val := by
    unfold GatherDims.start
    rw [dif_pos (show (1 : Fin 3) ∈ [0, 1] by decide)]
    show min (idx ((dims2 wf).siIdx (ix2 b ch) (1 : Fin 2))).toInt.toNat (N - 1) = _
    have := n.isLt
    rw [hs, hn]; omega
  unfold Host.gather
  congr 1
  funext a
  refine Fin.ext ?_
  show (dims2 wf).start (ix2 b ch) idx a + (dims2 wf).batchCoord (ix2 b ch) a + (dims2 wf).offCoord (ix2 b ch) a = _
  rw [GatherDims.batchCoord_eq_zero _ _ _ List.not_mem_nil, Nat.add_zero]
  match a with
  | ⟨0, _⟩ => exact congrArg₂ (· + ·) h0 (GatherDims.offCoord_eq_zero _ _ _ fun h => ((GatherDims.mem_sKept _ _).mp h).1 (show (0 : Fin 3) ∈ [0, 1] by decide))
  | ⟨1, _⟩ => exact congrArg₂ (· + ·) h1 (GatherDims.offCoord_eq_zero _ _ _ fun h => ((GatherDims.mem_sKept _ _).mp h).1 (show (1 : Fin 3) ∈ [0, 1] by decide))
  | ⟨2, _⟩ =>
    have h2 : (dims2 wf).start (ix2 b ch) idx (2 : Fin 3) = 0 := by
      unfold GatherDims.start
      exact dif_neg (show (2 : Fin 3) ∉ [0, 1] by decide)
    exact (congrArg₂ (· + ·) h2 (show (dims2 wf).offCoord (ix2 b ch) (2 : Fin 3) = ch.val from rfl)).trans (Nat.zero_add _)

end gather

/-- An in-range index word made ready is itself. -/
theorem ready_apply (n : BitVec 32) (w : IVec S16 32) (b : Fin 16) (h : (w (ix1 b)).toNat < 2048) :
    ready (F := Ideal) n w (ix1 b) = w (ix1 b) := by
  pointwise [ready]
  exact wrap_of_lt _ _ h

/-- The differences of a batch's points and the point the words name. -/
theorem apart_apply (x : FVec Ideal S16x2048x3 .f32) (bw w : IVec S16 32) (b : Fin 16) (n : Fin 2048) (k : Fin 3) (p : Fin 2048)
    (hb : bw (ix1 b) = BitVec.ofNat 32 b.val) (hw : w (ix1 b) = BitVec.ofNat 32 p.val) :
    apart (F := Ideal) x bw w (ix3 b n k) = x (ix3 b n k) - x (ix3 b p k) := by
  have hg : Host.gather gather_S16x2048x3_S16x2_S16x3_1_01_n_n_01_1_113 x
      (pairWords (F := Ideal) (broadcastInDim S16x1 ![0] bcast_S16_S16x1_0 bw) (broadcastInDim S16x1 ![0] bcast_S16_S16x1_0 w)) (ix2 b k)
      = x (ix3 b p k) := by
    refine gather2_apply _ _ _ b k b p ?_ ?_
    · have e : pairWords (F := Ideal) (broadcastInDim S16x1 ![0] bcast_S16_S16x1_0 bw) (broadcastInDim S16x1 ![0] bcast_S16_S16x1_0 w)
          (ix2 b (0 : Fin 2)) = bw (ix1 b) := by
        pointwise [pairWords]
      rw [e, hb, toInt_word _ (by have := b.isLt; omega)]
      rfl
    · have e : pairWords (F := Ideal) (broadcastInDim S16x1 ![0] bcast_S16_S16x1_0 bw) (broadcastInDim S16x1 ![0] bcast_S16_S16x1_0 w)
          (ix2 b (1 : Fin 2)) = w (ix1 b) := by
        pointwise [pairWords]
      rw [e, hw, toInt_word _ p.isLt]
      rfl
  unfold apart
  revert hg
  generalize (Host.gather gather_S16x2048x3_S16x2_S16x3_1_01_n_n_01_1_113 x _ : FVec Ideal S16x3 .f32) = g
  intro hg
  pointwise
  rw [hg]

/-- The distances after a trip. -/
theorem nearer_apply (x : FVec Ideal S16x2048x3 .f32) (bw w : IVec S16 32) (d : FVec Ideal S16x2048 .f32) (b : Fin 16) (n : Fin 2048)
    (p : Fin 2048) (hb : bw (ix1 b) = BitVec.ofNat 32 b.val) (hw : w (ix1 b) = BitVec.ofNat 32 p.val) :
    nearer (F := Ideal) x bw w d (ix2 b n) = min (d (ix2 b n))
      (gap (fun n => x (ix3 b n (0 : Fin 3))) (fun n => x (ix3 b n (1 : Fin 3))) (fun n => x (ix3 b n (2 : Fin 3))) p n) := by
  have h := fun k => apart_apply x bw w b n k p hb hw
  unfold nearer
  generalize apart (F := Ideal) x bw w = a at h
  pointwise
  simp only [Fin.sum_univ_three, h]
  rfl

/-- The chosen points after a trip. -/
theorem noted_apply (k : IVec S_ 32) (q : IVec S16x512 32) (w : IVec S16 32) (b : Fin 16) (s : Fin 512) (j : Fin 512)
    (hk : ∀ i, k i = BitVec.ofNat 32 j.val) :
    noted (F := Ideal) k q w (ix2 b s) = if s.val = j.val then w (ix1 b) else q (ix2 b s) := by
  unfold noted
  have hj := j.isLt
  have hidx : ((broadcastInDim S1 ![] bcast_S_S1 (id (select (cmpi .slt k (constantI S_ 32 0#32))
      (addi k (constantI S_ 32 512#32)) k)) : IVec S1 32) (ix1 (0 : Fin 1))).toInt = (j.val : Int) := by
    rw [id]
    pointwise
    rw [hk, wrap_of_lt _ _ (by rw [BitVec.toNat_ofNat]; omega), toInt_word _ (by omega)]
  refine (Routing.scatter_col_signed scatter_S16x512_S1_S16_0_1_1_0 rfl rfl q _ w j hidx b s).trans ?_
  simp only [Fin.ext_iff]
  rfl

/-! ## The trips -/

variable (m : (ℓ : Loc nD τ sig) → Buf (Elt Ideal) ℓ) (c : Dev nD)

/-- The sampling of a batch of the launched arguments. -/
abbrev st (b : Fin 16) : ℕ → (Fin 2048 → EReal) × Fin 2048 :=
  state (fun n => m ((c : Thread nD τ).loc main_arg0) (ix3 b n (0 : Fin 3))) (fun n => m ((c : Thread nD τ).loc main_arg0) (ix3 b n (1 : Fin 3)))
    (fun n => m ((c : Thread nD τ).loc main_arg0) (ix3 b n (2 : Fin 3))) (row (m ((c : Thread nD τ).loc main_arg1) (ix1 b)))

/-- The batch numbers, before every trip. -/
theorem before_batch : ∀ k, before m k c (Proc.devRef .tc main_v3_0) = (iotaInDim S16 32 0 : T Ideal S16 .i32)
  | 0 => by
    rw [before_zero]
    after_results_simp <;> rfl
  | k + 1 => by
    rw [before_succ, trip_keep _ _ (by decide) (by decide) (by decide) (by decide) (by decide), before_batch k]

/-- The points, before every trip. -/
theorem before_points : ∀ k, before m k c (Proc.devRef .tc main_v3_1) = (m ((c : Thread nD τ).loc main_arg0) : T Ideal S16x2048x3 .f32)
  | 0 => by
    rw [before_zero]
    after_results_simp <;> rfl
  | k + 1 => by
    rw [before_succ, trip_keep _ _ (by decide) (by decide) (by decide) (by decide) (by decide), before_points k]

/-- The loop's counter, before every trip. -/
theorem before_next : ∀ k, before m k c (Proc.devRef .tc main_v3_3) = (fun _ => BitVec.ofNat 32 k : T Ideal S_ .i32)
  | 0 => by
    rw [before_zero]
    after_results_simp <;> rfl
  | k + 1 => by
    rw [before_succ, trip_next, before_next k]
    funext i
    show BitVec.ofNat 32 k + 1#32 = _
    rw [BitVec.ofNat_add]

/-- The index words stay below the number of points. -/
def InRange : Prop := ∀ i, ((m ((c : Thread nD τ).loc main_arg1) i : BitVec 32)).toNat < 2048

/-- The distances kept and the points chosen, before every trip. -/
theorem before_state (h : InRange m c) (b : Fin 16) : ∀ k,
    (∀ n, (before m k c (Proc.devRef .tc main_v3_5) : T Ideal S16x2048 .f32) (ix2 b n) = (st m c b k).1 n)
      ∧ (before m k c (Proc.devRef .tc main_v3_6) : T Ideal S16 .i32) (ix1 b) = BitVec.ofNat 32 (st m c b k).2.val
  | 0 => by
    rw [before_zero]
    constructor
    · intro n
      have e : (after entryOps (entryContents [] m c) (Proc.devRef .tc main_v3_5) : T Ideal S16x2048 .f32)
          = broadcastInDim S16x2048 ![] bcast_S_S16x2048 (constant (F := Ideal) S_ .f32 0x501502F9#32) := by
        after_results_simp <;> rfl
      rw [e]
      rfl
    · have e : (after entryOps (entryContents [] m c) (Proc.devRef .tc main_v3_6) : T Ideal S16 .i32)
          = m ((c : Thread nD τ).loc main_arg1) := by
        after_results_simp <;> rfl
      rw [e]
      show _ = BitVec.ofNat 32 (row (m ((c : Thread nD τ).loc main_arg1) (ix1 b))).val
      rw [row_val _ (h _)]
      simp
  | k + 1 => by
    obtain ⟨h1, h2⟩ := before_state h b k
    have hn : ∀ n, nearer (F := Ideal) (before m k c (Proc.devRef .tc main_v3_1)) (ready 16#32 (before m k c (Proc.devRef .tc main_v3_0)))
        (ready 2048#32 (before m k c (Proc.devRef .tc main_v3_6))) (before m k c (Proc.devRef .tc main_v3_5)) (ix2 b n)
          = (st m c b (k + 1)).1 n := by
      intro n
      rw [before_points, before_batch]
      have hp := (st m c b k).2.isLt
      have hb := b.isLt
      rw [nearer_apply _ _ _ _ b n (st m c b k).2 (ready_apply _ _ b (by
          show (BitVec.ofNat 32 b.val).toNat < 2048
          rw [BitVec.toNat_ofNat]; omega))
        ((ready_apply _ _ b (by rw [h2, BitVec.toNat_ofNat]; omega)).trans h2), h1]
      rfl
    constructor
    · intro n
      rw [before_succ, trip_nearer]
      exact hn n
    · rw [before_succ, trip_place]
      refine (bestPlace_apply _ b).trans ?_
      rw [funext hn]
      rfl

/-- The points noted before a trip. -/
theorem before_noted (h : InRange m c) (b : Fin 16) (s : Fin 512) : ∀ k ≤ 512, s.val < k →
    (before m k c (Proc.devRef .tc main_v3_4) : T Ideal S16x512 .i32) (ix2 b s) = BitVec.ofNat 32 (st m c b s.val).2.val
  | 0, _, hs => absurd hs (Nat.not_lt_zero _)
  | k + 1, hk, hs => by
    rw [before_succ, trip_noted]
    refine (noted_apply _ _ _ b s ⟨k, hk⟩ (fun i => congrFun (before_next m c k) i)).trans ?_
    by_cases e : s.val = k
    · rw [if_pos e, e]
      exact (before_state m c h b k).2
    · rw [if_neg e]
      exact before_noted h b s k (by omega) (by omega)

/-- The array of chosen points after the run. -/
theorem final (h : InRange m c) : (before m 512 c (Proc.devRef .tc main_v3_4) : T Ideal S16x512 .i32)
    = chosen (m ((c : Thread nD τ).loc main_arg0)) (m ((c : Thread nD τ).loc main_arg1)) := by
  funext j
  obtain ⟨j0, j1, rfl⟩ : ∃ (j0 : Fin 16) (j1 : Fin 512), j = ix2 j0 j1 := ⟨j 0, j 1, eq_ix2 j⟩
  exact before_noted m c h j0 j1 512 le_rfl j1.isLt

end Cert.Far.Spec
end
-- ==== Proof.FarClaims.lean ====
module

public import proofs.«01_k».proof.Defs
public import proofs.«01_k».proof.Proof.Gen.Kernel3
public import proofs.«01_k».proof.Proof.Gen.Kernel3.Frame
public import proofs.«01_k».proof.Proof.Gen.Pre_start_in_range
public import proofs.«01_k».proof.Proof.FarArray
public import proofs.«01_k».proof.Proof.FarSpec

@[expose] public section

/-! The claims about the farthest point sampling's call. -/

noncomputable section

namespace Cert.Proof.Sampling

open Idealize.ShloMosaic Idealize.ShloMosaic.TcCoe Idealize.SL.Sem
open Cert.Proof.OneHot

theorem frame_kernel : Cert.quiescent_Kernel3 := fun m g _ => Cert.Kernel3.Gen.frame m g

theorem frame_ideal : Cert.quiescent_Kernel3Ideal := fun m g _ => Cert.Kernel3Ideal.Gen.frame m g

theorem frame_ideal_pre : Cert.quiescent_Kernel3Ideal_pre_start_in_range := fun m g _ => Cert.Kernel3Ideal.Gen.frame m g

theorem frame_ref : Cert.quiescent_Reference3Ideal := fun m g _ =>
  (θ_run Cert.Reference3Ideal.defs _ _).mono
    (fun r h => ⟨fun c => (h c).2, sem_eq_zero_of_no_sems (by decide) r.2⟩) (Far.run_points (F := Ideal) m g)

theorem frame_ref_pre : Cert.quiescent_Reference3Ideal_pre_start_in_range := fun m g _ => frame_ref m g trivial

/-- The precondition says the index words stay below the number of points. -/
theorem inRange (m : (ℓ : Loc Cert.Kernel3Ideal.nD Cert.Kernel3Ideal.τ Cert.Kernel3Ideal.sig) → Buf (Elt Ideal) ℓ)
    (h : Cert.Pre_Kernel3Ideal_start_in_range m) (c : Dev Cert.Kernel3Ideal.nD) : Far.Array.InRange m c :=
  fun i => lt_of_test _ (congrFun (h c) i)

theorem value : Cert.algebraic_Kernel3Ideal_Reference3Ideal_pre_start_in_range := by
  intro m g m' g' hpre hagree
  refine ⟨fun c => Far.Array.G4 m c, ?_, ?_⟩
  · exact (θ_run Cert.Kernel3Ideal.defs _ _).mono
      (fun r h c => ⟨(h c).1.trans (Far.Array.final4 m c (inRange m hpre c)), (h c).2⟩)
      (Cert.Kernel3Ideal.Value.run_blocks m g)
  · refine (θ_run Cert.Reference3Ideal.defs _ _).mono
      (fun r h c => ⟨(h c).1.trans ?_, (h c).2⟩)
      (Far.run_points m' g')
    obtain ⟨a0, a1⟩ := hagree c
    refine (Far.Spec.final m' c ?_).trans ?_
    · unfold Far.Spec.InRange
      rw [a1]; exact inRange m hpre c
    · rw [a0, a1]

end Cert.Proof.Sampling
end
-- ==== Proof.WholeFar.lean ====
module

public import proofs.«01_k».proof.Proof.Gen.WholeIdeal.Frame
public import proofs.«01_k».proof.Proof.FarArray

@[expose] public section

/-! The first call of the whole program: from the contents it is entered with, the array of chosen points. -/

noncomputable section

namespace Cert.Whole.Far

open Cert.WholeIdeal Cert.WholeIdeal.Gen Idealize.ShloMosaic Idealize.ShloMosaic.TcCoe Idealize.SL.Sem
open Idealize.ShloMosaic.StableHlo
open Idealize.ShloMosaic.Pipeline (Dat)
open Cert.Proof.OneHot

variable (V : (c : Dev nD) → (b : Ref sig .tc) → Buf (Elt Ideal) ((c : Thread nD τ).loc b)) (c : Dev nD)

/-- What a run of the body leaves in the output's buffer: the third of the carried arrays. -/
theorem out_eq (v0 v2 v4 oh : Vec Ideal S16x2048 .f32) (arg0 : Memref sig .tc .vmem S16x2048 .f32) (harg0 : arg0.IsWhole) (arg1 : Memref sig .tc .vmem S16x2048 .f32) (harg1 : arg1.IsWhole) (arg2 : Memref sig .tc .vmem S16x2048 .f32) (harg2 : arg2.IsWhole) (arg3 : Memref sig .tc .vmem S16x2048 .f32) (harg3 : arg3.IsWhole) (arg4 : Memref sig .tc .vmem S16x512 .i32) (harg4 : arg4.IsWhole) :
    out0_A_4 c arg0 harg0 arg1 harg1 arg2 harg2 arg3 harg3 arg4 harg4 v0 v2 v4 oh
      = (Scf.fold (Cert.Far.Block.trip v0 v2 v4) (Cert.Kernel3Ideal.Gen.k0_pay1 (F := Ideal), Cert.Kernel3Ideal.Gen.k0_pay3 oh, Cert.Kernel3Ideal.Gen.k0_pay2)).2.2 := by
  unfold out0_A_4 kernelRun0_A kernelRun0_A.sl.r
  rw [View.read_writes_junk_eq_canon, View.canon_unit_zero Cert.Far.Block.hz]
  rw [show View.readAt (Elt Ideal) arg0.view (Rect.unit ![0, 0] S16x2048.size inb_S16x2048_S16x2048_0_0).toLoadRect (harg0.unread v0) = v0 from
      (View.readAt_full arg0.view _ _).trans (harg0.read_unread v0),
    show View.readAt (Elt Ideal) arg1.view (Rect.unit ![0, 0] S16x2048.size inb_S16x2048_S16x2048_0_0).toLoadRect (harg1.unread v2) = v2 from
      (View.readAt_full arg1.view _ _).trans (harg1.read_unread v2),
    show View.readAt (Elt Ideal) arg2.view (Rect.unit ![0, 0] S16x2048.size inb_S16x2048_S16x2048_0_0).toLoadRect (harg2.unread v4) = v4 from
      (View.readAt_full arg2.view _ _).trans (harg2.read_unread v4),
    show View.readAt (Elt Ideal) arg3.view (Rect.unit ![0, 0] S16x2048.size inb_S16x2048_S16x2048_0_0).toLoadRect (harg3.unread oh) = oh from
      (View.readAt_full arg3.view _ _).trans (harg3.read_unread oh)]
  rfl

/-- Every window's block is the whole array. -/
theorem idx_facts0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The block of first coordinates at a point. -/
theorem blk0 (x : Vec Ideal S16x2048x3 .f32) (h : ∀ b n, (V c main_v2 : Vec Ideal S16x2048 .f32) (ix2 b n) = x (ix3 b n (0 : Fin 3))) (t : Fin cfg0.N) (b : Fin 16) (n : Fin 2048) :
    (iblk0 V c 0 t : Vec Ideal S16x2048 .f32) (ix2 b n) = x (ix3 b n (0 : Fin 3)) := by
  have hf := idx_facts0 t
  refine Eq.trans ?_ (h b n)
  unfold iblk0
  rw [View.read_apply]
  show V c main_v2 _ = V c main_v2 _
  congr 1
  funext a
  apply Fin.ext
  match a with
  | ⟨0, _⟩ => show win0_0.index t (0 : Fin 2) * 16 + 1 * b.val = b.val; omega
  | ⟨1, _⟩ => show win0_0.index t (1 : Fin 2) * 2048 + 1 * n.val = n.val; omega

/-- The block of second coordinates at a point. -/
theorem blk1 (x : Vec Ideal S16x2048x3 .f32) (h : ∀ b n, (V c main_v4 : Vec Ideal S16x2048 .f32) (ix2 b n) = x (ix3 b n (1 : Fin 3))) (t : Fin cfg0.N) (b : Fin 16) (n : Fin 2048) :
    (iblk0 V c 1 t : Vec Ideal S16x2048 .f32) (ix2 b n) = x (ix3 b n (1 : Fin 3)) := by
  have hf := idx_facts0 t
  refine Eq.trans ?_ (h b n)
  unfold iblk0
  rw [View.read_apply]
  show V c main_v4 _ = V c main_v4 _
  congr 1
  funext a
  apply Fin.ext
  match a with
  | ⟨0, _⟩ => show win0_1.index t (0 : Fin 2) * 16 + 1 * b.val = b.val; omega
  | ⟨1, _⟩ => show win0_1.index t (1 : Fin 2) * 2048 + 1 * n.val = n.val; omega

/-- The block of third coordinates at a point. -/
theorem blk2 (x : Vec Ideal S16x2048x3 .f32) (h : ∀ b n, (V c main_v6 : Vec Ideal S16x2048 .f32) (ix2 b n) = x (ix3 b n (2 : Fin 3))) (t : Fin cfg0.N) (b : Fin 16) (n : Fin 2048) :
    (iblk0 V c 2 t : Vec Ideal S16x2048 .f32) (ix2 b n) = x (ix3 b n (2 : Fin 3)) := by
  have hf := idx_facts0 t
  refine Eq.trans ?_ (h b n)
  unfold iblk0
  rw [View.read_apply]
  show V c main_v6 _ = V c main_v6 _
  congr 1
  funext a
  apply Fin.ext
  match a with
  | ⟨0, _⟩ => show win0_2.index t (0 : Fin 2) * 16 + 1 * b.val = b.val; omega
  | ⟨1, _⟩ => show win0_2.index t (1 : Fin 2) * 2048 + 1 * n.val = n.val; omega

/-- The block of one-hot rows at a point. -/
theorem blk3 (f : IVec S16 32) (h : ∀ b n, (V c main_v13 : Vec Ideal S16x2048 .f32) (ix2 b n) = Cert.Far.Array.hot (row (f (ix1 b))) n)
    (t : Fin cfg0.N) (b : Fin 16) (n : Fin 2048) :
    (iblk0 V c 3 t : Vec Ideal S16x2048 .f32) (ix2 b n) = Cert.Far.Array.hot (row (f (ix1 b))) n := by
  have hf := idx_facts0 t
  refine Eq.trans ?_ (h b n)
  unfold iblk0
  rw [View.read_apply]
  show V c main_v13 _ = V c main_v13 _
  congr 1
  funext a
  apply Fin.ext
  match a with
  | ⟨0, _⟩ => show win0_3.index t (0 : Fin 2) * 16 + 1 * b.val = b.val; omega
  | ⟨1, _⟩ => show win0_3.index t (1 : Fin 2) * 2048 + 1 * n.val = n.val; omega

/-- What the point writes back is the chosen points. -/
theorem flushed4_eq (x : Vec Ideal S16x2048x3 .f32) (f : IVec S16 32)
    (h0 : ∀ b n, (V c main_v2 : Vec Ideal S16x2048 .f32) (ix2 b n) = x (ix3 b n (0 : Fin 3)))
    (h1 : ∀ b n, (V c main_v4 : Vec Ideal S16x2048 .f32) (ix2 b n) = x (ix3 b n (1 : Fin 3)))
    (h2 : ∀ b n, (V c main_v6 : Vec Ideal S16x2048 .f32) (ix2 b n) = x (ix3 b n (2 : Fin 3)))
    (h3 : ∀ b n, (V c main_v13 : Vec Ideal S16x2048 .f32) (ix2 b n) = Cert.Far.Array.hot (row (f (ix1 b))) n) (t : Fin cfg0.N) :
    (dat0 V c).flushed 4 t = (win0_4.blk t).view.read (Elt Ideal) (Cert.Far.chosen x f : Buf (Elt Ideal) ((c : Thread nD τ).loc main_v14)) := by
  show (cfg0.win 4).cut (grid0.coords t) ((dat0 V c).after 4 t) = _
  rw [after0_4]
  show out0_A_4 c (ms0_0 t) (hs0_0 t) (ms0_1 t) (hs0_1 t) (ms0_2 t) (hs0_2 t) (ms0_3 t) (hs0_3 t) (ms0_4 t) (hs0_4 t)
    (iblk0 V c 0 t) (iblk0 V c 1 t) (iblk0 V c 2 t) (iblk0 V c 3 t) = _
  have hf := idx_facts0 t
  rw [out_eq]
  funext j
  rw [View.read_apply]
  obtain ⟨j0, j1, rfl⟩ : ∃ (j0 : Fin 16) (j1 : Fin 512), j = ix2 j0 j1 := ⟨j 0, j 1, eq_ix2 j⟩
  have hi : (win0_4.blk t).view.emb (ix2 j0 j1) = ix2 j0 j1 := by
    funext a
    apply Fin.ext
    match a with
    | ⟨0, _⟩ => show win0_4.index t (0 : Fin 2) * 16 + 1 * j0.val = j0.val; omega
    | ⟨1, _⟩ => show win0_4.index t (1 : Fin 2) * 512 + 1 * j1.val = j1.val; omega
  have e := Cert.Far.Array.block_eq (iblk0 V c 0 t) (iblk0 V c 1 t) (iblk0 V c 2 t) (iblk0 V c 3 t)
    x f (blk0 V c x h0 t) (blk1 V c x h1 t) (blk2 V c x h2 t) (blk3 V c f h3 t) j0 j1
  refine Eq.trans e ?_
  show _ = (Cert.Far.chosen x f) ((win0_4.blk t).view.emb (ix2 j0 j1))
  rw [hi]

/-- An index is in the point's block when each coordinate is in the block's stretch. -/
theorem mem_blk4 (t : Fin cfg0.N) (i : S16x512.Idx) :
    i ∈ ((cfg0.win 4).blk t).view.set ↔ ∀ a : Fin 2, win0_4.index t a * win0_4.size a ≤ (i a : Nat)
      ∧ (i a : Nat) < win0_4.index t a * win0_4.size a + win0_4.xsize (grid0.coords t) a := by
  show i ∈ ((View.whole main_v14).slice (win0_4.rect t)).set ↔ _
  rw [View.set_slice_whole, Rect.mem_set_unit]
  exact Iff.rfl

/-- The one block covers the array. -/
theorem cover4 (i : S16x512.Idx) : ∃ t : Fin cfg0.N, (cfg0.win 4).flush t = true ∧ i ∈ ((cfg0.win 4).blk t).view.set := by
  have h0 : (i 0 : Nat) < 16 := (i 0).isLt
  have h1 : (i 1 : Nat) < 512 := (i 1).isLt
  obtain ⟨t⟩ : Nonempty (Fin cfg0.N) := ⟨⟨0, by decide⟩⟩
  have hf := idx_facts0 t
  refine ⟨t, flush0_4 _, ?_⟩
  rw [mem_blk4]
  intro a
  match a with
  | ⟨0, _⟩ =>
    show win0_4.index t (0 : Fin 2) * 16 ≤ (i 0 : Nat) ∧ (i 0 : Nat) < win0_4.index t (0 : Fin 2) * 16 + 16
    omega
  | ⟨1, _⟩ =>
    show win0_4.index t (1 : Fin 2) * 512 ≤ (i 1 : Nat) ∧ (i 1 : Nat) < win0_4.index t (1 : Fin 2) * 512 + 512
    omega

/-- The array of chosen points after the run. -/
theorem final4 (x : Vec Ideal S16x2048x3 .f32) (f : IVec S16 32)
    (h0 : ∀ b n, (V c main_v2 : Vec Ideal S16x2048 .f32) (ix2 b n) = x (ix3 b n (0 : Fin 3)))
    (h1 : ∀ b n, (V c main_v4 : Vec Ideal S16x2048 .f32) (ix2 b n) = x (ix3 b n (1 : Fin 3)))
    (h2 : ∀ b n, (V c main_v6 : Vec Ideal S16x2048 .f32) (ix2 b n) = x (ix3 b n (2 : Fin 3)))
    (h3 : ∀ b n, (V c main_v13 : Vec Ideal S16x2048 .f32) (ix2 b n) = Cert.Far.Array.hot (row (f (ix1 b))) n) : (dat0 V c).arrAt 4 cfg0.N = (Cert.Far.chosen x f : Buf (Elt Ideal) ((c : Thread nD τ).loc main_v14)) :=
  (dat0 V c).arrAt_eq_of_cover 4 (Cert.Far.chosen x f : Buf (Elt Ideal) ((c : Thread nD τ).loc main_v14)) (fun t _ => flushed4_eq V c x f h0 h1 h2 h3 t) cover4

end Cert.Whole.Far
end
-- ==== Proof.WholeBlocks.lean ====
module

public import proofs.«01_k».proof.Proof.Gen.WholeIdeal.Frame
public import proofs.«01_k».proof.Proof.OneHot
public import proofs.«01_k».proof.Proof.Gen.Kernel2Ideal.Frame
public import proofs.«01_k».proof.Proof.Gen.KernelIdeal.Frame
public import proofs.«01_k».proof.Proof.Gen.Kernel3Ideal.Frame

@[expose] public section

noncomputable section

namespace Cert.Whole.Blocks

open Idealize.ShloMosaic Idealize.ShloMosaic.TcCoe

theorem idx_eq (x0 x1 x2 : Vec Ideal Cert.WholeIdeal.S1x1x2048 .f32) (x3 : Vec Ideal Cert.WholeIdeal.S1x2048x3 .f32)
    (x4 : Vec Ideal Cert.WholeIdeal.S1x512x1 .i32) :
    Cert.WholeIdeal.Gen.out1_5 x0 x1 x2 x3 x4 = Cert.Kernel2Ideal.Gen.out0_5 x0 x1 x2 x3 x4 := rfl

theorem centres_eq (x0 x1 x2 : Vec Ideal Cert.WholeIdeal.S1x1x2048 .f32) (x3 : Vec Ideal Cert.WholeIdeal.S1x2048x3 .f32)
    (x4 : Vec Ideal Cert.WholeIdeal.S1x512x1 .i32) :
    Cert.WholeIdeal.Gen.out1_6 x0 x1 x2 x3 x4 = Cert.Kernel2Ideal.Gen.out0_6 x0 x1 x2 x3 x4 := rfl

theorem rows_eq (x0 : Vec Ideal Cert.WholeIdeal.S1x2048x256 .f32) (x1 : Vec Ideal Cert.WholeIdeal.S1x2048x3 .f32)
    (x2 : Vec Ideal Cert.WholeIdeal.S1x1024x1 .i32) (x3 : Vec Ideal Cert.WholeIdeal.S1x32x1 .i32) :
    Cert.WholeIdeal.Gen.out2_4 x0 x1 x2 x3 = Cert.KernelIdeal.Gen.out0_4 x0 x1 x2 x3 := rfl

end Cert.Whole.Blocks
end
-- ==== Proof.WholeBall.lean ====
module

public import proofs.«01_k».proof.Proof.WholeBlocks
public import proofs.«01_k».proof.Proof.BallArray

@[expose] public section

/-! The second call of the whole program: from the contents it is entered with, the neighbours and the centres. -/

noncomputable section

namespace Cert.Whole.Ball

open Cert.WholeIdeal Cert.WholeIdeal.Gen Idealize.ShloMosaic Idealize.ShloMosaic.TcCoe Idealize.SL.Sem
open Idealize.ShloMosaic.StableHlo
open Idealize.ShloMosaic.Pipeline (Dat)
open Cert.Proof.OneHot Cert.Proof.Ball

variable (V : (c : Dev nD) → (b : Ref sig .tc) → Buf (Elt Ideal) ((c : Thread nD τ).loc b)) (c : Dev nD)

/-- Every window's block is one batch. -/
theorem idx_facts : ∀ t : Fin cfg1.N,
    win1_0.index t (0 : Fin 3) = win1_5.index t (0 : Fin 3) ∧ win1_0.index t (1 : Fin 3) = 0 ∧ win1_0.index t (2 : Fin 3) = 0
    ∧ win1_1.index t (0 : Fin 3) = win1_5.index t (0 : Fin 3) ∧ win1_1.index t (1 : Fin 3) = 0 ∧ win1_1.index t (2 : Fin 3) = 0
    ∧ win1_2.index t (0 : Fin 3) = win1_5.index t (0 : Fin 3) ∧ win1_2.index t (1 : Fin 3) = 0 ∧ win1_2.index t (2 : Fin 3) = 0
    ∧ win1_4.index t (0 : Fin 3) = win1_5.index t (0 : Fin 3) ∧ win1_4.index t (1 : Fin 3) = 0 ∧ win1_4.index t (2 : Fin 3) = 0
    ∧ win1_6.index t (0 : Fin 3) = win1_5.index t (0 : Fin 3) ∧ win1_6.index t (1 : Fin 3) = 0 ∧ win1_6.index t (2 : Fin 3) = 0
    ∧ win1_5.index t (1 : Fin 3) = 0 ∧ win1_5.index t (2 : Fin 3) = 0 ∧ win1_5.index t (0 : Fin 3) < 16 :=
  (by decide +kernel : ∀ t : Fin grid1.N, _)

/-- Every batch belongs to some point. -/
theorem idx_onto : ∀ b : Fin 16, ∃ t : Fin cfg1.N, win1_5.index t (0 : Fin 3) = b.val :=
  (by decide +kernel : ∀ b : Fin 16, ∃ t : Fin grid1.N, win1_5.index t (0 : Fin 3) = b.val)

section
variable (x : Vec Ideal S16x2048x3 .f32) (t : Fin cfg1.N) (b : Fin 16) (hb : win1_5.index t (0 : Fin 3) = b.val)
include hb

/-- The block of first coordinates at a point. -/
theorem blk0 (h' : ∀ b z n, (V c main_v15 : Vec Ideal S16x1x2048 .f32) (ix3 b z n) = x (ix3 b n (0 : Fin 3))) (n : Fin 2048) :
    (iblk1 V c 0 t : Vec Ideal S1x1x2048 .f32) (ix3 (0 : Fin 1) (0 : Fin 1) n) = x (ix3 b n (0 : Fin 3)) := by
  have h := idx_facts t
  refine Eq.trans ?_ (h' b 0 n)
  unfold iblk1
  rw [View.read_apply]
  show V c main_v15 _ = V c main_v15 _
  congr 1
  funext a
  apply Fin.ext
  match a with
  | ⟨0, _⟩ => show win1_0.index t (0 : Fin 3) * 1 + 1 * 0 = b.val; omega
  | ⟨1, _⟩ => show win1_0.index t (1 : Fin 3) * 1 + 1 * 0 = 0; omega
  | ⟨2, _⟩ => show win1_0.index t (2 : Fin 3) * 2048 + 1 * n.val = n.val; omega

/-- The block of second coordinates at a point. -/
theorem blk1 (h' : ∀ b z n, (V c main_v16 : Vec Ideal S16x1x2048 .f32) (ix3 b z n) = x (ix3 b n (1 : Fin 3))) (n : Fin 2048) :
    (iblk1 V c 1 t : Vec Ideal S1x1x2048 .f32) (ix3 (0 : Fin 1) (0 : Fin 1) n) = x (ix3 b n (1 : Fin 3)) := by
  have h := idx_facts t
  refine Eq.trans ?_ (h' b 0 n)
  unfold iblk1
  rw [View.read_apply]
  show V c main_v16 _ = V c main_v16 _
  congr 1
  funext a
  apply Fin.ext
  match a with
  | ⟨0, _⟩ => show win1_1.index t (0 : Fin 3) * 1 + 1 * 0 = b.val; omega
  | ⟨1, _⟩ => show win1_1.index t (1 : Fin 3) * 1 + 1 * 0 = 0; omega
  | ⟨2, _⟩ => show win1_1.index t (2 : Fin 3) * 2048 + 1 * n.val = n.val; omega

/-- The block of third coordinates at a point. -/
theorem blk2 (h' : ∀ b z n, (V c main_v17 : Vec Ideal S16x1x2048 .f32) (ix3 b z n) = x (ix3 b n (2 : Fin 3))) (n : Fin 2048) :
    (iblk1 V c 2 t : Vec Ideal S1x1x2048 .f32) (ix3 (0 : Fin 1) (0 : Fin 1) n) = x (ix3 b n (2 : Fin 3)) := by
  have h := idx_facts t
  refine Eq.trans ?_ (h' b 0 n)
  unfold iblk1
  rw [View.read_apply]
  show V c main_v17 _ = V c main_v17 _
  congr 1
  funext a
  apply Fin.ext
  match a with
  | ⟨0, _⟩ => show win1_2.index t (0 : Fin 3) * 1 + 1 * 0 = b.val; omega
  | ⟨1, _⟩ => show win1_2.index t (1 : Fin 3) * 1 + 1 * 0 = 0; omega
  | ⟨2, _⟩ => show win1_2.index t (2 : Fin 3) * 2048 + 1 * n.val = n.val; omega

/-- The three coordinate blocks together. -/
theorem planes (h0 : ∀ b z n, (V c main_v15 : Vec Ideal S16x1x2048 .f32) (ix3 b z n) = x (ix3 b n (0 : Fin 3)))
  (h1 : ∀ b z n, (V c main_v16 : Vec Ideal S16x1x2048 .f32) (ix3 b z n) = x (ix3 b n (1 : Fin 3)))
  (h2 : ∀ b z n, (V c main_v17 : Vec Ideal S16x1x2048 .f32) (ix3 b z n) = x (ix3 b n (2 : Fin 3))) (k : Fin 3) (n : Fin 2048) :
    (![iblk1 V c 0 t, iblk1 V c 1 t, iblk1 V c 2 t] : Fin 3 → Vec Ideal S1x1x2048 .f32) k (ix3 (0 : Fin 1) (0 : Fin 1) n)
      = x (ix3 b n k) :=
  match k with
  | ⟨0, _⟩ => blk0 V c x t b hb h0 n
  | ⟨1, _⟩ => blk1 V c x t b hb h1 n
  | ⟨2, _⟩ => blk2 V c x t b hb h2 n

/-- The block of the centres' index words at a point. -/
theorem blk4 (r : Fin 512) :
    (iblk1 V c 4 t : Vec Ideal S1x512x1 .i32) (ix3 (0 : Fin 1) r (0 : Fin 1)) = V c main_v18 (ix3 b r (0 : Fin 1)) := by
  have h := idx_facts t
  unfold iblk1
  rw [View.read_apply]
  show V c main_v18 _ = V c main_v18 _
  congr 1
  funext a
  apply Fin.ext
  match a with
  | ⟨0, _⟩ => show win1_4.index t (0 : Fin 3) * 1 + 1 * 0 = b.val; omega
  | ⟨1, _⟩ => show win1_4.index t (1 : Fin 3) * 512 + 1 * r.val = r.val; omega
  | ⟨2, _⟩ => show win1_4.index t (2 : Fin 3) * 1 + 1 * 0 = 0; omega

end

/-- What a point writes back of the index words is its batch of the neighbours. -/
theorem flushed5_eq (x : Vec Ideal S16x2048x3 .f32)
    (h0 : ∀ b z n, (V c main_v15 : Vec Ideal S16x1x2048 .f32) (ix3 b z n) = x (ix3 b n (0 : Fin 3)))
  (h1 : ∀ b z n, (V c main_v16 : Vec Ideal S16x1x2048 .f32) (ix3 b z n) = x (ix3 b n (1 : Fin 3)))
  (h2 : ∀ b z n, (V c main_v17 : Vec Ideal S16x1x2048 .f32) (ix3 b z n) = x (ix3 b n (2 : Fin 3)))
    (h : ∀ i, (V c main_v18 i : BitVec 32).toNat < 2048) (t : Fin cfg1.N) :
    (dat1 V c).flushed 5 t = (win1_5.blk t).view.read (Elt Ideal) ((neighbours x (V c main_v18) : Buf (Elt Ideal) ((c : Thread nD τ).loc main_v19_0))) := by
  show (cfg1.win 5).cut (grid1.coords t) ((dat1 V c).after 5 t) = _
  rw [after1_5]
  show out1_5 (iblk1 V c 0 t) (iblk1 V c 1 t) (iblk1 V c 2 t) (iblk1 V c 3 t) (iblk1 V c 4 t) = _
  rw [Blocks.idx_eq]
  have hf := idx_facts t
  obtain ⟨b, hb⟩ : ∃ b : Fin 16, win1_5.index t (0 : Fin 3) = b.val := ⟨⟨_, hf.2.2.2.2.2.2.2.2.2.2.2.2.2.2.2.2.2⟩, rfl⟩
  funext j
  rw [View.read_apply]
  obtain ⟨j0, j1, j2, rfl⟩ : ∃ (j0 : Fin 1) (j1 : Fin 512) (j2 : Fin 32), j = ix3 j0 j1 j2 := ⟨j 0, j 1, j 2, eq_ix3 j⟩
  have hi : (win1_5.blk t).view.emb (ix3 j0 j1 j2) = ix3 b j1 j2 := by
    funext a
    apply Fin.ext
    have hj0 := j0.isLt
    match a with
    | ⟨0, _⟩ => show win1_5.index t (0 : Fin 3) * 1 + 1 * j0.val = b.val; omega
    | ⟨1, _⟩ => show win1_5.index t (1 : Fin 3) * 512 + 1 * j1.val = j1.val; omega
    | ⟨2, _⟩ => show win1_5.index t (2 : Fin 3) * 32 + 1 * j2.val = j2.val; omega
  have e := Cert.Proof.BallArray.block_eq (iblk1 V c 0 t) (iblk1 V c 1 t) (iblk1 V c 2 t) (iblk1 V c 3 t) (iblk1 V c 4 t)
    (x) (V c main_v18) b (planes V c x t b hb h0 h1 h2) j0 j1
    (blk4 V c t b hb j1) (h _) j2
  refine Eq.trans e ?_
  show _ = (neighbours x (V c main_v18) : Buf (Elt Ideal) ((c : Thread nD τ).loc main_v19_0)) ((win1_5.blk t).view.emb (ix3 j0 j1 j2))
  rw [hi]

/-- What a point writes back of the coordinates is its batch of the centres. -/
theorem flushed6_eq (x : Vec Ideal S16x2048x3 .f32)
    (h0 : ∀ b z n, (V c main_v15 : Vec Ideal S16x1x2048 .f32) (ix3 b z n) = x (ix3 b n (0 : Fin 3)))
  (h1 : ∀ b z n, (V c main_v16 : Vec Ideal S16x1x2048 .f32) (ix3 b z n) = x (ix3 b n (1 : Fin 3)))
  (h2 : ∀ b z n, (V c main_v17 : Vec Ideal S16x1x2048 .f32) (ix3 b z n) = x (ix3 b n (2 : Fin 3)))
    (h : ∀ i, (V c main_v18 i : BitVec 32).toNat < 2048) (t : Fin cfg1.N) :
    (dat1 V c).flushed 6 t = (win1_6.blk t).view.read (Elt Ideal) ((centres x (V c main_v18) : Buf (Elt Ideal) ((c : Thread nD τ).loc main_v19_1))) := by
  show (cfg1.win 6).cut (grid1.coords t) ((dat1 V c).after 6 t) = _
  rw [after1_6]
  show out1_6 (iblk1 V c 0 t) (iblk1 V c 1 t) (iblk1 V c 2 t) (iblk1 V c 3 t) (iblk1 V c 4 t) = _
  rw [Blocks.centres_eq]
  unfold Cert.Kernel2Ideal.Gen.out0_6
  rw [View.canon_unit_zero Cert.Proof.BallBlock.hz, View.ld_unit_zero Cert.Proof.BallBlock.hz, View.ld_unit_zero Cert.Proof.BallBlock.hz, View.ld_unit_zero Cert.Proof.BallBlock.hz,
    View.ld_unit_zero Cert.Proof.BallBlock.hz]
  have hf := idx_facts t
  obtain ⟨b, hb⟩ : ∃ b : Fin 16, win1_5.index t (0 : Fin 3) = b.val := ⟨⟨_, hf.2.2.2.2.2.2.2.2.2.2.2.2.2.2.2.2.2⟩, rfl⟩
  funext j
  rw [View.read_apply]
  obtain ⟨j0, j1, j2, rfl⟩ : ∃ (j0 : Fin 1) (j1 : Fin 512) (j2 : Fin 3), j = ix3 j0 j1 j2 := ⟨j 0, j 1, j 2, eq_ix3 j⟩
  have e4 := blk4 V c t b hb j1
  refine (Cert.Proof.BallBlock.nxyz_apply _ _ _ _ j0 j1 (by rw [e4]; exact h _) j2).trans ?_
  rw [e4]
  have hi : (win1_6.blk t).view.emb (ix3 j0 j1 j2) = ix3 b j1 j2 := by
    funext a
    apply Fin.ext
    have hj0 := j0.isLt
    match a with
    | ⟨0, _⟩ => show win1_6.index t (0 : Fin 3) * 1 + 1 * j0.val = b.val; omega
    | ⟨1, _⟩ => show win1_6.index t (1 : Fin 3) * 512 + 1 * j1.val = j1.val; omega
    | ⟨2, _⟩ => show win1_6.index t (2 : Fin 3) * 3 + 1 * j2.val = j2.val; omega
  show _ = (centres x (V c main_v18) : Buf (Elt Ideal) ((c : Thread nD τ).loc main_v19_1)) ((win1_6.blk t).view.emb (ix3 j0 j1 j2))
  rw [hi]
  exact planes V c x t b hb h0 h1 h2 j2 _

/-- An index is in a point's block of neighbours when each coordinate is in the block's stretch. -/
theorem mem_blk5 (t : Fin cfg1.N) (i : S16x512x32.Idx) :
    i ∈ ((cfg1.win 5).blk t).view.set ↔ ∀ a : Fin 3, win1_5.index t a * win1_5.size a ≤ (i a : Nat)
      ∧ (i a : Nat) < win1_5.index t a * win1_5.size a + win1_5.xsize (grid1.coords t) a := by
  show i ∈ ((View.whole main_v19_0).slice (win1_5.rect t)).set ↔ _
  rw [View.set_slice_whole, Rect.mem_set_unit]
  exact Iff.rfl

/-- The same for the block of centres. -/
theorem mem_blk6 (t : Fin cfg1.N) (i : S16x512x3.Idx) :
    i ∈ ((cfg1.win 6).blk t).view.set ↔ ∀ a : Fin 3, win1_6.index t a * win1_6.size a ≤ (i a : Nat)
      ∧ (i a : Nat) < win1_6.index t a * win1_6.size a + win1_6.xsize (grid1.coords t) a := by
  show i ∈ ((View.whole main_v19_1).slice (win1_6.rect t)).set ↔ _
  rw [View.set_slice_whole, Rect.mem_set_unit]
  exact Iff.rfl

/-- The blocks cover the array of neighbours. -/
theorem cover5 (i : S16x512x32.Idx) : ∃ t : Fin cfg1.N, (cfg1.win 5).flush t = true ∧ i ∈ ((cfg1.win 5).blk t).view.set := by
  have h0 : (i 0 : Nat) < 16 := (i 0).isLt
  have h1 : (i 1 : Nat) < 512 := (i 1).isLt
  have h2 : (i 2 : Nat) < 32 := (i 2).isLt
  obtain ⟨t, e0⟩ := idx_onto ⟨(i 0 : Nat), h0⟩
  dsimp only at e0
  have hf := idx_facts t
  refine ⟨t, flush1_5 _, ?_⟩
  rw [mem_blk5]
  intro a
  match a with
  | ⟨0, _⟩ =>
    show win1_5.index t (0 : Fin 3) * 1 ≤ (i 0 : Nat) ∧ (i 0 : Nat) < win1_5.index t (0 : Fin 3) * 1 + 1
    omega
  | ⟨1, _⟩ =>
    show win1_5.index t (1 : Fin 3) * 512 ≤ (i 1 : Nat) ∧ (i 1 : Nat) < win1_5.index t (1 : Fin 3) * 512 + 512
    omega
  | ⟨2, _⟩ =>
    show win1_5.index t (2 : Fin 3) * 32 ≤ (i 2 : Nat) ∧ (i 2 : Nat) < win1_5.index t (2 : Fin 3) * 32 + 32
    omega

/-- The blocks cover the array of centres. -/
theorem cover6 (i : S16x512x3.Idx) : ∃ t : Fin cfg1.N, (cfg1.win 6).flush t = true ∧ i ∈ ((cfg1.win 6).blk t).view.set := by
  have h0 : (i 0 : Nat) < 16 := (i 0).isLt
  have h1 : (i 1 : Nat) < 512 := (i 1).isLt
  have h2 : (i 2 : Nat) < 3 := (i 2).isLt
  obtain ⟨t, e0⟩ := idx_onto ⟨(i 0 : Nat), h0⟩
  dsimp only at e0
  have hf := idx_facts t
  refine ⟨t, flush1_6 _, ?_⟩
  rw [mem_blk6]
  intro a
  match a with
  | ⟨0, _⟩ =>
    show win1_6.index t (0 : Fin 3) * 1 ≤ (i 0 : Nat) ∧ (i 0 : Nat) < win1_6.index t (0 : Fin 3) * 1 + 1
    omega
  | ⟨1, _⟩ =>
    show win1_6.index t (1 : Fin 3) * 512 ≤ (i 1 : Nat) ∧ (i 1 : Nat) < win1_6.index t (1 : Fin 3) * 512 + 512
    omega
  | ⟨2, _⟩ =>
    show win1_6.index t (2 : Fin 3) * 3 ≤ (i 2 : Nat) ∧ (i 2 : Nat) < win1_6.index t (2 : Fin 3) * 3 + 3
    omega

/-- The array of neighbours after the run. -/
theorem final5 (x : Vec Ideal S16x2048x3 .f32)
    (h0 : ∀ b z n, (V c main_v15 : Vec Ideal S16x1x2048 .f32) (ix3 b z n) = x (ix3 b n (0 : Fin 3)))
  (h1 : ∀ b z n, (V c main_v16 : Vec Ideal S16x1x2048 .f32) (ix3 b z n) = x (ix3 b n (1 : Fin 3)))
  (h2 : ∀ b z n, (V c main_v17 : Vec Ideal S16x1x2048 .f32) (ix3 b z n) = x (ix3 b n (2 : Fin 3)))
    (h : ∀ i, (V c main_v18 i : BitVec 32).toNat < 2048) : (dat1 V c).arrAt 5 cfg1.N = (neighbours x (V c main_v18) : Buf (Elt Ideal) ((c : Thread nD τ).loc main_v19_0)) :=
  (dat1 V c).arrAt_eq_of_cover 5 ((neighbours x (V c main_v18) : Buf (Elt Ideal) ((c : Thread nD τ).loc main_v19_0))) (fun t _ => flushed5_eq V c x h0 h1 h2 h t) cover5

/-- The array of centres after the run. -/
theorem final6 (x : Vec Ideal S16x2048x3 .f32)
    (h0 : ∀ b z n, (V c main_v15 : Vec Ideal S16x1x2048 .f32) (ix3 b z n) = x (ix3 b n (0 : Fin 3)))
  (h1 : ∀ b z n, (V c main_v16 : Vec Ideal S16x1x2048 .f32) (ix3 b z n) = x (ix3 b n (1 : Fin 3)))
  (h2 : ∀ b z n, (V c main_v17 : Vec Ideal S16x1x2048 .f32) (ix3 b z n) = x (ix3 b n (2 : Fin 3)))
    (h : ∀ i, (V c main_v18 i : BitVec 32).toNat < 2048) : (dat1 V c).arrAt 6 cfg1.N = (centres x (V c main_v18) : Buf (Elt Ideal) ((c : Thread nD τ).loc main_v19_1)) :=
  (dat1 V c).arrAt_eq_of_cover 6 ((centres x (V c main_v18) : Buf (Elt Ideal) ((c : Thread nD τ).loc main_v19_1))) (fun t _ => flushed6_eq V c x h0 h1 h2 h t) cover6

end Cert.Whole.Ball
end
-- ==== Proof.WholeGather.lean ====
module

public import proofs.«01_k».proof.Proof.WholeBlocks
public import proofs.«01_k».proof.Proof.GatherArray

@[expose] public section

/-! The third call of the whole program: from the contents it is entered with, the grouped features. -/

noncomputable section

namespace Cert.Whole.Gather

open Cert.WholeIdeal Cert.WholeIdeal.Gen Idealize.ShloMosaic Idealize.ShloMosaic.TcCoe Idealize.SL.Sem
open Idealize.ShloMosaic.StableHlo
open Idealize.ShloMosaic.Pipeline (Dat)
open Cert.Proof.OneHot

variable (V : (c : Dev nD) → (b : Ref sig .tc) → Buf (Elt Ideal) ((c : Thread nD τ).loc b)) (c : Dev nD)

/-- The grouped features of the contents the call is entered with. -/
abbrev G : Buf (Elt Ideal) ((c : Thread nD τ).loc main_v21) :=
  picked (V c main_arg1) (V c main_arg0) (V c main_v20) (V c main_v18)

/-- The windows' block positions: the two tables are on the batch, the index words and the result on the batch and the group of centres. -/
theorem idx_facts : ∀ t : Fin cfg2.N,
    win2_0.index t (0 : Fin 3) = win2_4.index t (0 : Fin 3) ∧ win2_0.index t (1 : Fin 3) = 0 ∧ win2_0.index t (2 : Fin 3) = 0
    ∧ win2_1.index t (0 : Fin 3) = win2_4.index t (0 : Fin 3) ∧ win2_1.index t (1 : Fin 3) = 0 ∧ win2_1.index t (2 : Fin 3) = 0
    ∧ win2_2.index t (0 : Fin 3) = win2_4.index t (0 : Fin 3) ∧ win2_2.index t (1 : Fin 3) = win2_4.index t (1 : Fin 3) ∧ win2_2.index t (2 : Fin 3) = 0
    ∧ win2_3.index t (0 : Fin 3) = win2_4.index t (0 : Fin 3) ∧ win2_3.index t (1 : Fin 3) = win2_4.index t (1 : Fin 3) ∧ win2_3.index t (2 : Fin 3) = 0
    ∧ win2_4.index t (2 : Fin 3) = 0 ∧ win2_4.index t (0 : Fin 3) < 16 ∧ win2_4.index t (1 : Fin 3) < 16 :=
  (by decide +kernel : ∀ t : Fin grid2.N, _)

/-- Every block position of the result belongs to some point. -/
theorem idx_onto : ∀ b s : Fin 16, ∃ t : Fin cfg2.N, win2_4.index t (0 : Fin 3) = b.val ∧ win2_4.index t (1 : Fin 3) = s.val :=
  (by decide +kernel : ∀ b s : Fin 16, ∃ t : Fin grid2.N, win2_4.index t (0 : Fin 3) = b.val ∧ win2_4.index t (1 : Fin 3) = s.val)

theorem hz : (![0, 0, 0] : Fin 3 → Nat) = fun _ => 0 := funext fun a => by fin_cases a <;> rfl

/-- The features' block at a point. -/
theorem blk0 (t : Fin cfg2.N) (b : Fin 16) (hb : win2_4.index t (0 : Fin 3) = b.val) (r : Fin 2048) (k : Fin 256) :
    (iblk2 V c 0 t : Vec Ideal S1x2048x256 .f32) (ix3 (0 : Fin 1) r k) = V c main_arg1 (ix3 b r k) := by
  obtain ⟨h0, h1, h2, _⟩ := idx_facts t
  unfold iblk2
  rw [View.read_apply]
  show V c main_arg1 _ = V c main_arg1 _
  congr 1
  funext a
  apply Fin.ext
  match a with
  | ⟨0, _⟩ => show win2_0.index t (0 : Fin 3) * 1 + 1 * 0 = b.val; omega
  | ⟨1, _⟩ => show win2_0.index t (1 : Fin 3) * 2048 + 1 * r.val = r.val; omega
  | ⟨2, _⟩ => show win2_0.index t (2 : Fin 3) * 256 + 1 * k.val = k.val; omega

/-- The coordinates' block at a point. -/
theorem blk1 (t : Fin cfg2.N) (b : Fin 16) (hb : win2_4.index t (0 : Fin 3) = b.val) (r : Fin 2048) (k : Fin 3) :
    (iblk2 V c 1 t : Vec Ideal S1x2048x3 .f32) (ix3 (0 : Fin 1) r k) = V c main_arg0 (ix3 b r k) := by
  obtain ⟨_, _, _, h0, h1, h2, _⟩ := idx_facts t
  unfold iblk2
  rw [View.read_apply]
  show V c main_arg0 _ = V c main_arg0 _
  congr 1
  funext a
  apply Fin.ext
  match a with
  | ⟨0, _⟩ => show win2_1.index t (0 : Fin 3) * 1 + 1 * 0 = b.val; omega
  | ⟨1, _⟩ => show win2_1.index t (1 : Fin 3) * 2048 + 1 * r.val = r.val; omega
  | ⟨2, _⟩ => show win2_1.index t (2 : Fin 3) * 3 + 1 * k.val = k.val; omega

/-- The neighbours' words' block at a point. -/
theorem blk2 (t : Fin cfg2.N) (b : Fin 16) (hb : win2_4.index t (0 : Fin 3) = b.val) (r : Fin 1024) (r' : Fin 16384)
    (hr : r'.val = win2_4.index t (1 : Fin 3) * 1024 + r.val) :
    (iblk2 V c 2 t : Vec Ideal S1x1024x1 .i32) (ix3 (0 : Fin 1) r (0 : Fin 1)) = V c main_v20 (ix3 b r' (0 : Fin 1)) := by
  obtain ⟨_, _, _, _, _, _, h0, h1, h2, _⟩ := idx_facts t
  unfold iblk2
  rw [View.read_apply]
  show V c main_v20 _ = V c main_v20 _
  congr 1
  funext a
  apply Fin.ext
  match a with
  | ⟨0, _⟩ => show win2_2.index t (0 : Fin 3) * 1 + 1 * 0 = b.val; omega
  | ⟨1, _⟩ => show win2_2.index t (1 : Fin 3) * 1024 + 1 * r.val = r'.val; omega
  | ⟨2, _⟩ => show win2_2.index t (2 : Fin 3) * 1 + 1 * 0 = 0; omega

/-- The centres' words' block at a point. -/
theorem blk3 (t : Fin cfg2.N) (b : Fin 16) (hb : win2_4.index t (0 : Fin 3) = b.val) (r : Fin 32) (r' : Fin 512)
    (hr : r'.val = win2_4.index t (1 : Fin 3) * 32 + r.val) :
    (iblk2 V c 3 t : Vec Ideal S1x32x1 .i32) (ix3 (0 : Fin 1) r (0 : Fin 1)) = V c main_v18 (ix3 b r' (0 : Fin 1)) := by
  obtain ⟨_, _, _, _, _, _, _, _, _, h0, h1, h2, _⟩ := idx_facts t
  unfold iblk2
  rw [View.read_apply]
  show V c main_v18 _ = V c main_v18 _
  congr 1
  funext a
  apply Fin.ext
  match a with
  | ⟨0, _⟩ => show win2_3.index t (0 : Fin 3) * 1 + 1 * 0 = b.val; omega
  | ⟨1, _⟩ => show win2_3.index t (1 : Fin 3) * 32 + 1 * r.val = r'.val; omega
  | ⟨2, _⟩ => show win2_3.index t (2 : Fin 3) * 1 + 1 * 0 = 0; omega

/-- What a point writes back is its block of the grouped features. -/
theorem flushed_eq (h : (∀ i, (V c main_v20 i : BitVec 32).toNat < 2048) ∧ ∀ i, (V c main_v18 i : BitVec 32).toNat < 2048) (t : Fin cfg2.N) :
    (dat2 V c).flushed 4 t = (win2_4.blk t).view.read (Elt Ideal) (G V c) := by
  show (cfg2.win 4).cut (grid2.coords t) ((dat2 V c).after 4 t) = _
  rw [after2_4]
  show out2_4 (iblk2 V c 0 t) (iblk2 V c 1 t) (iblk2 V c 2 t) (iblk2 V c 3 t) = _
  rw [Blocks.rows_eq]
  unfold Cert.KernelIdeal.Gen.out0_4
  rw [View.canon_unit_zero hz, View.ld_unit_zero hz, View.ld_unit_zero hz, View.ld_unit_zero hz, View.ld_unit_zero hz]
  obtain ⟨_, _, _, _, _, _, _, _, _, _, _, _, h42, hb, hs⟩ := idx_facts t
  funext j
  rw [View.read_apply]
  obtain ⟨j0, j1, j2, rfl⟩ : ∃ (j0 : Fin 1) (j1 : Fin 1024) (j2 : Fin 515), j = ix3 j0 j1 j2 := ⟨j 0, j 1, j 2, eq_ix3 j⟩
  have hj1 := j1.isLt
  have e2 := blk2 V c t ⟨_, hb⟩ rfl j1 ⟨win2_4.index t (1 : Fin 3) * 1024 + j1.val, by omega⟩ rfl
  have e3 := blk3 V c t ⟨_, hb⟩ rfl ⟨j1.val / 32, by omega⟩ ⟨win2_4.index t (1 : Fin 3) * 32 + j1.val / 32, by omega⟩ rfl
  refine (Cert.Proof.GatherBlock.pay_apply _ _ _ _ j0 j1 j2 (by rw [e2]; exact h.1 _) (by rw [e3]; exact h.2 _)).trans ?_
  rw [e2, e3]
  have hi : (win2_4.blk t).view.emb (ix3 j0 j1 j2) = ix3 (⟨_, hb⟩ : Fin 16) (⟨win2_4.index t (1 : Fin 3) * 1024 + j1.val, by omega⟩ : Fin 16384) j2 := by
    funext a
    apply Fin.ext
    have hj0 := j0.isLt
    match a with
    | ⟨0, _⟩ => show win2_4.index t (0 : Fin 3) * 1 + 1 * j0.val = win2_4.index t (0 : Fin 3); omega
    | ⟨1, _⟩ => show win2_4.index t (1 : Fin 3) * 1024 + 1 * j1.val = win2_4.index t (1 : Fin 3) * 1024 + j1.val; omega
    | ⟨2, _⟩ => show win2_4.index t (2 : Fin 3) * 515 + 1 * j2.val = j2.val; omega
  show _ = G V c ((win2_4.blk t).view.emb (ix3 j0 j1 j2))
  rw [hi]
  have hd : (win2_4.index t (1 : Fin 3) * 1024 + j1.val) / 32 = win2_4.index t (1 : Fin 3) * 32 + j1.val / 32 := by omega
  split
  · rename_i h1
    exact (blk0 V c t ⟨_, hb⟩ rfl _ _).trans (picked_feature _ _ _ _ _ _ _ h1).symm
  · rename_i h1
    split
    · rename_i h2
      exact (blk1 V c t ⟨_, hb⟩ rfl _ _).trans (picked_coord _ _ _ _ _ _ _ h1 h2).symm
    · rename_i h2
      exact (blk0 V c t ⟨_, hb⟩ rfl _ _).trans (picked_centre _ _ _ _ _ _ _ h1 h2 _ hd.symm).symm

/-- An index is in a point's block when each coordinate is in the block's stretch. -/
theorem mem_blk (t : Fin cfg2.N) (i : S16x16384x515.Idx) :
    i ∈ ((cfg2.win 4).blk t).view.set ↔ ∀ a : Fin 3, win2_4.index t a * win2_4.size a ≤ (i a : Nat)
      ∧ (i a : Nat) < win2_4.index t a * win2_4.size a + win2_4.xsize (grid2.coords t) a := by
  show i ∈ ((View.whole main_v21).slice (win2_4.rect t)).set ↔ _
  rw [View.set_slice_whole, Rect.mem_set_unit]
  exact Iff.rfl

/-- The blocks cover the array. -/
theorem cover (i : S16x16384x515.Idx) : ∃ t : Fin cfg2.N, (cfg2.win 4).flush t = true ∧ i ∈ ((cfg2.win 4).blk t).view.set := by
  have h0 : (i 0 : Nat) < 16 := (i 0).isLt
  have h1 : (i 1 : Nat) < 16384 := (i 1).isLt
  have h2 : (i 2 : Nat) < 515 := (i 2).isLt
  obtain ⟨t, e0, e1⟩ := idx_onto ⟨(i 0 : Nat), h0⟩ ⟨(i 1 : Nat) / 1024, by omega⟩
  dsimp only at e0 e1
  have e2 : win2_4.index t (2 : Fin 3) = 0 := (idx_facts t).2.2.2.2.2.2.2.2.2.2.2.2.1
  refine ⟨t, flush2_4 _, ?_⟩
  rw [mem_blk]
  intro a
  match a with
  | ⟨0, _⟩ =>
    show win2_4.index t (0 : Fin 3) * 1 ≤ (i 0 : Nat) ∧ (i 0 : Nat) < win2_4.index t (0 : Fin 3) * 1 + 1
    rw [e0]; omega
  | ⟨1, _⟩ =>
    show win2_4.index t (1 : Fin 3) * 1024 ≤ (i 1 : Nat) ∧ (i 1 : Nat) < win2_4.index t (1 : Fin 3) * 1024 + 1024
    rw [e1]; dsimp only; omega
  | ⟨2, _⟩ =>
    show win2_4.index t (2 : Fin 3) * 515 ≤ (i 2 : Nat) ∧ (i 2 : Nat) < win2_4.index t (2 : Fin 3) * 515 + 515
    rw [e2]; omega

/-- The result array after the run. -/
theorem final (h : (∀ i, (V c main_v20 i : BitVec 32).toNat < 2048) ∧ ∀ i, (V c main_v18 i : BitVec 32).toNat < 2048) : (dat2 V c).arrAt 4 cfg2.N = G V c :=
  (dat2 V c).arrAt_eq_of_cover 4 (G V c) (fun t _ => flushed_eq V c h t) cover

end Cert.Whole.Gather
end
-- ==== Proof.WholeResult.lean ====
module

public import proofs.«01_k».proof.Proof.Far
public import proofs.«01_k».proof.Proof.Ball

@[expose] public section

/-! What the whole program computes of a cloud, its features and the first points: the chosen points, their
neighbours, and both gathered. -/

noncomputable section

namespace Cert.Whole

open Idealize.ShloMosaic
open Cert.Proof.OneHot Cert.Proof.Scan Cert.Proof.Ball

/-- The words of an array of chosen points, as a column. -/
def col (w : IVec ⟨2, ![16, 512]⟩ 32) : IVec ⟨3, ![16, 512, 1]⟩ 32 := fun j => w (ix2 (j 0) (j 1))

/-- The neighbours' words, one row of 32 after another, as a column. -/
def flat (w : IVec ⟨3, ![16, 512, 32]⟩ 32) : IVec ⟨3, ![16, 16384, 1]⟩ 32 := fun j =>
  have h : (j 1).val < 16384 := (j 1).isLt
  w (ix3 (j 0) (⟨(j 1).val / 32, by omega⟩ : Fin 512) (⟨(j 1).val % 32, by omega⟩ : Fin 32))

variable (x : (⟨3, ![16, 2048, 3]⟩ : Shape).Idx → EReal) (p : (⟨3, ![16, 2048, 256]⟩ : Shape).Idx → EReal)
  (f : IVec ⟨1, ![16]⟩ 32)

/-- The chosen points as a column. -/
def picks : IVec ⟨3, ![16, 512, 1]⟩ 32 := col (Cert.Far.chosen x f)

/-- The chosen points' coordinates. -/
def newXyz : (⟨3, ![16, 512, 3]⟩ : Shape).Idx → EReal := centres x (picks x f)

/-- The neighbours' words as a column. -/
def near : IVec ⟨3, ![16, 16384, 1]⟩ 32 := flat (neighbours x (picks x f))

/-- The grouped features. -/
def newPoints : (⟨3, ![16, 16384, 515]⟩ : Shape).Idx → EReal := picked p x (near x f) (picks x f)

theorem picks_lt (i) : (picks x f i).toNat < 2048 := by
  unfold picks col Cert.Far.chosen
  rw [BitVec.toNat_ofNat]
  exact lt_of_le_of_lt (Nat.mod_le _ _) (Fin.isLt _)

/-- No point lies outside the ball around itself. -/
theorem struck_self (c : Fin 3 → EReal) : struck c c = 0#1 := by
  refine struck_neg ?_
  generalize c 0 * c 0 + c 1 * c 1 + c 2 * c 2 = a
  have h2 : Ideal.ofBits FTy.f32 0xC0000000#32 = ((-2 : ℝ) : EReal) := by
    simp [Ideal.ofBits, Ideal.ieee]
    rw [← EReal.coe_mul]
    norm_num
  have hr : (0 : EReal) ≤ Ideal.ofBits FTy.f32 0x3D23D70A#32 := by
    simp [Ideal.ofBits, Ideal.ieee]
    rw [← EReal.coe_mul]
    exact EReal.coe_nonneg.mpr (by norm_num)
  rw [h2, not_lt]
  induction a with
  | bot => simp
  | top => rw [EReal.coe_mul_top_of_neg (by norm_num)]; simp
  | coe a =>
    rw [← EReal.coe_mul, ← EReal.coe_add, ← EReal.coe_add]
    have : -2 * a + a + a = 0 := by ring
    rw [this]
    exact hr

/-- A sorted word is 2048 or a position. -/
theorem sorted_cases (q : Fin 2048 → BitVec 1) (k : Fin 2048) : sorted q k = 2048#32 ∨ (sorted q k).toNat < 2048 := by
  rcases kept_cases q (sortedFrom (fun a b => IntOp.cmpi .slt (kept q a) (kept q b) == 1#1) k) with e | ⟨_, e⟩
  · exact .inl e
  · refine .inr ?_
    show (kept q _).toNat < 2048
    rw [e, BitVec.toNat_ofNat]
    exact lt_of_le_of_lt (Nat.mod_le _ _) (Fin.isLt _)

/-- Where a point is kept, every written word is a position. -/
theorem slot_lt (q : Fin 2048 → BitVec 1) (n : Fin 2048) (h : q n = 0#1) (k : Fin 2048) : (slot q k).toNat < 2048 := by
  have h0 : (sorted q 0).toNat < 2048 := by
    refine (sorted_cases q 0).resolve_left fun e => ?_
    obtain ⟨k, hk⟩ := exists_sorted (q := q) (x := n) (by rw [h]; decide)
    have := sorted_mono q (Fin.zero_le k)
    rw [e, hk, none_toInt, lane_toInt] at this
    have := n.isLt
    omega
  unfold slot
  rcases sorted_cases q k with e | e
  · rw [e]
    exact h0
  · rcases bit_cases (IntOp.cmpi .eq (sorted q k) 2048#32) with e' | e'
    · rw [e', select_one]; exact h0
    · rw [e', select_zero]; exact e

/-- Every neighbour is a point of the cloud. -/
theorem neighbours_lt (g : IVec ⟨3, ![16, 512, 1]⟩ 32) (j) : (neighbours x g j).toNat < 2048 :=
  slot_lt _ (row (g (ix3 (j 0) (j 1) (0 : Fin 1)))) (struck_self _) _

theorem near_lt (i) : (near x f i).toNat < 2048 := neighbours_lt _ _ _

end Cert.Whole
end
-- ==== Proof.WholeRun.lean ====
module

public import proofs.«01_k».proof.Proof.WholeFar
public import proofs.«01_k».proof.Proof.WholeBall
public import proofs.«01_k».proof.Proof.WholeGather
public import proofs.«01_k».proof.Proof.WholeResult

@[expose] public section

/-! The whole program, run: its two results as functions of its arguments. -/

set_option maxRecDepth 16384

noncomputable section

namespace Cert.Whole.Run

open Cert.WholeIdeal Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

section run
variable {F : FTy → Type} [FloatOps F]
variable (m : (ℓ : Loc nD τ sig) → Buf (Elt F) ℓ) (ρ : Dev nD → PrngReg)

set_option backward.isDefEq.respectTransparency.types false in
/-- The program ends with its results at the contents the last region leaves, and its arguments unchanged. -/
theorem run_results : θ_run defs (onTc (τ := τ) (main (F := F))) ⟨m, fun _ => 0, ρ⟩ (fun r => ∀ c : Dev nD,
      r.2.mem ((c.tc : Thread nD τ).loc main_v19_1) = W6 m ρ c (Proc.devRef .tc main_v19_1)
      ∧ r.2.mem ((c.tc : Thread nD τ).loc main_v21) = W6 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => fun c =>
      ⟨h c _ (mem_uc main_v19_1 (by decide)), h c _ (mem_uc main_v21 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩)

end run

/-! ## The contents at the regions' boundaries -/

open Cert.Proof.OneHot

variable (m : (ℓ : Loc nD τ sig) → Buf (Elt Ideal) ℓ) (ρ : Dev nD → PrngReg) (c : Dev nD)

/-- The three arguments. -/
abbrev X : Vec Ideal S16x2048x3 .f32 := m ((c : Thread nD τ).loc main_arg0)
@[inherit_doc X]
abbrev P : Vec Ideal S16x2048x256 .f32 := m ((c : Thread nD τ).loc main_arg1)
@[inherit_doc X]
abbrev S : IVec S16 32 := m ((c : Thread nD τ).loc main_arg2)

theorem V1_x (b : Fin 16) (n : Fin 2048) : (V1 m ρ c main_v2 : Vec Ideal S16x2048 .f32) (ix2 b n) = X m c (ix3 b n (0 : Fin 3)) := by
  have e : (V1 m ρ c main_v2 : Vec Ideal S16x2048 .f32) = shapeCast _ (extractStridedSlice S1x16x2048 ![0, 0, 0]
      (transpose S3x16x2048 [2, 0, 1] (m ((c : Thread nD τ).loc main_arg0)) transposes_S16x2048x3_S3x16x2048_2_0_1)
      slices_S3x16x2048_S1x16x2048_0_0_0) shapeCasts_S1x16x2048_S16x2048 := by
    show StableHlo.after hostOps0 _ _ = _
    simp only [hostOps0]
    after_results_simp <;> rfl
  rw [e]
  pointwise

theorem V1_y (b : Fin 16) (n : Fin 2048) : (V1 m ρ c main_v4 : Vec Ideal S16x2048 .f32) (ix2 b n) = X m c (ix3 b n (1 : Fin 3)) := by
  have e : (V1 m ρ c main_v4 : Vec Ideal S16x2048 .f32) = shapeCast _ (extractStridedSlice S1x16x2048 ![1, 0, 0]
      (transpose S3x16x2048 [2, 0, 1] (m ((c : Thread nD τ).loc main_arg0)) transposes_S16x2048x3_S3x16x2048_2_0_1)
      slices_S3x16x2048_S1x16x2048_1_0_0) shapeCasts_S1x16x2048_S16x2048 := by
    show StableHlo.after hostOps0 _ _ = _
    simp only [hostOps0]
    after_results_simp <;> rfl
  rw [e]
  pointwise

theorem V1_z (b : Fin 16) (n : Fin 2048) : (V1 m ρ c main_v6 : Vec Ideal S16x2048 .f32) (ix2 b n) = X m c (ix3 b n (2 : Fin 3)) := by
  have e : (V1 m ρ c main_v6 : Vec Ideal S16x2048 .f32) = shapeCast _ (extractStridedSlice S1x16x2048 ![2, 0, 0]
      (transpose S3x16x2048 [2, 0, 1] (m ((c : Thread nD τ).loc main_arg0)) transposes_S16x2048x3_S3x16x2048_2_0_1)
      slices_S3x16x2048_S1x16x2048_2_0_0) shapeCasts_S1x16x2048_S16x2048 := by
    show StableHlo.after hostOps0 _ _ = _
    simp only [hostOps0]
    after_results_simp <;> rfl
  rw [e]
  pointwise

theorem V1_hot (h : ∀ i, (S m c i).toNat < 2048) (b : Fin 16) (n : Fin 2048) :
    (V1 m ρ c main_v13 : Vec Ideal S16x2048 .f32) (ix2 b n) = Cert.Far.Array.hot (row (S m c (ix1 b))) n := by
  have e : (V1 m ρ c main_v13 : Vec Ideal S16x2048 .f32) = (uitofp .f32 (cmpi .eq
      (broadcastInDim S16x2048 ![0, 1] bcast_S1x2048_S16x2048_0_1 (broadcastInDim S1x2048 ![1] bcast_S2048_S1x2048_1 (iotaInDim S2048 32 0)))
      (broadcastInDim S16x2048 ![0, 1] bcast_S16x1_S16x2048_0_1 (broadcastInDim S16x1 ![0] bcast_S16_S16x1_0
        (m ((c : Thread nD τ).loc main_arg2) : IVec S16 32)))) : FVec Ideal S16x2048 .f32) := by
    show StableHlo.after hostOps0 _ _ = _
    simp only [hostOps0]
    after_results_simp <;> rfl
  rw [e]
  pointwise
  exact Cert.Far.Array.hot_word n _ (h _)

/-- The first region leaves the chosen points. -/
theorem W2_picks (h : ∀ i, (S m c i).toNat < 2048) :
    (W2 m ρ c (Proc.devRef .tc main_v14) : IVec S16x512 32) = Cert.Far.chosen (X m c) (S m c) :=
  (W2_arr m ρ c 4).trans (Far.final4 (V1 m ρ) c (X m c) (S m c) (V1_x m ρ c) (V1_y m ρ c) (V1_z m ρ c) (V1_hot m ρ c h))

theorem V3_picks (h : ∀ i, (S m c i).toNat < 2048) : (V3 m ρ c main_v18 : IVec S16x512x1 32) = picks (X m c) (S m c) := by
  have e : (V3 m ρ c main_v18 : IVec S16x512x1 32) = shapeCast _ (W2 m ρ c (Proc.devRef .tc main_v14) : IVec S16x512 32) shapeCasts_S16x512_S16x512x1 := by
    show StableHlo.after hostOps1 _ _ = _
    simp only [hostOps1]
    after_results_simp <;> rfl
  rw [e, W2_picks m ρ c h]
  unfold picks col
  funext j
  obtain ⟨j0, j1, j2, rfl⟩ : ∃ (j0 : Fin 16) (j1 : Fin 512) (j2 : Fin 1), j = ix3 j0 j1 j2 := ⟨j 0, j 1, j 2, eq_ix3 j⟩
  generalize Cert.Far.chosen (X m c) (S m c) = w
  pointwise

theorem V3_x (b : Fin 16) (z : Fin 1) (n : Fin 2048) : (V3 m ρ c main_v15 : Vec Ideal S16x1x2048 .f32) (ix3 b z n) = X m c (ix3 b n (0 : Fin 3)) := by
  have e : (V3 m ρ c main_v15 : Vec Ideal S16x1x2048 .f32) = shapeCast _ (V1 m ρ c main_v2 : Vec Ideal S16x2048 .f32) shapeCasts_S16x2048_S16x1x2048 := by
    rw [← show W2 m ρ c (Proc.devRef .tc main_v2) = V1 m ρ c main_v2 from W2_of m ρ c main_v2 (by decide)]
    show StableHlo.after hostOps1 _ _ = _
    simp only [hostOps1]
    after_results_simp <;> rfl
  have hv := V1_x m ρ c
  rw [e]
  generalize (V1 m ρ c main_v2 : Vec Ideal S16x2048 .f32) = w at hv ⊢
  pointwise
  exact hv b n

theorem V3_y (b : Fin 16) (z : Fin 1) (n : Fin 2048) : (V3 m ρ c main_v16 : Vec Ideal S16x1x2048 .f32) (ix3 b z n) = X m c (ix3 b n (1 : Fin 3)) := by
  have e : (V3 m ρ c main_v16 : Vec Ideal S16x1x2048 .f32) = shapeCast _ (V1 m ρ c main_v4 : Vec Ideal S16x2048 .f32) shapeCasts_S16x2048_S16x1x2048 := by
    rw [← show W2 m ρ c (Proc.devRef .tc main_v4) = V1 m ρ c main_v4 from W2_of m ρ c main_v4 (by decide)]
    show StableHlo.after hostOps1 _ _ = _
    simp only [hostOps1]
    after_results_simp <;> rfl
  have hv := V1_y m ρ c
  rw [e]
  generalize (V1 m ρ c main_v4 : Vec Ideal S16x2048 .f32) = w at hv ⊢
  pointwise
  exact hv b n

theorem V3_z (b : Fin 16) (z : Fin 1) (n : Fin 2048) : (V3 m ρ c main_v17 : Vec Ideal S16x1x2048 .f32) (ix3 b z n) = X m c (ix3 b n (2 : Fin 3)) := by
  have e : (V3 m ρ c main_v17 : Vec Ideal S16x1x2048 .f32) = shapeCast _ (V1 m ρ c main_v6 : Vec Ideal S16x2048 .f32) shapeCasts_S16x2048_S16x1x2048 := by
    rw [← show W2 m ρ c (Proc.devRef .tc main_v6) = V1 m ρ c main_v6 from W2_of m ρ c main_v6 (by decide)]
    show StableHlo.after hostOps1 _ _ = _
    simp only [hostOps1]
    after_results_simp <;> rfl
  have hv := V1_z m ρ c
  rw [e]
  generalize (V1 m ρ c main_v6 : Vec Ideal S16x2048 .f32) = w at hv ⊢
  pointwise
  exact hv b n

theorem V3_arg0 : (V3 m ρ c main_arg0 : Vec Ideal S16x2048x3 .f32) = X m c := W3_args m ρ c main_arg0 (by decide)

/-- The second region leaves the neighbours and the centres' coordinates. -/
theorem W4_near (h : ∀ i, (S m c i).toNat < 2048) :
    (W4 m ρ c (Proc.devRef .tc main_v19_0) : IVec S16x512x32 32) = Cert.Proof.Ball.neighbours (X m c) (picks (X m c) (S m c)) := by
  refine (W4_arr m ρ c 5).trans ((Ball.final5 (V3 m ρ) c (X m c) (V3_x m ρ c) (V3_y m ρ c) (V3_z m ρ c)
    (fun i => by rw [V3_picks m ρ c h]; exact picks_lt _ _ i)).trans ?_)
  rw [V3_picks m ρ c h]

theorem W4_xyz (h : ∀ i, (S m c i).toNat < 2048) :
    (W4 m ρ c (Proc.devRef .tc main_v19_1) : Vec Ideal S16x512x3 .f32) = newXyz (X m c) (S m c) := by
  refine (W4_arr m ρ c 6).trans ((Ball.final6 (V3 m ρ) c (X m c) (V3_x m ρ c) (V3_y m ρ c) (V3_z m ρ c)
    (fun i => by rw [V3_picks m ρ c h]; exact picks_lt _ _ i)).trans ?_)
  rw [V3_picks m ρ c h]
  rfl

theorem V5_near (h : ∀ i, (S m c i).toNat < 2048) : (V5 m ρ c main_v20 : IVec S16x16384x1 32) = near (X m c) (S m c) := by
  have e : (V5 m ρ c main_v20 : IVec S16x16384x1 32) = shapeCast _ (W4 m ρ c (Proc.devRef .tc main_v19_0) : IVec S16x512x32 32) shapeCasts_S16x512x32_S16x16384x1 := by
    show StableHlo.after hostOps2 _ _ = _
    simp only [hostOps2]
    after_results_simp <;> rfl
  rw [e, W4_near m ρ c h]
  unfold near flat
  funext j
  obtain ⟨j0, j1, j2, rfl⟩ : ∃ (j0 : Fin 16) (j1 : Fin 16384) (j2 : Fin 1), j = ix3 j0 j1 j2 := ⟨j 0, j 1, j 2, eq_ix3 j⟩
  generalize Cert.Proof.Ball.neighbours (X m c) (picks (X m c) (S m c)) = w
  pointwise

theorem V5_picks (h : ∀ i, (S m c i).toNat < 2048) : (V5 m ρ c main_v18 : IVec S16x512x1 32) = picks (X m c) (S m c) :=
  ((W5_of m ρ c main_v18 (by decide)).trans (W4_of m ρ c main_v18 (by decide))).trans (V3_picks m ρ c h)

theorem V5_arg0 : (V5 m ρ c main_arg0 : Vec Ideal S16x2048x3 .f32) = X m c := W5_args m ρ c main_arg0 (by decide)
theorem V5_arg1 : (V5 m ρ c main_arg1 : Vec Ideal S16x2048x256 .f32) = P m c := W5_args m ρ c main_arg1 (by decide)

/-- The third region leaves the grouped features. -/
theorem W6_points (h : ∀ i, (S m c i).toNat < 2048) :
    (W6 m ρ c (Proc.devRef .tc main_v21) : Vec Ideal S16x16384x515 .f32) = newPoints (X m c) (P m c) (S m c) := by
  refine (W6_arr m ρ c 4).trans ((Gather.final (V5 m ρ) c
    ⟨fun i => by rw [V5_near m ρ c h]; exact near_lt _ _ i, fun i => by rw [V5_picks m ρ c h]; exact picks_lt _ _ i⟩).trans ?_)
  show picked (V5 m ρ c main_arg1) (V5 m ρ c main_arg0) (V5 m ρ c main_v20) (V5 m ρ c main_v18) = _
  rw [V5_near m ρ c h, V5_picks m ρ c h, V5_arg0, V5_arg1]
  rfl

/-- The last region leaves the centres' coordinates as they are. -/
theorem W6_xyz (h : ∀ i, (S m c i).toNat < 2048) :
    (W6 m ρ c (Proc.devRef .tc main_v19_1) : Vec Ideal S16x512x3 .f32) = newXyz (X m c) (S m c) :=
  ((W6_of m ρ c main_v19_1 (by decide)).trans (W5_of m ρ c main_v19_1 (by decide))).trans (W4_xyz m ρ c h)

end Cert.Whole.Run
end
-- ==== Proof.WholeRefRun.lean ====
module

public import proofs.«01_k».proof.Proof.Gen.WholeReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

/-! The whole reference, run: its loop takes 512 trips, each carried buffer after a trip is said in terms of the
carried buffers before it, and what follows the loop is said stretch by stretch. -/

@[expose] public section

noncomputable section

namespace Cert.Whole.Ref

open Cert.WholeReferenceIdeal Cert.WholeReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- The contents of a buffer of a shape and element type. -/
abbrev T (F : FTy → Type) (s : Shape) (e : EltTy) : Type := BufTy.Contents (Elt F) ⟨s, e⟩

/-- A batch word and a row word per batch, side by side. -/
def pairWords (a b : T F S16x1 .i32) : T F S16x2 .i32 :=
  concatenate S16x2 1 [⟨S16x1, a⟩, ⟨S16x1, b⟩] concatenates_S16x1_S16x1_S16x2_d1

/-- The largest value of a row, and the index where it first stands. -/
def bestValue (x : T F S16x2048 .f32) (y : T F S16x2048 .i32)
    (u : T F S_ .f32) (v : T F S_ .i32) :
    T F S16 .f32 :=
  fun j => (Host.argReduce reducer_argmax_f32_i32 x y u v reducesTo_S16x2048_S16_d1 h_S_ j).1

@[inherit_doc bestValue]
def bestPlace (x : T F S16x2048 .f32) (y : T F S16x2048 .i32)
    (u : T F S_ .f32) (v : T F S_ .i32) :
    T F S16 .i32 :=
  fun j => (Host.argReduce reducer_argmax_f32_i32 x y u v reducesTo_S16x2048_S16_d1 h_S_ j).2

/-- A batch word and a row word per centre, side by side. -/
def pair3 (a b : T F S16x512x1 .i32) : T F S16x512x2 .i32 :=
  concatenate S16x512x2 2 [⟨S16x512x1, a⟩, ⟨S16x512x1, b⟩] concatenates_S16x512x1_S16x512x1_S16x512x2_d2

/-- A batch word and a row word per neighbour, side by side. -/
def pair4 (a b : T F S16x512x32x1 .i32) : T F S16x512x32x2 .i32 :=
  concatenate S16x512x32x2 3 [⟨S16x512x32x1, a⟩, ⟨S16x512x32x1, b⟩] concatenates_S16x512x32x1_S16x512x32x1_S16x512x32x2_d3

/-- Features and coordinates, side by side. -/
def beside (a : T F S16x512x32x256 .f32) (b : T F S16x512x32x3 .f32) : T F S16x512x32x259 .f32 :=
  concatenate S16x512x32x259 3 [⟨S16x512x32x256, a⟩, ⟨S16x512x32x3, b⟩] concatenates_S16x512x32x256_S16x512x32x3_S16x512x32x259_d3

/-- Those and the centre's features, side by side. -/
def beside2 (a : T F S16x512x32x259 .f32) (b : T F S16x512x32x256 .f32) : T F S16x512x32x515 .f32 :=
  concatenate S16x512x32x515 3 [⟨S16x512x32x259, a⟩, ⟨S16x512x32x256, b⟩] concatenates_S16x512x32x259_S16x512x32x256_S16x512x32x515_d3

/-- The operations of before the loop. -/
abbrev entryOps : List (HloOp τ sig (Elt F)) :=
  [ nullary main_cst (constant S_ .f32 0x501502F9#32),
    unary main_cst main_v0 (broadcastInDim S16x2048 ![] bcast_S_S16x2048 : T F S_ .f32 → T F S16x2048 .f32),
    nullary main_c (constantI S_ 32 0#32),
    unary main_c main_v1 (broadcastInDim S16x512 ![] bcast_S_S16x512 : T F S_ .i32 → T F S16x512 .i32),
    nullary main_v2 (iotaInDim S16 32 0),
    nullary main_c_0 (constantI S_ 32 0#32),
    nullary main_c_1 (constantI S_ 32 0#32),
    unary main_v2 main_v3_0 id,
    unary main_arg0 main_v3_1 id,
    unary main_c_1 main_v3_2 id,
    unary main_c_0 main_v3_3 id,
    unary main_v1 main_v3_4 id,
    unary main_v0 main_v3_5 id,
    unary main_arg2 main_v3_6 id ]

theorem entryOps_sub : (entryOps : List (HloOp τ sig (Elt F))).Forall fun op => op.bufs ⊆ tcRefs τ sig :=
  ⟨nullary_bufs_sub .., unary_bufs_sub .., nullary_bufs_sub .., unary_bufs_sub .., nullary_bufs_sub .., nullary_bufs_sub .., nullary_bufs_sub .., unary_bufs_sub .., unary_bufs_sub .., unary_bufs_sub .., unary_bufs_sub .., unary_bufs_sub .., unary_bufs_sub .., unary_bufs_sub ..⟩

theorem entryOps_fresh : (entryOps : List (HloOp τ sig (Elt F))).Forall fun op => op.fresh = ∅ :=
  forall_fresh_of_map rfl

/-- The buffers they write. -/
abbrev entryOpsOut : List (Ref sig .tc) :=
  [main_cst, main_v0, main_c, main_v1, main_v2, main_c_0, main_c_1, main_v3_0, main_v3_1, main_v3_2, main_v3_3, main_v3_4, main_v3_5, main_v3_6]

theorem entryOps_writes : (entryOps : List (HloOp τ sig (Elt F))).Forall fun op =>
    op.writes ⊆ (entryOpsOut.map (Proc.devRef (τ := τ) .tc)).toFinset :=
  forall_writes_sub_of_map rfl

/-- The operations of the trip number and the index words, made ready, and the chosen points written down. -/
abbrev wordOps : List (HloOp τ sig (Elt F)) :=
  [ nullary main_while0b_c_30 (constantI S_ 32 1#32),
    binary main_v3_3 main_while0b_c_30 main_while0b_v106 (addi : T F S_ .i32 → T F S_ .i32 → T F S_ .i32),
    nullary main_while0b_c_31 (constantI S_ 32 0#32),
    binary main_v3_3 main_while0b_c_31 main_while0b_v107 (cmpi .slt : T F S_ .i32 → T F S_ .i32 → T F S_ .i1),
    nullary main_while0b_c_32 (constantI S_ 32 512#32),
    binary main_v3_3 main_while0b_c_32 main_while0b_v108 (addi : T F S_ .i32 → T F S_ .i32 → T F S_ .i32),
    ternary main_while0b_v107 main_while0b_v108 main_v3_3 main_while0b_v109 (select : T F S_ .i1 → T F S_ .i32 → T F S_ .i32 → T F S_ .i32),
    unary main_while0b_v109 main_while0b_v110 (id : T F S_ .i32 → T F S_ .i32),
    unary main_while0b_v110 main_while0b_v111 (broadcastInDim S1 ![] bcast_S_S1 : T F S_ .i32 → T F S1 .i32),
    ternary main_v3_4 main_while0b_v111 main_v3_6 main_while0b_v112 ((fun x i u => Host.scatter scatter_S16x512_S1_S16_0_1_1_0 (fun _ b => b) x i u) : T F S16x512 .i32 → T F S1 .i32 → T F S16 .i32 → T F S16x512 .i32),
    nullary main_while0b_c_33 (constantI S_ 32 0#32),
    unary main_while0b_c_33 main_while0b_v113 (broadcastInDim S16 ![] bcast_S_S16 : T F S_ .i32 → T F S16 .i32),
    binary main_v3_0 main_while0b_v113 main_while0b_v114 (cmpi .slt : T F S16 .i32 → T F S16 .i32 → T F S16 .i1),
    nullary main_while0b_c_34 (constantI S_ 32 16#32),
    unary main_while0b_c_34 main_while0b_v115 (broadcastInDim S16 ![] bcast_S_S16 : T F S_ .i32 → T F S16 .i32),
    binary main_v3_0 main_while0b_v115 main_while0b_v116 (addi : T F S16 .i32 → T F S16 .i32 → T F S16 .i32),
    ternary main_while0b_v114 main_while0b_v116 main_v3_0 main_while0b_v117 (select : T F S16 .i1 → T F S16 .i32 → T F S16 .i32 → T F S16 .i32),
    nullary main_while0b_c_35 (constantI S_ 32 0#32),
    unary main_while0b_c_35 main_while0b_v118 (broadcastInDim S16 ![] bcast_S_S16 : T F S_ .i32 → T F S16 .i32),
    binary main_v3_6 main_while0b_v118 main_while0b_v119 (cmpi .slt : T F S16 .i32 → T F S16 .i32 → T F S16 .i1),
    nullary main_while0b_c_36 (constantI S_ 32 2048#32),
    unary main_while0b_c_36 main_while0b_v120 (broadcastInDim S16 ![] bcast_S_S16 : T F S_ .i32 → T F S16 .i32),
    binary main_v3_6 main_while0b_v120 main_while0b_v121 (addi : T F S16 .i32 → T F S16 .i32 → T F S16 .i32),
    ternary main_while0b_v119 main_while0b_v121 main_v3_6 main_while0b_v122 (select : T F S16 .i1 → T F S16 .i32 → T F S16 .i32 → T F S16 .i32) ]

theorem wordOps_sub : (wordOps : List (HloOp τ sig (Elt F))).Forall fun op => op.bufs ⊆ tcRefs τ sig :=
  ⟨nullary_bufs_sub .., binary_bufs_sub .., nullary_bufs_sub .., binary_bufs_sub .., nullary_bufs_sub .., binary_bufs_sub .., ternary_bufs_sub .., unary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩

theorem wordOps_fresh : (wordOps : List (HloOp τ sig (Elt F))).Forall fun op => op.fresh = ∅ :=
  forall_fresh_of_map rfl

/-- The buffers they write. -/
abbrev wordOpsOut : List (Ref sig .tc) :=
  [main_while0b_c_30, main_while0b_v106, main_while0b_c_31, main_while0b_v107, main_while0b_c_32, main_while0b_v108, main_while0b_v109, main_while0b_v110, main_while0b_v111, main_while0b_v112, main_while0b_c_33, main_while0b_v113, main_while0b_v114, main_while0b_c_34, main_while0b_v115, main_while0b_v116, main_while0b_v117, main_while0b_c_35, main_while0b_v118, main_while0b_v119, main_while0b_c_36, main_while0b_v120, main_while0b_v121, main_while0b_v122]

theorem wordOps_writes : (wordOps : List (HloOp τ sig (Elt F))).Forall fun op =>
    op.writes ⊆ (wordOpsOut.map (Proc.devRef (τ := τ) .tc)).toFinset :=
  forall_writes_sub_of_map rfl

/-- The operations of the distance to the point chosen last, and the smaller distance kept. -/
abbrev distOps : List (HloOp τ sig (Elt F)) :=
  [ unary main_while0b_v117 main_while0b_v123 (broadcastInDim S16x1 ![0] bcast_S16_S16x1_0 : T F S16 .i32 → T F S16x1 .i32),
    unary main_while0b_v122 main_while0b_v124 (broadcastInDim S16x1 ![0] bcast_S16_S16x1_0 : T F S16 .i32 → T F S16x1 .i32),
    binary main_while0b_v123 main_while0b_v124 main_while0b_v125 (pairWords : T F S16x1 .i32 → T F S16x1 .i32 → T F S16x2 .i32),
    binary main_v3_1 main_while0b_v125 main_while0b_v126 ((fun x i => Host.gather gather_S16x2048x3_S16x2_S16x3_1_01_n_n_01_1_113 x i) : T F S16x2048x3 .f32 → T F S16x2 .i32 → T F S16x3 .f32),
    unary main_while0b_v126 main_while0b_v127 (broadcastInDim S16x1x3 ![0, 2] bcast_S16x3_S16x1x3_0_2 : T F S16x3 .f32 → T F S16x1x3 .f32),
    unary main_while0b_v127 main_while0b_v128 (broadcastInDim S16x2048x3 ![0, 1, 2] bcast_S16x1x3_S16x2048x3_0_1_2 : T F S16x1x3 .f32 → T F S16x2048x3 .f32),
    binary main_v3_1 main_while0b_v128 main_while0b_v129 (subf : T F S16x2048x3 .f32 → T F S16x2048x3 .f32 → T F S16x2048x3 .f32),
    binary main_while0b_v129 main_while0b_v129 main_while0b_v130 (mulf : T F S16x2048x3 .f32 → T F S16x2048x3 .f32 → T F S16x2048x3 .f32),
    nullary main_while0b_cst_37 (constant S_ .f32 0x00000000#32),
    binary main_while0b_v130 main_while0b_cst_37 main_while0b_v131 ((fun x v => Host.reduceAdd x v reducesTo_S16x2048x3_S16x2048_d2 h_S_) : T F S16x2048x3 .f32 → T F S_ .f32 → T F S16x2048 .f32),
    binary main_v3_5 main_while0b_v131 main_while0b_v132 (minimumf : T F S16x2048 .f32 → T F S16x2048 .f32 → T F S16x2048 .f32) ]

theorem distOps_sub : (distOps : List (HloOp τ sig (Elt F))).Forall fun op => op.bufs ⊆ tcRefs τ sig :=
  ⟨unary_bufs_sub .., unary_bufs_sub .., binary_bufs_sub .., binary_bufs_sub .., unary_bufs_sub .., unary_bufs_sub .., binary_bufs_sub .., binary_bufs_sub .., nullary_bufs_sub .., binary_bufs_sub .., binary_bufs_sub ..⟩

theorem distOps_fresh : (distOps : List (HloOp τ sig (Elt F))).Forall fun op => op.fresh = ∅ :=
  forall_fresh_of_map rfl

/-- The buffers they write. -/
abbrev distOpsOut : List (Ref sig .tc) :=
  [main_while0b_v123, main_while0b_v124, main_while0b_v125, main_while0b_v126, main_while0b_v127, main_while0b_v128, main_while0b_v129, main_while0b_v130, main_while0b_cst_37, main_while0b_v131, main_while0b_v132]

theorem distOps_writes : (distOps : List (HloOp τ sig (Elt F))).Forall fun op =>
    op.writes ⊆ (distOpsOut.map (Proc.devRef (τ := τ) .tc)).toFinset :=
  forall_writes_sub_of_map rfl

/-- The operations of the index of the largest distance. -/
abbrev bestOps : List (HloOp τ sig (Elt F)) :=
  [ TRef.nullary (.of main_while0b_call0_v0 : TRef sig ⟨S16x2048, .i32⟩) (iotaInDim S16x2048 32 1),
    TRef.nullary (.of main_while0b_call0_cst : TRef sig ⟨S_, .f32⟩) (constant S_ .f32 0xFF800000#32),
    TRef.nullary (.of main_while0b_call0_c : TRef sig ⟨S_, .i32⟩) (constantI S_ 32 0#32),
    TRef.quaternary (.of main_while0b_v132 : TRef sig ⟨S16x2048, .f32⟩) (.of main_while0b_call0_v0 : TRef sig ⟨S16x2048, .i32⟩)
      (.of main_while0b_call0_cst : TRef sig ⟨S_, .f32⟩) (.of main_while0b_call0_c : TRef sig ⟨S_, .i32⟩)
      (.of main_while0b_call0_v1_0 : TRef sig ⟨S16, .f32⟩) bestValue,
    TRef.quaternary (.of main_while0b_v132 : TRef sig ⟨S16x2048, .f32⟩) (.of main_while0b_call0_v0 : TRef sig ⟨S16x2048, .i32⟩)
      (.of main_while0b_call0_cst : TRef sig ⟨S_, .f32⟩) (.of main_while0b_call0_c : TRef sig ⟨S_, .i32⟩)
      (.of main_while0b_v133 : TRef sig ⟨S16, .i32⟩) bestPlace ]

theorem bestOps_sub : (bestOps : List (HloOp τ sig (Elt F))).Forall fun op => op.bufs ⊆ tcRefs τ sig :=
  ⟨nullary_bufs_sub .., nullary_bufs_sub .., nullary_bufs_sub .., quaternary_bufs_sub .., quaternary_bufs_sub ..⟩

theorem bestOps_fresh : (bestOps : List (HloOp τ sig (Elt F))).Forall fun op => op.fresh = ∅ :=
  forall_fresh_of_map rfl

/-- The buffers they write. -/
abbrev bestOpsOut : List (Ref sig .tc) :=
  [main_while0b_call0_v0, main_while0b_call0_cst, main_while0b_call0_c, main_while0b_call0_v1_0, main_while0b_v133]

theorem bestOps_writes : (bestOps : List (HloOp τ sig (Elt F))).Forall fun op =>
    op.writes ⊆ (bestOpsOut.map (Proc.devRef (τ := τ) .tc)).toFinset :=
  forall_writes_sub_of_map rfl

/-- The operations of the counters stepped and the carried values put back. -/
abbrev stepOps : List (HloOp τ sig (Elt F)) :=
  [ nullary main_while0b_c_38 (constantI S_ 32 1#32),
    binary main_v3_2 main_while0b_c_38 main_while0b_v134 (addi : T F S_ .i32 → T F S_ .i32 → T F S_ .i32),
    unary main_while0b_v134 main_v3_2 id,
    unary main_while0b_v106 main_v3_3 id,
    unary main_while0b_v112 main_v3_4 id,
    unary main_while0b_v132 main_v3_5 id,
    unary main_while0b_v133 main_v3_6 id ]

theorem stepOps_sub : (stepOps : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub ..⟩

theorem stepOps_fresh : (stepOps : List (HloOp τ sig (Elt F))).Forall fun op => op.fresh = ∅ :=
  forall_fresh_of_map rfl

/-- The buffers they write. -/
abbrev stepOpsOut : List (Ref sig .tc) :=
  [main_while0b_c_38, main_while0b_v134, main_v3_2, main_v3_3, main_v3_4, main_v3_5, main_v3_6]

theorem stepOps_writes : (stepOps : List (HloOp τ sig (Elt F))).Forall fun op =>
    op.writes ⊆ (stepOpsOut.map (Proc.devRef (τ := τ) .tc)).toFinset :=
  forall_writes_sub_of_map rfl

/-- The operations of the centres' coordinates. -/
abbrev centreOps : List (HloOp τ sig (Elt F)) :=
  [ nullary main_v4 (iotaInDim S16 32 0),
    reshape main_v4 main_v5 (rfl : (.i32 : EltTy) = .i32) shapeCasts_S16_S16x1,
    nullary main_c_2 (constantI S_ 32 0#32),
    unary main_c_2 main_v6 (broadcastInDim S16x1 ![] bcast_S_S16x1 : T F S_ .i32 → T F S16x1 .i32),
    binary main_v5 main_v6 main_v7 (cmpi .slt : T F S16x1 .i32 → T F S16x1 .i32 → T F S16x1 .i1),
    nullary main_c_3 (constantI S_ 32 16#32),
    unary main_c_3 main_v8 (broadcastInDim S16x1 ![] bcast_S_S16x1 : T F S_ .i32 → T F S16x1 .i32),
    binary main_v5 main_v8 main_v9 (addi : T F S16x1 .i32 → T F S16x1 .i32 → T F S16x1 .i32),
    ternary main_v7 main_v9 main_v5 main_v10 (select : T F S16x1 .i1 → T F S16x1 .i32 → T F S16x1 .i32 → T F S16x1 .i32),
    nullary main_c_4 (constantI S_ 32 0#32),
    unary main_c_4 main_v11 (broadcastInDim S16x512 ![] bcast_S_S16x512 : T F S_ .i32 → T F S16x512 .i32),
    binary main_v3_4 main_v11 main_v12 (cmpi .slt : T F S16x512 .i32 → T F S16x512 .i32 → T F S16x512 .i1),
    nullary main_c_5 (constantI S_ 32 2048#32),
    unary main_c_5 main_v13 (broadcastInDim S16x512 ![] bcast_S_S16x512 : T F S_ .i32 → T F S16x512 .i32),
    binary main_v3_4 main_v13 main_v14 (addi : T F S16x512 .i32 → T F S16x512 .i32 → T F S16x512 .i32),
    ternary main_v12 main_v14 main_v3_4 main_v15 (select : T F S16x512 .i1 → T F S16x512 .i32 → T F S16x512 .i32 → T F S16x512 .i32),
    unary main_v10 main_v16 (broadcastInDim S16x512 ![0, 1] bcast_S16x1_S16x512_0_1 : T F S16x1 .i32 → T F S16x512 .i32),
    unary main_v16 main_v17 (broadcastInDim S16x512x1 ![0, 1] bcast_S16x512_S16x512x1_0_1 : T F S16x512 .i32 → T F S16x512x1 .i32),
    unary main_v15 main_v18 (broadcastInDim S16x512x1 ![0, 1] bcast_S16x512_S16x512x1_0_1 : T F S16x512 .i32 → T F S16x512x1 .i32),
    binary main_v17 main_v18 main_v19 (pair3 : T F S16x512x1 .i32 → T F S16x512x1 .i32 → T F S16x512x2 .i32),
    binary main_arg0 main_v19 main_v20 ((fun x i => Host.gather gather_S16x2048x3_S16x512x2_S16x512x3_2_01_n_n_01_2_113 x i) : T F S16x2048x3 .f32 → T F S16x512x2 .i32 → T F S16x512x3 .f32) ]

theorem centreOps_sub : (centreOps : List (HloOp τ sig (Elt F))).Forall fun op => op.bufs ⊆ tcRefs τ sig :=
  ⟨nullary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub ..⟩

theorem centreOps_fresh : (centreOps : List (HloOp τ sig (Elt F))).Forall fun op => op.fresh = ∅ :=
  forall_fresh_of_map rfl

/-- The buffers they write. -/
abbrev centreOpsOut : List (Ref sig .tc) :=
  [main_v4, main_v5, main_c_2, main_v6, main_v7, main_c_3, main_v8, main_v9, main_v10, main_c_4, main_v11, main_v12, main_c_5, main_v13, main_v14, main_v15, main_v16, main_v17, main_v18, main_v19, main_v20]

theorem centreOps_writes : (centreOps : List (HloOp τ sig (Elt F))).Forall fun op =>
    op.writes ⊆ (centreOpsOut.map (Proc.devRef (τ := τ) .tc)).toFinset :=
  forall_writes_sub_of_map rfl

/-- The operations of the centres' features. -/
abbrev featOps : List (HloOp τ sig (Elt F)) :=
  [ nullary main_v21 (iotaInDim S16 32 0),
    reshape main_v21 main_v22 (rfl : (.i32 : EltTy) = .i32) shapeCasts_S16_S16x1,
    nullary main_c_6 (constantI S_ 32 0#32),
    unary main_c_6 main_v23 (broadcastInDim S16x1 ![] bcast_S_S16x1 : T F S_ .i32 → T F S16x1 .i32),
    binary main_v22 main_v23 main_v24 (cmpi .slt : T F S16x1 .i32 → T F S16x1 .i32 → T F S16x1 .i1),
    nullary main_c_7 (constantI S_ 32 16#32),
    unary main_c_7 main_v25 (broadcastInDim S16x1 ![] bcast_S_S16x1 : T F S_ .i32 → T F S16x1 .i32),
    binary main_v22 main_v25 main_v26 (addi : T F S16x1 .i32 → T F S16x1 .i32 → T F S16x1 .i32),
    ternary main_v24 main_v26 main_v22 main_v27 (select : T F S16x1 .i1 → T F S16x1 .i32 → T F S16x1 .i32 → T F S16x1 .i32),
    nullary main_c_8 (constantI S_ 32 0#32),
    unary main_c_8 main_v28 (broadcastInDim S16x512 ![] bcast_S_S16x512 : T F S_ .i32 → T F S16x512 .i32),
    binary main_v3_4 main_v28 main_v29 (cmpi .slt : T F S16x512 .i32 → T F S16x512 .i32 → T F S16x512 .i1),
    nullary main_c_9 (constantI S_ 32 2048#32),
    unary main_c_9 main_v30 (broadcastInDim S16x512 ![] bcast_S_S16x512 : T F S_ .i32 → T F S16x512 .i32),
    binary main_v3_4 main_v30 main_v31 (addi : T F S16x512 .i32 → T F S16x512 .i32 → T F S16x512 .i32),
    ternary main_v29 main_v31 main_v3_4 main_v32 (select : T F S16x512 .i1 → T F S16x512 .i32 → T F S16x512 .i32 → T F S16x512 .i32),
    unary main_v27 main_v33 (broadcastInDim S16x512 ![0, 1] bcast_S16x1_S16x512_0_1 : T F S16x1 .i32 → T F S16x512 .i32),
    unary main_v33 main_v34 (broadcastInDim S16x512x1 ![0, 1] bcast_S16x512_S16x512x1_0_1 : T F S16x512 .i32 → T F S16x512x1 .i32),
    unary main_v32 main_v35 (broadcastInDim S16x512x1 ![0, 1] bcast_S16x512_S16x512x1_0_1 : T F S16x512 .i32 → T F S16x512x1 .i32),
    binary main_v34 main_v35 main_v36 (pair3 : T F S16x512x1 .i32 → T F S16x512x1 .i32 → T F S16x512x2 .i32),
    binary main_arg1 main_v36 main_v37 ((fun x i => Host.gather gather_S16x2048x256_S16x512x2_S16x512x256_2_01_n_n_01_2_11256 x i) : T F S16x2048x256 .f32 → T F S16x512x2 .i32 → T F S16x512x256 .f32) ]

theorem featOps_sub : (featOps : List (HloOp τ sig (Elt F))).Forall fun op => op.bufs ⊆ tcRefs τ sig :=
  ⟨nullary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub ..⟩

theorem featOps_fresh : (featOps : List (HloOp τ sig (Elt F))).Forall fun op => op.fresh = ∅ :=
  forall_fresh_of_map rfl

/-- The buffers they write. -/
abbrev featOpsOut : List (Ref sig .tc) :=
  [main_v21, main_v22, main_c_6, main_v23, main_v24, main_c_7, main_v25, main_v26, main_v27, main_c_8, main_v28, main_v29, main_c_9, main_v30, main_v31, main_v32, main_v33, main_v34, main_v35, main_v36, main_v37]

theorem featOps_writes : (featOps : List (HloOp τ sig (Elt F))).Forall fun op =>
    op.writes ⊆ (featOpsOut.map (Proc.devRef (τ := τ) .tc)).toFinset :=
  forall_writes_sub_of_map rfl

/-- The operations of the points outside each ball. -/
abbrev maskOps : List (HloOp τ sig (Elt F)) :=
  [ nullary main_v38 (iotaInDim S2048 32 0),
    unary main_v38 main_v39 (broadcastInDim S1x1x2048 ![2] bcast_S2048_S1x1x2048_2 : T F S2048 .i32 → T F S1x1x2048 .i32),
    unary main_v39 main_v40 (broadcastInDim S16x512x2048 ![0, 1, 2] bcast_S1x1x2048_S16x512x2048_0_1_2 : T F S1x1x2048 .i32 → T F S16x512x2048 .i32),
    unary main_arg0 main_v41 ((transpose S16x3x2048 [0, 2, 1] · transposes_S16x2048x3_S16x3x2048_0_2_1) : T F S16x2048x3 .f32 → T F S16x3x2048 .f32),
    binary main_v20 main_v41 main_v42 ((fun l r => Host.dotGeneral dot_S16x512x3_S16x3x2048_S16x512x2048_2_1_1_2_0_0 none l r) : T F S16x512x3 .f32 → T F S16x3x2048 .f32 → T F S16x512x2048 .f32),
    nullary main_cst_10 (constant S_ .f32 0xC0000000#32),
    unary main_cst_10 main_v43 (broadcastInDim S16x512x2048 ![] bcast_S_S16x512x2048 : T F S_ .f32 → T F S16x512x2048 .f32),
    binary main_v43 main_v42 main_v44 (mulf : T F S16x512x2048 .f32 → T F S16x512x2048 .f32 → T F S16x512x2048 .f32),
    binary main_v20 main_v20 main_v45 (mulf : T F S16x512x3 .f32 → T F S16x512x3 .f32 → T F S16x512x3 .f32),
    nullary main_cst_11 (constant S_ .f32 0x00000000#32),
    binary main_v45 main_cst_11 main_v46 ((fun x v => Host.reduceAdd x v reducesTo_S16x512x3_S16x512_d2 h_S_) : T F S16x512x3 .f32 → T F S_ .f32 → T F S16x512 .f32),
    reshape main_v46 main_v47 (rfl : (.f32 : EltTy) = .f32) shapeCasts_S16x512_S16x512x1,
    unary main_v47 main_v48 (broadcastInDim S16x512x2048 ![0, 1, 2] bcast_S16x512x1_S16x512x2048_0_1_2 : T F S16x512x1 .f32 → T F S16x512x2048 .f32),
    binary main_v44 main_v48 main_v49 (addf : T F S16x512x2048 .f32 → T F S16x512x2048 .f32 → T F S16x512x2048 .f32),
    binary main_arg0 main_arg0 main_v50 (mulf : T F S16x2048x3 .f32 → T F S16x2048x3 .f32 → T F S16x2048x3 .f32),
    nullary main_cst_12 (constant S_ .f32 0x00000000#32),
    binary main_v50 main_cst_12 main_v51 ((fun x v => Host.reduceAdd x v reducesTo_S16x2048x3_S16x2048_d2 h_S_) : T F S16x2048x3 .f32 → T F S_ .f32 → T F S16x2048 .f32),
    reshape main_v51 main_v52 (rfl : (.f32 : EltTy) = .f32) shapeCasts_S16x2048_S16x1x2048,
    unary main_v52 main_v53 (broadcastInDim S16x512x2048 ![0, 1, 2] bcast_S16x1x2048_S16x512x2048_0_1_2 : T F S16x1x2048 .f32 → T F S16x512x2048 .f32),
    binary main_v49 main_v53 main_v54 (addf : T F S16x512x2048 .f32 → T F S16x512x2048 .f32 → T F S16x512x2048 .f32),
    nullary main_cst_13 (constant S_ .f32 0x3D23D70A#32),
    unary main_cst_13 main_v55 (broadcastInDim S16x512x2048 ![] bcast_S_S16x512x2048 : T F S_ .f32 → T F S16x512x2048 .f32),
    binary main_v54 main_v55 main_v56 (cmpf .ogt : T F S16x512x2048 .f32 → T F S16x512x2048 .f32 → T F S16x512x2048 .i1) ]

theorem maskOps_sub : (maskOps : List (HloOp τ sig (Elt F))).Forall fun op => op.bufs ⊆ tcRefs τ sig :=
  ⟨nullary_bufs_sub .., unary_bufs_sub .., unary_bufs_sub .., unary_bufs_sub .., binary_bufs_sub .., nullary_bufs_sub .., unary_bufs_sub .., binary_bufs_sub .., binary_bufs_sub .., nullary_bufs_sub .., binary_bufs_sub .., reshape_bufs_sub .., unary_bufs_sub .., binary_bufs_sub .., binary_bufs_sub .., nullary_bufs_sub .., binary_bufs_sub .., reshape_bufs_sub .., unary_bufs_sub .., binary_bufs_sub .., nullary_bufs_sub .., unary_bufs_sub .., binary_bufs_sub ..⟩

theorem maskOps_fresh : (maskOps : List (HloOp τ sig (Elt F))).Forall fun op => op.fresh = ∅ :=
  forall_fresh_of_map rfl

/-- The buffers they write. -/
abbrev maskOpsOut : List (Ref sig .tc) :=
  [main_v38, main_v39, main_v40, main_v41, main_v42, main_cst_10, main_v43, main_v44, main_v45, main_cst_11, main_v46, main_v47, main_v48, main_v49, main_v50, main_cst_12, main_v51, main_v52, main_v53, main_v54, main_cst_13, main_v55, main_v56]

theorem maskOps_writes : (maskOps : List (HloOp τ sig (Elt F))).Forall fun op =>
    op.writes ⊆ (maskOpsOut.map (Proc.devRef (τ := τ) .tc)).toFinset :=
  forall_writes_sub_of_map rfl

/-- The operations of the neighbours of each centre. -/
abbrev ballOps : List (HloOp τ sig (Elt F)) :=
  [ nullary main_c_14 (constantI S_ 32 2048#32),
    TRef.unary (.of main_c_14 : TRef sig ⟨S_, .i32⟩) (.of main_call1_v0 : TRef sig ⟨S_, .i32⟩) id,
    TRef.unary (.of main_call1_v0 : TRef sig ⟨S_, .i32⟩) (.of main_call1_v1 : TRef sig ⟨S16x512x2048, .i32⟩) (broadcastInDim S16x512x2048 ![] bcast_S_S16x512x2048),
    TRef.ternary (.of main_v56 : TRef sig ⟨S16x512x2048, .i1⟩) (.of main_call1_v1 : TRef sig ⟨S16x512x2048, .i32⟩) (.of main_v40 : TRef sig ⟨S16x512x2048, .i32⟩) (.of main_v57 : TRef sig ⟨S16x512x2048, .i32⟩) select,
    TRef.unary (.of main_v57 : TRef sig ⟨S16x512x2048, .i32⟩) (.of main_v58 : TRef sig ⟨S16x512x2048, .i32⟩) (fun x => Host.sort S16x512x2048 2 comparator_i32_d2 x),
    unary main_v58 main_v59 ((extractStridedSlice S16x512x32 ![0, 0, 0] · slices_S16x512x2048_S16x512x32_0_0_0) : T F S16x512x2048 .i32 → T F S16x512x32 .i32),
    unary main_v59 main_v60 ((extractStridedSlice S16x512x1 ![0, 0, 0] · slices_S16x512x32_S16x512x1_0_0_0) : T F S16x512x32 .i32 → T F S16x512x1 .i32),
    unary main_v60 main_v61 (broadcastInDim S16x512x1x32 ![0, 1, 2] bcast_S16x512x1_S16x512x1x32_0_1_2 : T F S16x512x1 .i32 → T F S16x512x1x32 .i32),
    reshape main_v61 main_v62 (rfl : (.i32 : EltTy) = .i32) shapeCasts_S16x512x1x32_S16x512x32,
    nullary main_c_15 (constantI S_ 32 2048#32),
    unary main_c_15 main_v63 (broadcastInDim S16x512x32 ![] bcast_S_S16x512x32 : T F S_ .i32 → T F S16x512x32 .i32),
    binary main_v59 main_v63 main_v64 (cmpi .eq : T F S16x512x32 .i32 → T F S16x512x32 .i32 → T F S16x512x32 .i1),
    TRef.ternary (.of main_v64 : TRef sig ⟨S16x512x32, .i1⟩) (.of main_v62 : TRef sig ⟨S16x512x32, .i32⟩) (.of main_v59 : TRef sig ⟨S16x512x32, .i32⟩) (.of main_v65 : TRef sig ⟨S16x512x32, .i32⟩) select ]

theorem ballOps_sub : (ballOps : List (HloOp τ sig (Elt F))).Forall fun op => op.bufs ⊆ tcRefs τ sig :=
  ⟨nullary_bufs_sub .., unary_bufs_sub .., unary_bufs_sub .., ternary_bufs_sub .., unary_bufs_sub .., unary_bufs_sub .., unary_bufs_sub .., unary_bufs_sub .., reshape_bufs_sub .., nullary_bufs_sub .., unary_bufs_sub .., binary_bufs_sub .., ternary_bufs_sub ..⟩

theorem ballOps_fresh : (ballOps : List (HloOp τ sig (Elt F))).Forall fun op => op.fresh = ∅ :=
  forall_fresh_of_map rfl

/-- The buffers they write. -/
abbrev ballOpsOut : List (Ref sig .tc) :=
  [main_c_14, main_call1_v0, main_call1_v1, main_v57, main_v58, main_v59, main_v60, main_v61, main_v62, main_c_15, main_v63, main_v64, main_v65]

theorem ballOps_writes : (ballOps : List (HloOp τ sig (Elt F))).Forall fun op =>
    op.writes ⊆ (ballOpsOut.map (Proc.devRef (τ := τ) .tc)).toFinset :=
  forall_writes_sub_of_map rfl

/-- The operations of the neighbours' coordinates. -/
abbrev coordOps : List (HloOp τ sig (Elt F)) :=
  [ nullary main_v66 (iotaInDim S16 32 0),
    reshape main_v66 main_v67 (rfl : (.i32 : EltTy) = .i32) shapeCasts_S16_S16x1x1,
    nullary main_c_16 (constantI S_ 32 0#32),
    unary main_c_16 main_v68 (broadcastInDim S16x1x1 ![] bcast_S_S16x1x1 : T F S_ .i32 → T F S16x1x1 .i32),
    binary main_v67 main_v68 main_v69 (cmpi .slt : T F S16x1x1 .i32 → T F S16x1x1 .i32 → T F S16x1x1 .i1),
    nullary main_c_17 (constantI S_ 32 16#32),
    unary main_c_17 main_v70 (broadcastInDim S16x1x1 ![] bcast_S_S16x1x1 : T F S_ .i32 → T F S16x1x1 .i32),
    binary main_v67 main_v70 main_v71 (addi : T F S16x1x1 .i32 → T F S16x1x1 .i32 → T F S16x1x1 .i32),
    ternary main_v69 main_v71 main_v67 main_v72 (select : T F S16x1x1 .i1 → T F S16x1x1 .i32 → T F S16x1x1 .i32 → T F S16x1x1 .i32),
    nullary main_c_18 (constantI S_ 32 0#32),
    unary main_c_18 main_v73 (broadcastInDim S16x512x32 ![] bcast_S_S16x512x32 : T F S_ .i32 → T F S16x512x32 .i32),
    binary main_v65 main_v73 main_v74 (cmpi .slt : T F S16x512x32 .i32 → T F S16x512x32 .i32 → T F S16x512x32 .i1),
    nullary main_c_19 (constantI S_ 32 2048#32),
    unary main_c_19 main_v75 (broadcastInDim S16x512x32 ![] bcast_S_S16x512x32 : T F S_ .i32 → T F S16x512x32 .i32),
    binary main_v65 main_v75 main_v76 (addi : T F S16x512x32 .i32 → T F S16x512x32 .i32 → T F S16x512x32 .i32),
    ternary main_v74 main_v76 main_v65 main_v77 (select : T F S16x512x32 .i1 → T F S16x512x32 .i32 → T F S16x512x32 .i32 → T F S16x512x32 .i32),
    unary main_v72 main_v78 (broadcastInDim S16x512x32 ![0, 1, 2] bcast_S16x1x1_S16x512x32_0_1_2 : T F S16x1x1 .i32 → T F S16x512x32 .i32),
    unary main_v78 main_v79 (broadcastInDim S16x512x32x1 ![0, 1, 2] bcast_S16x512x32_S16x512x32x1_0_1_2 : T F S16x512x32 .i32 → T F S16x512x32x1 .i32),
    unary main_v77 main_v80 (broadcastInDim S16x512x32x1 ![0, 1, 2] bcast_S16x512x32_S16x512x32x1_0_1_2 : T F S16x512x32 .i32 → T F S16x512x32x1 .i32),
    binary main_v79 main_v80 main_v81 (pair4 : T F S16x512x32x1 .i32 → T F S16x512x32x1 .i32 → T F S16x512x32x2 .i32),
    binary main_arg0 main_v81 main_v82 ((fun x i => Host.gather gather_S16x2048x3_S16x512x32x2_S16x512x32x3_3_01_n_n_01_3_113 x i) : T F S16x2048x3 .f32 → T F S16x512x32x2 .i32 → T F S16x512x32x3 .f32) ]

theorem coordOps_sub : (coordOps : List (HloOp τ sig (Elt F))).Forall fun op => op.bufs ⊆ tcRefs τ sig :=
  ⟨nullary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub ..⟩

theorem coordOps_fresh : (coordOps : List (HloOp τ sig (Elt F))).Forall fun op => op.fresh = ∅ :=
  forall_fresh_of_map rfl

/-- The buffers they write. -/
abbrev coordOpsOut : List (Ref sig .tc) :=
  [main_v66, main_v67, main_c_16, main_v68, main_v69, main_c_17, main_v70, main_v71, main_v72, main_c_18, main_v73, main_v74, main_c_19, main_v75, main_v76, main_v77, main_v78, main_v79, main_v80, main_v81, main_v82]

theorem coordOps_writes : (coordOps : List (HloOp τ sig (Elt F))).Forall fun op =>
    op.writes ⊆ (coordOpsOut.map (Proc.devRef (τ := τ) .tc)).toFinset :=
  forall_writes_sub_of_map rfl

/-- The operations of the neighbours' features. -/
abbrev rowOps : List (HloOp τ sig (Elt F)) :=
  [ nullary main_v83 (iotaInDim S16 32 0),
    reshape main_v83 main_v84 (rfl : (.i32 : EltTy) = .i32) shapeCasts_S16_S16x1x1,
    nullary main_c_20 (constantI S_ 32 0#32),
    unary main_c_20 main_v85 (broadcastInDim S16x1x1 ![] bcast_S_S16x1x1 : T F S_ .i32 → T F S16x1x1 .i32),
    binary main_v84 main_v85 main_v86 (cmpi .slt : T F S16x1x1 .i32 → T F S16x1x1 .i32 → T F S16x1x1 .i1),
    nullary main_c_21 (constantI S_ 32 16#32),
    unary main_c_21 main_v87 (broadcastInDim S16x1x1 ![] bcast_S_S16x1x1 : T F S_ .i32 → T F S16x1x1 .i32),
    binary main_v84 main_v87 main_v88 (addi : T F S16x1x1 .i32 → T F S16x1x1 .i32 → T F S16x1x1 .i32),
    ternary main_v86 main_v88 main_v84 main_v89 (select : T F S16x1x1 .i1 → T F S16x1x1 .i32 → T F S16x1x1 .i32 → T F S16x1x1 .i32),
    nullary main_c_22 (constantI S_ 32 0#32),
    unary main_c_22 main_v90 (broadcastInDim S16x512x32 ![] bcast_S_S16x512x32 : T F S_ .i32 → T F S16x512x32 .i32),
    binary main_v65 main_v90 main_v91 (cmpi .slt : T F S16x512x32 .i32 → T F S16x512x32 .i32 → T F S16x512x32 .i1),
    nullary main_c_23 (constantI S_ 32 2048#32),
    unary main_c_23 main_v92 (broadcastInDim S16x512x32 ![] bcast_S_S16x512x32 : T F S_ .i32 → T F S16x512x32 .i32),
    binary main_v65 main_v92 main_v93 (addi : T F S16x512x32 .i32 → T F S16x512x32 .i32 → T F S16x512x32 .i32),
    ternary main_v91 main_v93 main_v65 main_v94 (select : T F S16x512x32 .i1 → T F S16x512x32 .i32 → T F S16x512x32 .i32 → T F S16x512x32 .i32),
    unary main_v89 main_v95 (broadcastInDim S16x512x32 ![0, 1, 2] bcast_S16x1x1_S16x512x32_0_1_2 : T F S16x1x1 .i32 → T F S16x512x32 .i32),
    unary main_v95 main_v96 (broadcastInDim S16x512x32x1 ![0, 1, 2] bcast_S16x512x32_S16x512x32x1_0_1_2 : T F S16x512x32 .i32 → T F S16x512x32x1 .i32),
    unary main_v94 main_v97 (broadcastInDim S16x512x32x1 ![0, 1, 2] bcast_S16x512x32_S16x512x32x1_0_1_2 : T F S16x512x32 .i32 → T F S16x512x32x1 .i32),
    binary main_v96 main_v97 main_v98 (pair4 : T F S16x512x32x1 .i32 → T F S16x512x32x1 .i32 → T F S16x512x32x2 .i32),
    binary main_arg1 main_v98 main_v99 ((fun x i => Host.gather gather_S16x2048x256_S16x512x32x2_S16x512x32x256_3_01_n_n_01_3_11256 x i) : T F S16x2048x256 .f32 → T F S16x512x32x2 .i32 → T F S16x512x32x256 .f32) ]

theorem rowOps_sub : (rowOps : List (HloOp τ sig (Elt F))).Forall fun op => op.bufs ⊆ tcRefs τ sig :=
  ⟨nullary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub ..⟩

theorem rowOps_fresh : (rowOps : List (HloOp τ sig (Elt F))).Forall fun op => op.fresh = ∅ :=
  forall_fresh_of_map rfl

/-- The buffers they write. -/
abbrev rowOpsOut : List (Ref sig .tc) :=
  [main_v83, main_v84, main_c_20, main_v85, main_v86, main_c_21, main_v87, main_v88, main_v89, main_c_22, main_v90, main_v91, main_c_23, main_v92, main_v93, main_v94, main_v95, main_v96, main_v97, main_v98, main_v99]

theorem rowOps_writes : (rowOps : List (HloOp τ sig (Elt F))).Forall fun op =>
    op.writes ⊆ (rowOpsOut.map (Proc.devRef (τ := τ) .tc)).toFinset :=
  forall_writes_sub_of_map rfl

/-- The operations of the grouped features put together. -/
abbrev putOps : List (HloOp τ sig (Elt F)) :=
  [ binary main_v99 main_v82 main_v100 (beside : T F S16x512x32x256 .f32 → T F S16x512x32x3 .f32 → T F S16x512x32x259 .f32),
    reshape main_v37 main_v101 (rfl : (.f32 : EltTy) = .f32) shapeCasts_S16x512x256_S16x512x1x256,
    unary main_v101 main_v102 (broadcastInDim S16x512x1x32x256 ![0, 1, 2, 4] bcast_S16x512x1x256_S16x512x1x32x256_0_1_2_4 : T F S16x512x1x256 .f32 → T F S16x512x1x32x256 .f32),
    reshape main_v102 main_v103 (rfl : (.f32 : EltTy) = .f32) shapeCasts_S16x512x1x32x256_S16x512x32x256,
    binary main_v100 main_v103 main_v104 (beside2 : T F S16x512x32x259 .f32 → T F S16x512x32x256 .f32 → T F S16x512x32x515 .f32),
    reshape main_v104 main_v105 (rfl : (.f32 : EltTy) = .f32) shapeCasts_S16x512x32x515_S16x16384x515 ]

theorem putOps_sub : (putOps : List (HloOp τ sig (Elt F))).Forall fun op => op.bufs ⊆ tcRefs τ sig :=
  ⟨binary_bufs_sub .., reshape_bufs_sub .., unary_bufs_sub .., reshape_bufs_sub .., binary_bufs_sub .., reshape_bufs_sub ..⟩

theorem putOps_fresh : (putOps : List (HloOp τ sig (Elt F))).Forall fun op => op.fresh = ∅ :=
  forall_fresh_of_map rfl

/-- The buffers they write. -/
abbrev putOpsOut : List (Ref sig .tc) :=
  [main_v100, main_v101, main_v102, main_v103, main_v104, main_v105]

theorem putOps_writes : (putOps : List (HloOp τ sig (Elt F))).Forall fun op =>
    op.writes ⊆ (putOpsOut.map (Proc.devRef (τ := τ) .tc)).toFinset :=
  forall_writes_sub_of_map rfl

theorem main_items (c : Dev nD) : main (F := F) c = (Pipeline.chain [seq entryOps, HostLoop.enter 0, seq centreOps, seq featOps, seq maskOps, seq ballOps, seq coordOps, seq rowOps, seq putOps] :
    Prog (TpuEff nD τ sig (Elt F) (HostLoop.Sig (Pipeline.Sig Λ₀ (Fin 0) fun p => (pcfgs (F := F) p).Adm) 1) .tc) PUnit) := by
  rewrite [chain_seq_cons, Pipeline.chain_cons, chain_seq_cons, chain_seq_cons, chain_seq_cons, chain_seq_cons, chain_seq_cons, chain_seq_cons, Pipeline.chain_cons]
  chain_rfl

theorem body_items : main_while0_body (F := F) = (Pipeline.chain
    [seq wordOps, seq distOps, seq bestOps, seq stepOps] :
    Prog (TpuEff nD τ sig (Elt F) (HostLoop.Sig (Pipeline.Sig Λ₀ (Fin 0) fun p => (pcfgs (F := F) p).Adm) 1) .tc) PUnit) := by
  rewrite [chain_seq_cons, chain_seq_cons, Pipeline.chain_cons, chain_seq_cons]
  chain_rfl

/-- The operations of the loop's test. -/
abbrev testOps : List (HloOp τ sig (Elt F)) :=
  [ nullary main_while0c_c_30 (constantI S_ 32 512#32),
    binary main_v3_2 main_while0c_c_30 main_while0c_v106 (cmpi .slt : T F S_ .i32 → T F S_ .i32 → T F S_ .i1) ]

/-- The buffers they write. -/
abbrev testOpsOut : List (Ref sig .tc) := [main_while0c_c_30, main_while0c_v106]

theorem testOps_writes : (testOps : List (HloOp τ sig (Elt F))).Forall fun op =>
    op.writes ⊆ (testOpsOut.map (Proc.devRef (τ := τ) .tc)).toFinset :=
  forall_writes_sub_of_map rfl

/-- The stretches of operations before the loop, and those of its body. -/
abbrev entryParts : List (List (HloOp τ sig (Elt F))) := [entryOps]

@[inherit_doc entryParts]
abbrev bodyParts : List (List (HloOp τ sig (Elt F))) := [wordOps, distOps, bestOps, stepOps]

theorem entryParts_plain : Plain (entryParts (F := F)) :=
  .cons entryOps_sub (hf := List.forall_iff_forall_mem.mp entryOps_fresh) .nil

theorem bodyParts_plain : Plain (bodyParts (F := F)) :=
  .cons wordOps_sub (hf := List.forall_iff_forall_mem.mp wordOps_fresh)
    (.cons distOps_sub (hf := List.forall_iff_forall_mem.mp distOps_fresh)
      (.cons bestOps_sub (hf := List.forall_iff_forall_mem.mp bestOps_fresh)
        (.cons stepOps_sub (hf := List.forall_iff_forall_mem.mp stepOps_fresh) .nil)))

/-- The stretches of operations after the loop. -/
abbrev tailParts : List (List (HloOp τ sig (Elt F))) := [centreOps, featOps, maskOps, ballOps, coordOps, rowOps, putOps]

theorem tailParts_plain : Plain (tailParts (F := F)) :=
  .cons centreOps_sub (hf := List.forall_iff_forall_mem.mp centreOps_fresh) <|
  .cons featOps_sub (hf := List.forall_iff_forall_mem.mp featOps_fresh) <|
  .cons maskOps_sub (hf := List.forall_iff_forall_mem.mp maskOps_fresh) <|
  .cons ballOps_sub (hf := List.forall_iff_forall_mem.mp ballOps_fresh) <|
  .cons coordOps_sub (hf := List.forall_iff_forall_mem.mp coordOps_fresh) <|
  .cons rowOps_sub (hf := List.forall_iff_forall_mem.mp rowOps_fresh) <|
  .cons putOps_sub (hf := List.forall_iff_forall_mem.mp putOps_fresh) <|
  .nil

/-! ## One trip -/

/-- The contents after one test and one trip. -/
abbrev trip (V : Valuation τ sig (Elt F)) : Valuation τ sig (Elt F) := afterL bodyParts (after testOps V)

theorem trip_eq (V : Valuation τ sig (Elt F)) :
    trip V = after stepOps (after bestOps (after distOps (after wordOps (after testOps V)))) := rfl

section keeps
variable (V : Valuation τ sig (Elt F)) (r : Ref sig .tc)

theorem testOps_keep (h : r ∉ testOpsOut) : after testOps V (Proc.devRef .tc r) = V (Proc.devRef .tc r) :=
  after_of_writes_sub _ V testOps_writes h
theorem wordOps_keep (h : r ∉ wordOpsOut) : after wordOps V (Proc.devRef .tc r) = V (Proc.devRef .tc r) :=
  after_of_writes_sub _ V wordOps_writes h
theorem distOps_keep (h : r ∉ distOpsOut) : after distOps V (Proc.devRef .tc r) = V (Proc.devRef .tc r) :=
  after_of_writes_sub _ V distOps_writes h
theorem bestOps_keep (h : r ∉ bestOpsOut) : after bestOps V (Proc.devRef .tc r) = V (Proc.devRef .tc r) :=
  after_of_writes_sub _ V bestOps_writes h
theorem stepOps_keep (h : r ∉ stepOpsOut) : after stepOps V (Proc.devRef .tc r) = V (Proc.devRef .tc r) :=
  after_of_writes_sub _ V stepOps_writes h
theorem entryOps_keep (h : r ∉ entryOpsOut) : after entryOps V (Proc.devRef .tc r) = V (Proc.devRef .tc r) :=
  after_of_writes_sub _ V entryOps_writes h

/-- A buffer that no stretch of the loop writes is the same after a trip. -/
theorem trip_keep (h₀ : r ∉ testOpsOut) (h₁ : r ∉ wordOpsOut) (h₂ : r ∉ distOpsOut) (h₃ : r ∉ bestOpsOut)
    (h₄ : r ∉ stepOpsOut) : trip V (Proc.devRef .tc r) = V (Proc.devRef .tc r) := by
  rw [trip_eq, stepOps_keep _ r h₄, bestOps_keep _ r h₃, distOps_keep _ r h₂, wordOps_keep _ r h₁, testOps_keep _ r h₀]
end keeps

/-- An index word made ready: a negative one has the length added. -/
def ready (n : BitVec 32) (w : T F S16 .i32) : T F S16 .i32 :=
  select (cmpi .slt w (broadcastInDim S16 ![] bcast_S_S16 (constantI S_ 32 0#32)))
    (addi w (broadcastInDim S16 ![] bcast_S_S16 (constantI S_ 32 n))) w

/-- The difference of every point and the point the words name. -/
def apart (x : T F S16x2048x3 .f32) (bw w : T F S16 .i32) : T F S16x2048x3 .f32 :=
  subf x (broadcastInDim S16x2048x3 ![0, 1, 2] bcast_S16x1x3_S16x2048x3_0_1_2
    (broadcastInDim S16x1x3 ![0, 2] bcast_S16x3_S16x1x3_0_2
      (Host.gather gather_S16x2048x3_S16x2_S16x3_1_01_n_n_01_1_113 x
        (pairWords (broadcastInDim S16x1 ![0] bcast_S16_S16x1_0 bw) (broadcastInDim S16x1 ![0] bcast_S16_S16x1_0 w)))))

/-- The smaller of the distances kept and the squared distances to the point the words name. -/
def nearer (x : T F S16x2048x3 .f32) (bw w : T F S16 .i32) (d : T F S16x2048 .f32) : T F S16x2048 .f32 :=
  minimumf d (Host.reduceAdd (mulf (apart x bw w) (apart x bw w)) (constant S_ .f32 0x00000000#32)
    reducesTo_S16x2048x3_S16x2048_d2 h_S_)

/-- The chosen points with the column of a trip written. -/
def noted (k : T F S_ .i32) (p : T F S16x512 .i32) (w : T F S16 .i32) : T F S16x512 .i32 :=
  Host.scatter scatter_S16x512_S1_S16_0_1_1_0 (fun _ b => b) p
    (broadcastInDim S1 ![] bcast_S_S1 (id (select (cmpi .slt k (constantI S_ 32 0#32))
      (addi k (constantI S_ 32 512#32)) k))) w

section reads
variable (V : Valuation τ sig (Elt F))

set_option maxRecDepth 8192 in
set_option maxHeartbeats 2000000 in
theorem wordOps_next : after wordOps V (Proc.devRef .tc main_while0b_v106) =
    (addi (V (Proc.devRef .tc main_v3_3)) (constantI S_ 32 1#32) : T F S_ .i32) := by
  after_results_simp <;> rfl

set_option maxRecDepth 8192 in
set_option maxHeartbeats 2000000 in
theorem wordOps_noted : after wordOps V (Proc.devRef .tc main_while0b_v112) =
    noted (V (Proc.devRef .tc main_v3_3)) (V (Proc.devRef .tc main_v3_4)) (V (Proc.devRef .tc main_v3_6)) := by
  after_results_simp <;> rfl

set_option maxRecDepth 8192 in
set_option maxHeartbeats 2000000 in
theorem wordOps_batch : after wordOps V (Proc.devRef .tc main_while0b_v117) = ready 16#32 (V (Proc.devRef .tc main_v3_0)) := by
  after_results_simp <;> rfl

set_option maxRecDepth 8192 in
set_option maxHeartbeats 2000000 in
theorem wordOps_row : after wordOps V (Proc.devRef .tc main_while0b_v122) = ready 2048#32 (V (Proc.devRef .tc main_v3_6)) := by
  after_results_simp <;> rfl

set_option maxRecDepth 8192 in
set_option maxHeartbeats 2000000 in
theorem distOps_nearer : after distOps V (Proc.devRef .tc main_while0b_v132) =
    nearer (V (Proc.devRef .tc main_v3_1)) (V (Proc.devRef .tc main_while0b_v117)) (V (Proc.devRef .tc main_while0b_v122))
      (V (Proc.devRef .tc main_v3_5)) := by
  after_results_simp <;> rfl

set_option maxRecDepth 8192 in
set_option maxHeartbeats 2000000 in
theorem bestOps_place : after bestOps V (Proc.devRef .tc main_while0b_v133) =
    bestPlace (V (Proc.devRef .tc main_while0b_v132)) (iotaInDim S16x2048 32 1) (constant S_ .f32 0xFF800000#32)
      (constantI S_ 32 0#32) := by
  after_results_simp <;> rfl

set_option maxRecDepth 8192 in
theorem stepOps_count : after stepOps V (Proc.devRef .tc main_v3_2) =
    (addi (V (Proc.devRef .tc main_v3_2)) (constantI S_ 32 1#32) : T F S_ .i32) := by
  after_results_simp <;> rfl
theorem stepOps_next : after stepOps V (Proc.devRef .tc main_v3_3) = V (Proc.devRef .tc main_while0b_v106) := by
  after_results_simp <;> rfl
theorem stepOps_noted : after stepOps V (Proc.devRef .tc main_v3_4) = V (Proc.devRef .tc main_while0b_v112) := by
  after_results_simp <;> rfl
theorem stepOps_nearer : after stepOps V (Proc.devRef .tc main_v3_5) = V (Proc.devRef .tc main_while0b_v132) := by
  after_results_simp <;> rfl
theorem stepOps_place : after stepOps V (Proc.devRef .tc main_v3_6) = V (Proc.devRef .tc main_while0b_v133) := by
  after_results_simp <;> rfl

end reads

section trips
variable (V : Valuation τ sig (Elt F))

theorem trip_count : trip V (Proc.devRef .tc main_v3_2) =
    (addi (V (Proc.devRef .tc main_v3_2)) (constantI S_ 32 1#32) : T F S_ .i32) := by
  rw [trip_eq, stepOps_count, bestOps_keep _ _ (by decide), distOps_keep _ _ (by decide), wordOps_keep _ _ (by decide),
    testOps_keep _ _ (by decide)]

theorem trip_next : trip V (Proc.devRef .tc main_v3_3) =
    (addi (V (Proc.devRef .tc main_v3_3)) (constantI S_ 32 1#32) : T F S_ .i32) := by
  rw [trip_eq, stepOps_next, bestOps_keep _ _ (by decide), distOps_keep _ _ (by decide), wordOps_next,
    testOps_keep _ _ (by decide)]

theorem trip_noted : trip V (Proc.devRef .tc main_v3_4) =
    noted (V (Proc.devRef .tc main_v3_3)) (V (Proc.devRef .tc main_v3_4)) (V (Proc.devRef .tc main_v3_6)) := by
  rw [trip_eq, stepOps_noted, bestOps_keep _ _ (by decide), distOps_keep _ _ (by decide), wordOps_noted,
    testOps_keep _ _ (by decide), testOps_keep _ _ (by decide), testOps_keep _ _ (by decide)]

theorem dist_after : after distOps (after wordOps (after testOps V)) (Proc.devRef .tc main_while0b_v132) =
    nearer (V (Proc.devRef .tc main_v3_1)) (ready 16#32 (V (Proc.devRef .tc main_v3_0)))
      (ready 2048#32 (V (Proc.devRef .tc main_v3_6))) (V (Proc.devRef .tc main_v3_5)) := by
  rw [distOps_nearer, wordOps_batch, wordOps_row, wordOps_keep _ main_v3_1 (by decide), wordOps_keep _ main_v3_5 (by decide),
    testOps_keep _ _ (by decide), testOps_keep _ _ (by decide), testOps_keep _ _ (by decide), testOps_keep _ _ (by decide)]

theorem trip_nearer : trip V (Proc.devRef .tc main_v3_5) =
    nearer (V (Proc.devRef .tc main_v3_1)) (ready 16#32 (V (Proc.devRef .tc main_v3_0)))
      (ready 2048#32 (V (Proc.devRef .tc main_v3_6))) (V (Proc.devRef .tc main_v3_5)) := by
  rw [trip_eq, stepOps_nearer, bestOps_keep _ _ (by decide), dist_after]

theorem trip_place : trip V (Proc.devRef .tc main_v3_6) =
    bestPlace (nearer (V (Proc.devRef .tc main_v3_1)) (ready 16#32 (V (Proc.devRef .tc main_v3_0)))
      (ready 2048#32 (V (Proc.devRef .tc main_v3_6))) (V (Proc.devRef .tc main_v3_5)))
      (iotaInDim S16x2048 32 1) (constant S_ .f32 0xFF800000#32) (constantI S_ 32 0#32) := by
  rw [trip_eq, stepOps_place, bestOps_place, dist_after]

end trips

/-! ## The run -/

variable (m : (ℓ : Loc nD τ sig) → Buf (Elt F) ℓ) (ρ : Dev nD → PrngReg)

/-- The contents before the test number `k`. -/
abbrev before (k : ℕ) (c : Dev nD) : Valuation τ sig (Elt F) := atTrip testOps bodyParts (entryContents entryParts m) k c

theorem before_zero (c : Dev nD) : before m 0 c = after entryOps (entryContents [] m c) := rfl

theorem before_succ (k : ℕ) (c : Dev nD) : before m (k + 1) c = trip (before m k c) := rfl

theorem before_count (c : Dev nD) : ∀ k, before m k c (Proc.devRef .tc main_v3_2) = fun _ => Scf.iv 0#32 1#32 k
  | 0 => by
    rw [before_zero, Scf.iv_zero]
    after_results_simp <;> rfl
  | k + 1 => by
    rw [before_succ, trip_count, before_count c k, Scf.iv_succ]
    rfl

set_option backward.isDefEq.respectTransparency.types false in
/-- What the loop's test does: it goes on exactly while fewer than 512 trips are made. -/
theorem test_spec : CondSpec (pcfgs (F := F)) defs₀ loops (main_while0_cond (F := F)) testOps bodyParts
    (entryContents entryParts m) 512 := by
  intro k hk c bd
  have hc := before_count m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]
    · iexact Hb
    · iexact Hh
  iintro ⟨Hb, Hh⟩
  rw [wp_ret]
  imodintro
  iapply (wp_hlo_within (Variants.lift Variants.none) (c : Thread nD τ) bd Set.univ (sub_ucRefs _ (binary_bufs_sub ..))) $$ [Hb Hh]
  · isplitl [Hb]
    · iexact Hb
    · iexact Hh
  iintro ⟨Hb, Hh⟩
  rw [HostLoop.elt_apply, wp_ret]
  imodintro
  isplitr
  · ipureintro
    show Iff (IntOp.cmpi .slt (HloOp.result _ (before m k c) main_v3_2 HostLoop.idx0)
      (HloOp.result _ (before m k c) main_while0c_c_30 HostLoop.idx0) = 1#1) (k < 512)
    rw [nullary_result_ne _ _ _ _ (by decide), nullary_result, hc]
    exact Scf.cmpi_slt_iv_ub_iff (lb := 0#32) (ub := 512#32) (st := 1#32) (by decide) hk
  isplitl [Hb]
  · iexact Hb
  rw [after_cons, after_cons, after_nil]
  iexact Hh

set_option maxRecDepth 100000 in
/-- The reference ends, with every buffer at its contents before the last test, tested. -/
theorem run_ends : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) =
        finalContents testOps entryParts bodyParts tailParts 512 m c (Proc.devRef .tc b)) :=
  run_loop (pcfgs (F := F)) defs₀ loops main 0 main_while0_cond main_while0_body rfl entryParts bodyParts tailParts testOps
    entryParts_plain bodyParts_plain tailParts_plain (fun c => by rw [main_items]; rfl) (by rw [body_items]; rfl) 512 m ρ (test_spec m)

/-- A buffer nothing writes holds its first contents. -/
theorem before_keep (c : Dev nD) (r : Ref sig .tc) (h : r ∉ entryOpsOut) (h₀ : r ∉ testOpsOut) (h₁ : r ∉ wordOpsOut)
    (h₂ : r ∉ distOpsOut) (h₃ : r ∉ bestOpsOut) (h₄ : r ∉ stepOpsOut) :
    ∀ k, before m k c (Proc.devRef .tc r) = m ((c.tc : Thread nD τ).loc r)
  | 0 => by rw [before_zero, entryOps_keep _ _ h]; rfl
  | k + 1 => by rw [before_succ, trip_keep _ _ h₀ h₁ h₂ h₃ h₄, before_keep c r h h₀ h₁ h₂ h₃ h₄ k]

end Cert.Whole.Ref
-- ==== Proof.WholeRefTail.lean ====
module

public import proofs.«01_k».proof.Proof.WholeRefRun

@[expose] public section

/-! What follows the whole reference's loop, stretch by stretch, as functions of the arrays it reads. -/

noncomputable section

namespace Cert.Whole.Ref

open Cert.WholeReferenceIdeal Cert.WholeReferenceIdeal.Gen
open Idealize.ShloMosaic Idealize.ShloMosaic.TcCoe
open Idealize.ShloMosaic.StableHlo

variable {F : FTy → Type} [FloatOps F]

/-- Batch and row words of the centres. -/
def centreWords (f : T F S16x512 .i32) : T F S16x512x2 .i32 :=
  pair3 (F := F)
    (broadcastInDim S16x512x1 ![0, 1] bcast_S16x512_S16x512x1_0_1 (broadcastInDim S16x512 ![0, 1] bcast_S16x1_S16x512_0_1
      (select (cmpi .slt (shapeCast S16x1 (iotaInDim S16 32 0) shapeCasts_S16_S16x1) (broadcastInDim S16x1 ![] bcast_S_S16x1 (constantI S_ 32 0#32)))
        (addi (shapeCast S16x1 (iotaInDim S16 32 0) shapeCasts_S16_S16x1) (broadcastInDim S16x1 ![] bcast_S_S16x1 (constantI S_ 32 16#32)))
        (shapeCast S16x1 (iotaInDim S16 32 0) shapeCasts_S16_S16x1))))
    (broadcastInDim S16x512x1 ![0, 1] bcast_S16x512_S16x512x1_0_1
      (select (cmpi .slt f (broadcastInDim S16x512 ![] bcast_S_S16x512 (constantI S_ 32 0#32)))
        (addi f (broadcastInDim S16x512 ![] bcast_S_S16x512 (constantI S_ 32 2048#32))) f))

/-- Batch and row words of the neighbours. -/
def nearWords (f : T F S16x512x32 .i32) : T F S16x512x32x2 .i32 :=
  pair4 (F := F)
    (broadcastInDim S16x512x32x1 ![0, 1, 2] bcast_S16x512x32_S16x512x32x1_0_1_2 (broadcastInDim S16x512x32 ![0, 1, 2] bcast_S16x1x1_S16x512x32_0_1_2
      (select (cmpi .slt (shapeCast S16x1x1 (iotaInDim S16 32 0) shapeCasts_S16_S16x1x1) (broadcastInDim S16x1x1 ![] bcast_S_S16x1x1 (constantI S_ 32 0#32)))
        (addi (shapeCast S16x1x1 (iotaInDim S16 32 0) shapeCasts_S16_S16x1x1) (broadcastInDim S16x1x1 ![] bcast_S_S16x1x1 (constantI S_ 32 16#32)))
        (shapeCast S16x1x1 (iotaInDim S16 32 0) shapeCasts_S16_S16x1x1))))
    (broadcastInDim S16x512x32x1 ![0, 1, 2] bcast_S16x512x32_S16x512x32x1_0_1_2
      (select (cmpi .slt f (broadcastInDim S16x512x32 ![] bcast_S_S16x512x32 (constantI S_ 32 0#32)))
        (addi f (broadcastInDim S16x512x32 ![] bcast_S_S16x512x32 (constantI S_ 32 2048#32))) f))

/-- The coordinates of the centres. -/
def centreXyz (x : T F S16x2048x3 .f32) (f : T F S16x512 .i32) : T F S16x512x3 .f32 :=
  Host.gather gather_S16x2048x3_S16x512x2_S16x512x3_2_01_n_n_01_2_113 x (centreWords (F := F) f)

/-- The features of the centres. -/
def centreFeat (p : T F S16x2048x256 .f32) (f : T F S16x512 .i32) : T F S16x512x256 .f32 :=
  Host.gather gather_S16x2048x256_S16x512x2_S16x512x256_2_01_n_n_01_2_11256 p (centreWords (F := F) f)

/-- The coordinates of the neighbours. -/
def nearXyz (x : T F S16x2048x3 .f32) (f : T F S16x512x32 .i32) : T F S16x512x32x3 .f32 :=
  Host.gather gather_S16x2048x3_S16x512x32x2_S16x512x32x3_3_01_n_n_01_3_113 x (nearWords (F := F) f)

/-- The features of the neighbours. -/
def nearFeat (p : T F S16x2048x256 .f32) (f : T F S16x512x32 .i32) : T F S16x512x32x256 .f32 :=
  Host.gather gather_S16x2048x256_S16x512x32x2_S16x512x32x256_3_01_n_n_01_3_11256 p (nearWords (F := F) f)

/-- The points outside each centre's ball. -/
def mask (c : T F S16x512x3 .f32) (x : T F S16x2048x3 .f32) : T F S16x512x2048 .i1 :=
  cmpf .ogt
    (addf
      (addf
        (mulf (broadcastInDim S16x512x2048 ![] bcast_S_S16x512x2048 (constant S_ .f32 0xC0000000#32))
          (Host.dotGeneral dot_S16x512x3_S16x3x2048_S16x512x2048_2_1_1_2_0_0 none c (transpose S16x3x2048 [0, 2, 1] x transposes_S16x2048x3_S16x3x2048_0_2_1)))
        (broadcastInDim S16x512x2048 ![0, 1, 2] bcast_S16x512x1_S16x512x2048_0_1_2
          (shapeCast S16x512x1 (Host.reduceAdd (mulf c c) (constant S_ .f32 0x00000000#32) reducesTo_S16x512x3_S16x512_d2 h_S_) shapeCasts_S16x512_S16x512x1)))
      (broadcastInDim S16x512x2048 ![0, 1, 2] bcast_S16x1x2048_S16x512x2048_0_1_2
        (shapeCast S16x1x2048 (Host.reduceAdd (mulf x x) (constant S_ .f32 0x00000000#32) reducesTo_S16x2048x3_S16x2048_d2 h_S_) shapeCasts_S16x2048_S16x1x2048)))
    (broadcastInDim S16x512x2048 ![] bcast_S_S16x512x2048 (constant S_ .f32 0x3D23D70A#32))

/-- Every point's own word. -/
def lanes : T F S16x512x2048 .i32 :=
  broadcastInDim S16x512x2048 ![0, 1, 2] bcast_S1x1x2048_S16x512x2048_0_1_2 (broadcastInDim S1x1x2048 ![2] bcast_S2048_S1x1x2048_2 (iotaInDim S2048 32 0))

/-- The words kept: the points in the ball, 2048 for the others. -/
def keptWords (k : T F S16x512x2048 .i1) (l : T F S16x512x2048 .i32) : T F S16x512x2048 .i32 :=
  select k (broadcastInDim S16x512x2048 ![] bcast_S_S16x512x2048 (constantI S_ 32 2048#32)) l

/-- The first 32 of the sorted words, the first in the empty places. -/
def refilled (v : T F S16x512x2048 .i32) : T F S16x512x32 .i32 :=
  select (cmpi .eq (extractStridedSlice S16x512x32 ![0, 0, 0] (Host.sort S16x512x2048 2 comparator_i32_d2 v) slices_S16x512x2048_S16x512x32_0_0_0)
      (broadcastInDim S16x512x32 ![] bcast_S_S16x512x32 (constantI S_ 32 2048#32)))
    (shapeCast S16x512x32 (broadcastInDim S16x512x1x32 ![0, 1, 2] bcast_S16x512x1_S16x512x1x32_0_1_2 (extractStridedSlice S16x512x1 ![0, 0, 0]
      (extractStridedSlice S16x512x32 ![0, 0, 0] (Host.sort S16x512x2048 2 comparator_i32_d2 v) slices_S16x512x2048_S16x512x32_0_0_0)
      slices_S16x512x32_S16x512x1_0_0_0)) shapeCasts_S16x512x1x32_S16x512x32)
    (extractStridedSlice S16x512x32 ![0, 0, 0] (Host.sort S16x512x2048 2 comparator_i32_d2 v) slices_S16x512x2048_S16x512x32_0_0_0)

/-- The grouped features: the neighbour's features, its coordinates, the centre's features. -/
def put (a : T F S16x512x32x256 .f32) (b : T F S16x512x32x3 .f32) (c : T F S16x512x256 .f32) : T F S16x16384x515 .f32 :=
  shapeCast S16x16384x515 (beside2 (F := F) (beside (F := F) a b) (shapeCast S16x512x32x256
    (broadcastInDim S16x512x1x32x256 ![0, 1, 2, 4] bcast_S16x512x1x256_S16x512x1x32x256_0_1_2_4
      (shapeCast S16x512x1x256 c shapeCasts_S16x512x256_S16x512x1x256)) shapeCasts_S16x512x1x32x256_S16x512x32x256))
    shapeCasts_S16x512x32x515_S16x16384x515

section reads
variable (V : Valuation τ sig (Elt F))

set_option maxRecDepth 8192 in
set_option maxHeartbeats 2000000 in
theorem centreOps_xyz : after centreOps V (Proc.devRef .tc main_v20) =
    centreXyz (V (Proc.devRef .tc main_arg0)) (V (Proc.devRef .tc main_v3_4)) := by
  after_results_simp <;> rfl

set_option maxRecDepth 8192 in
set_option maxHeartbeats 2000000 in
theorem featOps_feat : after featOps V (Proc.devRef .tc main_v37) =
    centreFeat (V (Proc.devRef .tc main_arg1)) (V (Proc.devRef .tc main_v3_4)) := by
  after_results_simp <;> rfl

set_option maxRecDepth 8192 in
set_option maxHeartbeats 2000000 in
theorem maskOps_mask : after maskOps V (Proc.devRef .tc main_v56) =
    mask (V (Proc.devRef .tc main_v20)) (V (Proc.devRef .tc main_arg0)) := by
  after_results_simp <;> rfl

set_option maxRecDepth 8192 in
set_option maxHeartbeats 2000000 in
theorem maskOps_lanes : after maskOps V (Proc.devRef .tc main_v40) = lanes (F := F) := by
  after_results_simp <;> rfl

set_option maxRecDepth 8192 in
set_option maxHeartbeats 2000000 in
theorem ballOps_near : after ballOps V (Proc.devRef .tc main_v65) =
    refilled (F := F) (keptWords (V (Proc.devRef .tc main_v56)) (V (Proc.devRef .tc main_v40))) := by
  after_results_simp <;> rfl

set_option maxRecDepth 8192 in
set_option maxHeartbeats 2000000 in
theorem coordOps_xyz : after coordOps V (Proc.devRef .tc main_v82) =
    nearXyz (V (Proc.devRef .tc main_arg0)) (V (Proc.devRef .tc main_v65)) := by
  after_results_simp <;> rfl

set_option maxRecDepth 8192 in
set_option maxHeartbeats 2000000 in
theorem rowOps_feat : after rowOps V (Proc.devRef .tc main_v99) =
    nearFeat (V (Proc.devRef .tc main_arg1)) (V (Proc.devRef .tc main_v65)) := by
  after_results_simp <;> rfl

set_option maxRecDepth 8192 in
set_option maxHeartbeats 2000000 in
theorem putOps_put : after putOps V (Proc.devRef .tc main_v105) =
    put (V (Proc.devRef .tc main_v99)) (V (Proc.devRef .tc main_v82)) (V (Proc.devRef .tc main_v37)) := by
  after_results_simp <;> rfl

end reads

section keeps
variable (V : Valuation τ sig (Elt F)) (r : Ref sig .tc)

theorem centreOps_keep (h : r ∉ centreOpsOut) : after centreOps V (Proc.devRef .tc r) = V (Proc.devRef .tc r) :=
  after_of_writes_sub _ V centreOps_writes h
theorem featOps_keep (h : r ∉ featOpsOut) : after featOps V (Proc.devRef .tc r) = V (Proc.devRef .tc r) :=
  after_of_writes_sub _ V featOps_writes h
theorem maskOps_keep (h : r ∉ maskOpsOut) : after maskOps V (Proc.devRef .tc r) = V (Proc.devRef .tc r) :=
  after_of_writes_sub _ V maskOps_writes h
theorem ballOps_keep (h : r ∉ ballOpsOut) : after ballOps V (Proc.devRef .tc r) = V (Proc.devRef .tc r) :=
  after_of_writes_sub _ V ballOps_writes h
theorem coordOps_keep (h : r ∉ coordOpsOut) : after coordOps V (Proc.devRef .tc r) = V (Proc.devRef .tc r) :=
  after_of_writes_sub _ V coordOps_writes h
theorem rowOps_keep (h : r ∉ rowOpsOut) : after rowOps V (Proc.devRef .tc r) = V (Proc.devRef .tc r) :=
  after_of_writes_sub _ V rowOps_writes h
theorem putOps_keep (h : r ∉ putOpsOut) : after putOps V (Proc.devRef .tc r) = V (Proc.devRef .tc r) :=
  after_of_writes_sub _ V putOps_writes h
end keeps

section tail
variable (V : Valuation τ sig (Elt F))

/-- The neighbours' words, from the points and the chosen points. -/
def nearOf (x : T F S16x2048x3 .f32) (f : T F S16x512 .i32) : T F S16x512x32 .i32 :=
  refilled (F := F) (keptWords (F := F) (mask (centreXyz x f) x) (lanes (F := F)))

theorem tail_eq : afterL tailParts V = after putOps (after rowOps (after coordOps (after ballOps (after maskOps (after featOps (after centreOps V)))))) := rfl

/-- A buffer nothing after the loop writes is the same at the end. -/
theorem tail_keep (r : Ref sig .tc) (h₁ : r ∉ centreOpsOut) (h₂ : r ∉ featOpsOut) (h₃ : r ∉ maskOpsOut) (h₄ : r ∉ ballOpsOut)
    (h₅ : r ∉ coordOpsOut) (h₆ : r ∉ rowOpsOut) (h₇ : r ∉ putOpsOut) :
    afterL tailParts V (Proc.devRef .tc r) = V (Proc.devRef .tc r) := by
  rw [tail_eq, putOps_keep _ r h₇, rowOps_keep _ r h₆, coordOps_keep _ r h₅, ballOps_keep _ r h₄, maskOps_keep _ r h₃,
    featOps_keep _ r h₂, centreOps_keep _ r h₁]

theorem tail_xyz : afterL tailParts V (Proc.devRef .tc main_v20) =
    centreXyz (V (Proc.devRef .tc main_arg0)) (V (Proc.devRef .tc main_v3_4)) := by
  rw [tail_eq, putOps_keep _ _ (by decide), rowOps_keep _ _ (by decide), coordOps_keep _ _ (by decide), ballOps_keep _ _ (by decide),
    maskOps_keep _ _ (by decide), featOps_keep _ _ (by decide), centreOps_xyz]

theorem near_after : after ballOps (after maskOps (after featOps (after centreOps V))) (Proc.devRef .tc main_v65) =
    nearOf (V (Proc.devRef .tc main_arg0)) (V (Proc.devRef .tc main_v3_4)) := by
  rw [ballOps_near, maskOps_mask, maskOps_lanes, featOps_keep _ main_v20 (by decide), featOps_keep _ main_arg0 (by decide),
    centreOps_xyz, centreOps_keep _ main_arg0 (by decide)]
  rfl

theorem tail_points : afterL tailParts V (Proc.devRef .tc main_v105) =
    put (nearFeat (V (Proc.devRef .tc main_arg1)) (nearOf (V (Proc.devRef .tc main_arg0)) (V (Proc.devRef .tc main_v3_4))))
      (nearXyz (V (Proc.devRef .tc main_arg0)) (nearOf (V (Proc.devRef .tc main_arg0)) (V (Proc.devRef .tc main_v3_4))))
      (centreFeat (V (Proc.devRef .tc main_arg1)) (V (Proc.devRef .tc main_v3_4))) := by
  rw [tail_eq, putOps_put, rowOps_feat, rowOps_keep _ main_v82 (by decide), rowOps_keep _ main_v37 (by decide), coordOps_xyz,
    coordOps_keep _ main_v65 (by decide), coordOps_keep _ main_v37 (by decide), coordOps_keep _ main_arg1 (by decide), near_after,
    ballOps_keep _ main_v37 (by decide), ballOps_keep _ main_arg0 (by decide), ballOps_keep _ main_arg1 (by decide),
    maskOps_keep _ main_v37 (by decide), maskOps_keep _ main_arg0 (by decide), maskOps_keep _ main_arg1 (by decide),
    featOps_feat, featOps_keep _ main_arg0 (by decide), featOps_keep _ main_arg1 (by decide),
    centreOps_keep _ main_arg0 (by decide), centreOps_keep _ main_arg1 (by decide), centreOps_keep _ main_v3_4 (by decide)]

end tail

/-! ## The end of the run -/

variable (m : (ℓ : Loc nD τ sig) → Buf (Elt F) ℓ) (ρ : Dev nD → PrngReg)

/-- The contents the loop leaves. -/
abbrev left (c : Dev nD) : Valuation τ sig (Elt F) := after testOps (before m 512 c)

theorem left_arg (c : Dev nD) (r : Ref sig .tc) (h : r ∉ entryOpsOut) (h₀ : r ∉ testOpsOut) (h₁ : r ∉ wordOpsOut)
    (h₂ : r ∉ distOpsOut) (h₃ : r ∉ bestOpsOut) (h₄ : r ∉ stepOpsOut) :
    left m c (Proc.devRef .tc r) = m ((c.tc : Thread nD τ).loc r) :=
  (testOps_keep _ _ h₀).trans (before_keep m c r h h₀ h₁ h₂ h₃ h₄ 512)

theorem left_arg0 (c : Dev nD) : left m c (Proc.devRef .tc main_arg0) = m ((c.tc : Thread nD τ).loc main_arg0) :=
  left_arg m c main_arg0 (by decide) (by decide) (by decide) (by decide) (by decide) (by decide)
theorem left_arg1 (c : Dev nD) : left m c (Proc.devRef .tc main_arg1) = m ((c.tc : Thread nD τ).loc main_arg1) :=
  left_arg m c main_arg1 (by decide) (by decide) (by decide) (by decide) (by decide) (by decide)
theorem left_arg2 (c : Dev nD) : left m c (Proc.devRef .tc main_arg2) = m ((c.tc : Thread nD τ).loc main_arg2) :=
  left_arg m c main_arg2 (by decide) (by decide) (by decide) (by decide) (by decide) (by decide)
theorem left_picks (c : Dev nD) : left m c (Proc.devRef .tc main_v3_4) = before m 512 c (Proc.devRef .tc main_v3_4) :=
  testOps_keep _ _ (by decide)

set_option maxRecDepth 100000 in
/-- The reference ends with its two results said in terms of its arguments and the chosen points, and its arguments
unchanged. -/
theorem run_results : θ_run (defs (F := F)) (onTc (τ := τ) (main (F := F))) ⟨m, fun _ => 0, ρ⟩ fun r => ∀ c : Dev nD,
    r.2.mem ((c.tc : Thread nD τ).loc main_v20) =
      centreXyz (m ((c.tc : Thread nD τ).loc main_arg0)) (before m 512 c (Proc.devRef .tc main_v3_4))
    ∧ r.2.mem ((c.tc : Thread nD τ).loc main_v105) =
      put (nearFeat (m ((c.tc : Thread nD τ).loc main_arg1)) (nearOf (m ((c.tc : Thread nD τ).loc main_arg0)) (before m 512 c (Proc.devRef .tc main_v3_4))))
        (nearXyz (m ((c.tc : Thread nD τ).loc main_arg0)) (nearOf (m ((c.tc : Thread nD τ).loc main_arg0)) (before m 512 c (Proc.devRef .tc main_v3_4))))
        (centreFeat (m ((c.tc : Thread nD τ).loc main_arg1)) (before m 512 c (Proc.devRef .tc main_v3_4)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c =>
    ⟨(h c main_v20 rfl).trans (by rw [← left_arg0 m c, ← left_picks m c]; exact tail_xyz _),
      (h c main_v105 rfl).trans (by rw [← left_arg0 m c, ← left_arg1 m c, ← left_picks m c]; exact tail_points _),
      (h c main_arg0 rfl).trans ((tail_keep _ _ (by decide) (by decide) (by decide) (by decide) (by decide) (by decide) (by decide)).trans (left_arg0 m c)),
      (h c main_arg1 rfl).trans ((tail_keep _ _ (by decide) (by decide) (by decide) (by decide) (by decide) (by decide) (by decide)).trans (left_arg1 m c)),
      (h c main_arg2 rfl).trans ((tail_keep _ _ (by decide) (by decide) (by decide) (by decide) (by decide) (by decide) (by decide)).trans (left_arg2 m c))⟩)
    (run_ends m ρ)

end Cert.Whole.Ref
end
-- ==== Proof.WholeRefSpec.lean ====
module

public import proofs.«01_k».proof.Proof.WholeRefTail
public import proofs.«01_k».proof.Proof.WholeResult
public import proofs.«01_k».proof.Proof.FarSpec
public import proofs.«01_k».proof.Proof.BallSpec
public import proofs.«01_k».proof.Proof.GatherSpec

@[expose] public section

/-! The whole reference, index by index: the points its loop chooses, and what follows the loop. -/

noncomputable section

namespace Cert.Whole.RefSpec

open Cert.WholeReferenceIdeal Cert.WholeReferenceIdeal.Gen Cert.Whole.Ref Idealize.ShloMosaic Idealize.ShloMosaic.TcCoe
open Idealize.ShloMosaic.StableHlo
open Cert.Proof.OneHot Cert.Proof.PairGather

/-! ## The trips' functions are the sampling reference's -/

theorem nearer_eq (x : FVec Ideal S16x2048x3 .f32) (bw w : IVec S16 32) (d : FVec Ideal S16x2048 .f32) :
    nearer (F := Ideal) x bw w d = Cert.Far.nearer (F := Ideal) x bw w d := rfl

theorem noted_eq (k : IVec S_ 32) (q : IVec S16x512 32) (w : IVec S16 32) :
    noted (F := Ideal) k q w = Cert.Far.noted (F := Ideal) k q w := rfl

theorem ready_eq (n : BitVec 32) (w : IVec S16 32) : ready (F := Ideal) n w = Cert.Far.ready (F := Ideal) n w := rfl

theorem bestPlace_eq (x : FVec Ideal S16x2048 .f32) (y : IVec S16x2048 32) (u : FVec Ideal S_ .f32) (v : IVec S_ 32) :
    bestPlace (F := Ideal) x y u v = Cert.Far.bestPlace (F := Ideal) x y u v := rfl

theorem nearer_apply (x : FVec Ideal S16x2048x3 .f32) (bw w : IVec S16 32) (d : FVec Ideal S16x2048 .f32) (b : Fin 16) (n : Fin 2048)
    (p : Fin 2048) (hb : bw (ix1 b) = BitVec.ofNat 32 b.val) (hw : w (ix1 b) = BitVec.ofNat 32 p.val) :
    nearer (F := Ideal) x bw w d (ix2 b n) = min (d (ix2 b n))
      (Cert.Far.gap (fun n => x (ix3 b n (0 : Fin 3))) (fun n => x (ix3 b n (1 : Fin 3))) (fun n => x (ix3 b n (2 : Fin 3))) p n) :=
  (congrFun (nearer_eq x bw w d) _).trans (Cert.Far.Spec.nearer_apply x bw w d b n p hb hw)

theorem noted_apply (k : IVec S_ 32) (q : IVec S16x512 32) (w : IVec S16 32) (b : Fin 16) (s : Fin 512) (j : Fin 512)
    (hk : ∀ i, k i = BitVec.ofNat 32 j.val) :
    noted (F := Ideal) k q w (ix2 b s) = if s.val = j.val then w (ix1 b) else q (ix2 b s) :=
  (congrFun (noted_eq k q w) _).trans (Cert.Far.Spec.noted_apply k q w b s j hk)

theorem ready_apply (n : BitVec 32) (w : IVec S16 32) (b : Fin 16) (h : (w (ix1 b)).toNat < 2048) :
    ready (F := Ideal) n w (ix1 b) = w (ix1 b) :=
  (congrFun (ready_eq n w) _).trans (Cert.Far.Spec.ready_apply n w b h)

theorem bestPlace_apply (x : FVec Ideal S16x2048 .f32) (b : Fin 16) :
    bestPlace (F := Ideal) x (iotaInDim S16x2048 32 1) (constant (F := Ideal) S_ .f32 0xFF800000#32) (constantI S_ 32 0#32) (ix1 b)
      = BitVec.ofNat 32 (Cert.Far.first fun n => x (ix2 b n)).val :=
  (congrFun (bestPlace_eq _ _ _ _) _).trans (Cert.Far.Spec.bestPlace_apply x b)

/-! ## The trips -/

variable (m : (ℓ : Loc nD τ sig) → Buf (Elt Ideal) ℓ) (c : Dev nD)

/-- The sampling of a batch of the launched arguments. -/
abbrev st (b : Fin 16) : ℕ → (Fin 2048 → EReal) × Fin 2048 :=
  Cert.Far.state (fun n => m ((c : Thread nD τ).loc main_arg0) (ix3 b n (0 : Fin 3))) (fun n => m ((c : Thread nD τ).loc main_arg0) (ix3 b n (1 : Fin 3)))
    (fun n => m ((c : Thread nD τ).loc main_arg0) (ix3 b n (2 : Fin 3))) (row (m ((c : Thread nD τ).loc main_arg2) (ix1 b)))

/-- The batch numbers, before every trip. -/
theorem before_batch : ∀ k, before m k c (Proc.devRef .tc main_v3_0) = (iotaInDim S16 32 0 : T Ideal S16 .i32)
  | 0 => by
    rw [before_zero]
    after_results_simp <;> rfl
  | k + 1 => by
    rw [before_succ, trip_keep _ _ (by decide) (by decide) (by decide) (by decide) (by decide), before_batch k]

/-- The points, before every trip. -/
theorem before_points : ∀ k, before m k c (Proc.devRef .tc main_v3_1) = (m ((c : Thread nD τ).loc main_arg0) : T Ideal S16x2048x3 .f32)
  | 0 => by
    rw [before_zero]
    after_results_simp <;> rfl
  | k + 1 => by
    rw [before_succ, trip_keep _ _ (by decide) (by decide) (by decide) (by decide) (by decide), before_points k]

/-- The loop's counter, before every trip. -/
theorem before_next : ∀ k, before m k c (Proc.devRef .tc main_v3_3) = (fun _ => BitVec.ofNat 32 k : T Ideal S_ .i32)
  | 0 => by
    rw [before_zero]
    after_results_simp <;> rfl
  | k + 1 => by
    rw [before_succ, trip_next, before_next k]
    funext i
    show BitVec.ofNat 32 k + 1#32 = _
    rw [BitVec.ofNat_add]

/-- The index words stay below the number of points. -/
def InRange : Prop := ∀ i, ((m ((c : Thread nD τ).loc main_arg2) i : BitVec 32)).toNat < 2048

/-- The distances kept and the points chosen, before every trip. -/
theorem before_state (h : InRange m c) (b : Fin 16) : ∀ k,
    (∀ n, (before m k c (Proc.devRef .tc main_v3_5) : T Ideal S16x2048 .f32) (ix2 b n) = (st m c b k).1 n)
      ∧ (before m k c (Proc.devRef .tc main_v3_6) : T Ideal S16 .i32) (ix1 b) = BitVec.ofNat 32 (st m c b k).2.val
  | 0 => by
    rw [before_zero]
    constructor
    · intro n
      have e : (after entryOps (entryContents [] m c) (Proc.devRef .tc main_v3_5) : T Ideal S16x2048 .f32)
          = broadcastInDim S16x2048 ![] bcast_S_S16x2048 (constant (F := Ideal) S_ .f32 0x501502F9#32) := by
        after_results_simp <;> rfl
      rw [e]
      rfl
    · have e : (after entryOps (entryContents [] m c) (Proc.devRef .tc main_v3_6) : T Ideal S16 .i32)
          = m ((c : Thread nD τ).loc main_arg2) := by
        after_results_simp <;> rfl
      rw [e]
      show _ = BitVec.ofNat 32 (row (m ((c : Thread nD τ).loc main_arg2) (ix1 b))).val
      rw [row_val _ (h _)]
      simp
  | k + 1 => by
    obtain ⟨h1, h2⟩ := before_state h b k
    have hn : ∀ n, nearer (F := Ideal) (before m k c (Proc.devRef .tc main_v3_1)) (ready 16#32 (before m k c (Proc.devRef .tc main_v3_0)))
        (ready 2048#32 (before m k c (Proc.devRef .tc main_v3_6))) (before m k c (Proc.devRef .tc main_v3_5)) (ix2 b n)
          = (st m c b (k + 1)).1 n := by
      intro n
      rw [before_points, before_batch]
      have hp := (st m c b k).2.isLt
      have hb := b.isLt
      rw [nearer_apply _ _ _ _ b n (st m c b k).2 (ready_apply _ _ b (by
          show (BitVec.ofNat 32 b.val).toNat < 2048
          rw [BitVec.toNat_ofNat]; omega))
        ((ready_apply _ _ b (by rw [h2, BitVec.toNat_ofNat]; omega)).trans h2), h1]
      rfl
    constructor
    · intro n
      rw [before_succ, trip_nearer]
      exact hn n
    · rw [before_succ, trip_place]
      refine (bestPlace_apply _ b).trans ?_
      rw [funext hn]
      rfl

/-- The points noted before a trip. -/
theorem before_noted (h : InRange m c) (b : Fin 16) (s : Fin 512) : ∀ k ≤ 512, s.val < k →
    (before m k c (Proc.devRef .tc main_v3_4) : T Ideal S16x512 .i32) (ix2 b s) = BitVec.ofNat 32 (st m c b s.val).2.val
  | 0, _, hs => absurd hs (Nat.not_lt_zero _)
  | k + 1, hk, hs => by
    rw [before_succ, trip_noted]
    refine (noted_apply _ _ _ b s ⟨k, hk⟩ (fun i => congrFun (before_next m c k) i)).trans ?_
    by_cases e : s.val = k
    · rw [if_pos e, e]
      exact (before_state m c h b k).2
    · rw [if_neg e]
      exact before_noted h b s k (by omega) (by omega)

/-- The array of chosen points after the run. -/
theorem final (h : InRange m c) : (before m 512 c (Proc.devRef .tc main_v3_4) : T Ideal S16x512 .i32)
    = Cert.Far.chosen (m ((c : Thread nD τ).loc main_arg0)) (m ((c : Thread nD τ).loc main_arg2)) := by
  funext j
  obtain ⟨j0, j1, rfl⟩ : ∃ (j0 : Fin 16) (j1 : Fin 512), j = ix2 j0 j1 := ⟨j 0, j 1, eq_ix2 j⟩
  exact before_noted m c h j0 j1 512 le_rfl j1.isLt

/-! ## After the loop -/

section tail
variable (x : FVec Ideal S16x2048x3 .f32) (p : FVec Ideal S16x2048x256 .f32) (f : IVec S16x512 32)

theorem centreWords_batch (b : Fin 16) (s : Fin 512) : (centreWords (F := Ideal) f (ix3 b s (0 : Fin 2))).toInt.toNat = b.val := by
  pointwise [centreWords, pair3]
  exact Cert.Proof.BallSpec.batch_word _ _

theorem centreWords_row (h : ∀ i, (f i).toNat < 2048) (b : Fin 16) (s : Fin 512) :
    (centreWords (F := Ideal) f (ix3 b s (1 : Fin 2))).toInt.toNat = (row (f (ix2 b s))).val := by
  pointwise [centreWords, pair3]
  exact Cert.Proof.BallSpec.row_word _ _ (h _)

theorem nearWords_batch (g : IVec S16x512x32 32) (b : Fin 16) (s : Fin 512) (k : Fin 32) :
    (nearWords (F := Ideal) g (ix4 b s k (0 : Fin 2))).toInt.toNat = b.val := by
  pointwise [nearWords, pair4]
  exact Cert.Proof.BallSpec.batch_word _ _

theorem nearWords_row (g : IVec S16x512x32 32) (h : ∀ i, (g i).toNat < 2048) (b : Fin 16) (s : Fin 512) (k : Fin 32) :
    (nearWords (F := Ideal) g (ix4 b s k (1 : Fin 2))).toInt.toNat = (row (g (ix3 b s k))).val := by
  pointwise [nearWords, pair4]
  exact Cert.Proof.BallSpec.row_word _ _ (h _)

/-- The centres' coordinates. -/
theorem centreXyz_eq (h : ∀ i, (f i).toNat < 2048) : centreXyz (F := Ideal) x f = Cert.Proof.Ball.centres x (col f) := by
  funext j
  obtain ⟨j0, j1, j2, rfl⟩ : ∃ (j0 : Fin 16) (j1 : Fin 512) (j2 : Fin 3), j = ix3 j0 j1 j2 := ⟨j 0, j 1, j 2, eq_ix3 j⟩
  exact gather3_apply _ _ _ _ _ _ j0 _ (centreWords_batch f _ _) (centreWords_row f h _ _)

/-- The neighbours' words. -/
theorem nearOf_eq (h : ∀ i, (f i).toNat < 2048) : nearOf (F := Ideal) x f = Cert.Proof.Ball.neighbours x (col f) := by
  unfold nearOf
  rw [centreXyz_eq x f h]
  funext j
  obtain ⟨j0, j1, j2, rfl⟩ : ∃ (j0 : Fin 16) (j1 : Fin 512) (j2 : Fin 32), j = ix3 j0 j1 j2 := ⟨j 0, j 1, j 2, eq_ix3 j⟩
  refine Cert.Proof.BallSpec.sorted_apply _ (Cert.Proof.Ball.outside x (col f) j0 j1) j0 j1 j2 fun n => ?_
  pointwise [keptWords, mask, lanes]
  simp only [Fin.sum_univ_three]
  split
  · rename_i hlt
    have e : Cert.Proof.Ball.outside x (col f) j0 j1 n = 1#1 :=
      Cert.Proof.Ball.struck_pos (c := fun k => Cert.Proof.Ball.centres x (col f) (ix3 j0 j1 k)) (p := fun k => x (ix3 j0 n k)) hlt
    unfold Cert.Proof.Scan.kept
    rw [e]
    rfl
  · rename_i hlt
    have e : Cert.Proof.Ball.outside x (col f) j0 j1 n = 0#1 :=
      Cert.Proof.Ball.struck_neg (c := fun k => Cert.Proof.Ball.centres x (col f) (ix3 j0 j1 k)) (p := fun k => x (ix3 j0 n k)) hlt
    unfold Cert.Proof.Scan.kept
    rw [e]
    rfl

theorem nearFeat_apply (g : IVec S16x512x32 32) (hg : ∀ i, (g i).toNat < 2048) (b : Fin 16) (s : Fin 512) (k : Fin 32) (ch : Fin 256) :
    nearFeat (F := Ideal) p g (ix4 b s k ch) = p (ix3 b (row (g (ix3 b s k))) ch) :=
  gather4_apply _ _ _ _ _ _ _ b _ (nearWords_batch g _ _ _) (nearWords_row g hg _ _ _)

theorem nearXyz_apply (g : IVec S16x512x32 32) (hg : ∀ i, (g i).toNat < 2048) (b : Fin 16) (s : Fin 512) (k : Fin 32) (ch : Fin 3) :
    nearXyz (F := Ideal) x g (ix4 b s k ch) = x (ix3 b (row (g (ix3 b s k))) ch) :=
  gather4_apply _ _ _ _ _ _ _ b _ (nearWords_batch g _ _ _) (nearWords_row g hg _ _ _)

theorem centreFeat_apply (h : ∀ i, (f i).toNat < 2048) (b : Fin 16) (s : Fin 512) (ch : Fin 256) :
    centreFeat (F := Ideal) p f (ix3 b s ch) = p (ix3 b (row (f (ix2 b s))) ch) :=
  gather3_apply _ _ _ _ _ _ b _ (centreWords_batch f _ _) (centreWords_row f h _ _)

/-- The grouped features. -/
theorem put_eq (g : IVec S16x512x32 32) (h : ∀ i, (f i).toNat < 2048) (hg : ∀ i, (g i).toNat < 2048) :
    put (F := Ideal) (nearFeat (F := Ideal) p g) (nearXyz (F := Ideal) x g) (centreFeat (F := Ideal) p f) = picked p x (flat g) (col f) := by
  have hA := nearFeat_apply p g hg
  have hB := nearXyz_apply x g hg
  have hC := centreFeat_apply p f h
  generalize nearFeat (F := Ideal) p g = A at hA ⊢
  generalize nearXyz (F := Ideal) x g = B at hB ⊢
  generalize centreFeat (F := Ideal) p f = C at hC ⊢
  funext j
  obtain ⟨j0, j1, j2, rfl⟩ : ∃ (j0 : Fin 16) (j1 : Fin 16384) (j2 : Fin 515), j = ix3 j0 j1 j2 := ⟨j 0, j 1, j 2, eq_ix3 j⟩
  pointwise [put, beside2, beside]
  have hj1 := j1.isLt
  split
  · split
    · rename_i ha
      rw [hA]
      exact (picked_feature p x (flat g) (col f) j0 j1 j2 ha).symm
    · rename_i ha hb
      rw [hB]
      exact (picked_coord p x (flat g) (col f) j0 j1 j2 hb (by omega)).symm
  · rename_i ha
    rw [hC]
    exact (picked_centre p x (flat g) (col f) j0 j1 j2 (by omega) (by omega) (⟨j1.val / 32, by omega⟩ : Fin 512) rfl).symm

end tail

/-! ## The results -/

theorem chosen_lt (x : FVec Ideal S16x2048x3 .f32) (f : IVec S16 32) (i) : (Cert.Far.chosen x f i).toNat < 2048 := by
  unfold Cert.Far.chosen
  rw [BitVec.toNat_ofNat]
  exact lt_of_le_of_lt (Nat.mod_le _ _) (Fin.isLt _)

/-- The first result. -/
theorem result_xyz (x : FVec Ideal S16x2048x3 .f32) (f : IVec S16 32) :
    centreXyz (F := Ideal) x (Cert.Far.chosen x f) = newXyz x f :=
  centreXyz_eq x _ (chosen_lt x f)

/-- The second result. -/
theorem result_points (x : FVec Ideal S16x2048x3 .f32) (p : FVec Ideal S16x2048x256 .f32) (f : IVec S16 32) :
    put (F := Ideal) (nearFeat (F := Ideal) p (nearOf (F := Ideal) x (Cert.Far.chosen x f)))
      (nearXyz (F := Ideal) x (nearOf (F := Ideal) x (Cert.Far.chosen x f))) (centreFeat (F := Ideal) p (Cert.Far.chosen x f)) = newPoints x p f := by
  rw [nearOf_eq x _ (chosen_lt x f)]
  exact put_eq x p _ _ (chosen_lt x f) (neighbours_lt _ _)

end Cert.Whole.RefSpec
end
-- ==== Proof.WholeClaims.lean ====
module

public import proofs.«01_k».proof.Defs
public import proofs.«01_k».proof.Proof.Gen.Whole
public import proofs.«01_k».proof.Proof.Gen.Whole.Frame
public import proofs.«01_k».proof.Proof.Gen.Pre_first_in_range
public import proofs.«01_k».proof.Proof.WholeRun
public import proofs.«01_k».proof.Proof.WholeRefSpec

@[expose] public section

/-! The claims about the whole program. -/

noncomputable section

namespace Cert.Proof.All

open Idealize.ShloMosaic Idealize.ShloMosaic.TcCoe Idealize.SL.Sem
open Cert.Proof.OneHot

theorem frame_kernel : Cert.quiescent_Whole := fun m g _ => Cert.Whole.Gen.frame m g

theorem frame_ideal : Cert.quiescent_WholeIdeal := fun m g _ => Cert.WholeIdeal.Gen.frame m g

theorem frame_ideal_pre : Cert.quiescent_WholeIdeal_pre_first_in_range := fun m g _ => Cert.WholeIdeal.Gen.frame m g

theorem frame_ref : Cert.quiescent_WholeReferenceIdeal := fun m g _ =>
  (θ_run Cert.WholeReferenceIdeal.defs _ _).mono
    (fun r h => ⟨fun c => (h c).2.2, sem_eq_zero_of_no_sems (by decide) r.2⟩) (Cert.Whole.Ref.run_results (F := Ideal) m g)

theorem frame_ref_pre : Cert.quiescent_WholeReferenceIdeal_pre_first_in_range := fun m g _ => frame_ref m g trivial

/-- The precondition says the first points' words stay below the number of points. -/
theorem inRange (m : (ℓ : Loc Cert.WholeIdeal.nD Cert.WholeIdeal.τ Cert.WholeIdeal.sig) → Buf (Elt Ideal) ℓ)
    (h : Cert.Pre_WholeIdeal_first_in_range m) (c : Dev Cert.WholeIdeal.nD) : ∀ i, (Cert.Whole.Run.S m c i).toNat < 2048 :=
  fun i => lt_of_test _ (congrFun (h c) i)

theorem value : Cert.algebraic_WholeIdeal_WholeReferenceIdeal_pre_first_in_range := by
  intro m g m' g' hpre hagree
  refine ⟨fun c => Cert.Whole.newXyz (Cert.Whole.Run.X m c) (Cert.Whole.Run.S m c),
    fun c => Cert.Whole.newPoints (Cert.Whole.Run.X m c) (Cert.Whole.Run.P m c) (Cert.Whole.Run.S m c), ?_, ?_⟩
  · exact (θ_run Cert.WholeIdeal.defs _ _).mono
      (fun r h c => ⟨(h c).1.trans (Cert.Whole.Run.W6_xyz m g c (inRange m hpre c)),
        (h c).2.1.trans (Cert.Whole.Run.W6_points m g c (inRange m hpre c)), (h c).2.2⟩)
      (Cert.Whole.Run.run_results m g)
  · refine (θ_run Cert.WholeReferenceIdeal.defs _ _).mono
      (fun r h c => ?_)
      (Cert.Whole.Ref.run_results m' g')
    obtain ⟨a0, a1, a2⟩ := hagree c
    have hf := Cert.Whole.RefSpec.final m' c (by unfold Cert.Whole.RefSpec.InRange; rw [a2]; exact inRange m hpre c)
    obtain ⟨h0, h1, h2⟩ := h c
    refine ⟨h0.trans ?_, h1.trans ?_, h2⟩
    · rw [hf, a0, a2]
      exact Cert.Whole.RefSpec.result_xyz _ _
    · rw [hf, a0, a1, a2]
      exact Cert.Whole.RefSpec.result_points _ _ _

end Cert.Proof.All
end
-- ==== Proof.lean ====
module

public import proofs.«01_k».proof.Defs
public import proofs.«01_k».proof.Proof.GatherClaims
public import proofs.«01_k».proof.Proof.BallClaims
public import proofs.«01_k».proof.Proof.FarClaims
public import proofs.«01_k».proof.Proof.WholeClaims

@[expose] public section

noncomputable section

namespace Cert.Proof

theorem claim : Cert.Claim :=
  ⟨Cert.Whole.Gen.facts, Cert.WholeIdeal.Gen.facts, Cert.WholeReferenceIdeal.Gen.facts,
    Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Pre_first_in_range.Gen.facts, Cert.Pre_in_range.Gen.facts, Cert.Pre_centres_in_range.Gen.facts, Cert.Pre_start_in_range.Gen.facts,
    All.frame_kernel, All.frame_ideal, All.frame_ideal_pre, All.frame_ref, All.frame_ref_pre,
    Gather.frame_kernel, Gather.frame_ideal, Gather.frame_ideal_pre, Gather.frame_ref, Gather.frame_ref_pre,
    BallQuery.frame_kernel, BallQuery.frame_ideal, BallQuery.frame_ideal_pre, BallQuery.frame_ref, BallQuery.frame_ref_pre,
    Sampling.frame_kernel, Sampling.frame_ideal, Sampling.frame_ideal_pre, Sampling.frame_ref, Sampling.frame_ref_pre,
    trivial, All.value, trivial, Gather.value, trivial, BallQuery.value, trivial, Sampling.value⟩

end Cert.Proof

end
